-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v7)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v7) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v19) = v0 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v2) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v55_0)) (v1 : (c : Dev Cert.ProjectIdeal.nD) → Buf (Elt Ideal) ((c.tc : Thread Cert.ProjectIdeal.nD Cert.ProjectIdeal.τ).loc Cert.ProjectIdeal.main_v55_1)) (v2 : (c : Dev Cert.ProjectIdeal.nD) → Buf (Elt Ideal) ((c.tc : Thread Cert.ProjectIdeal.nD Cert.ProjectIdeal.τ).loc Cert.ProjectIdeal.main_v55_2)) (v3 : (c : Dev Cert.ProjectIdeal.nD) → Buf (Elt Ideal) ((c.tc : Thread Cert.ProjectIdeal.nD Cert.ProjectIdeal.τ).loc Cert.ProjectIdeal.main_v55_3)) (v4 : (c : Dev Cert.ProjectIdeal.nD) → Buf (Elt Ideal) ((c.tc : Thread Cert.ProjectIdeal.nD Cert.ProjectIdeal.τ).loc Cert.ProjectIdeal.main_v55_4)) (v5 : (c : Dev Cert.ProjectIdeal.nD) → Buf (Elt Ideal) ((c.tc : Thread Cert.ProjectIdeal.nD Cert.ProjectIdeal.τ).loc Cert.ProjectIdeal.main_v55_5)) (v6 : (c : Dev Cert.ProjectIdeal.nD) → Buf (Elt Ideal) ((c.tc : Thread Cert.ProjectIdeal.nD Cert.ProjectIdeal.τ).loc Cert.ProjectIdeal.main_v55_6)) (v7 : (c : Dev Cert.ProjectIdeal.nD) → Buf (Elt Ideal) ((c.tc : Thread Cert.ProjectIdeal.nD Cert.ProjectIdeal.τ).loc Cert.ProjectIdeal.main_v55_7)) (v8 : (c : Dev Cert.ProjectIdeal.nD) → Buf (Elt Ideal) ((c.tc : Thread Cert.ProjectIdeal.nD Cert.ProjectIdeal.τ).loc Cert.ProjectIdeal.main_v55_8)) (v9 : (c : Dev Cert.ProjectIdeal.nD) → Buf (Elt Ideal) ((c.tc : Thread Cert.ProjectIdeal.nD Cert.ProjectIdeal.τ).loc Cert.ProjectIdeal.main_v55_9)) (v10 : (c : Dev Cert.ProjectIdeal.nD) → Buf (Elt Ideal) ((c.tc : Thread Cert.ProjectIdeal.nD Cert.ProjectIdeal.τ).loc Cert.ProjectIdeal.main_v55_10)) (v11 : (c : Dev Cert.ProjectIdeal.nD) → Buf (Elt Ideal) ((c.tc : Thread Cert.ProjectIdeal.nD Cert.ProjectIdeal.τ).loc Cert.ProjectIdeal.main_v55_11)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v55_0) = v0 c
          ∧ r.2.mem ((c.tc : Thread Cert.ProjectIdeal.nD Cert.ProjectIdeal.τ).loc Cert.ProjectIdeal.main_v55_1) = v1 c
          ∧ r.2.mem ((c.tc : Thread Cert.ProjectIdeal.nD Cert.ProjectIdeal.τ).loc Cert.ProjectIdeal.main_v55_2) = v2 c
          ∧ r.2.mem ((c.tc : Thread Cert.ProjectIdeal.nD Cert.ProjectIdeal.τ).loc Cert.ProjectIdeal.main_v55_3) = v3 c
          ∧ r.2.mem ((c.tc : Thread Cert.ProjectIdeal.nD Cert.ProjectIdeal.τ).loc Cert.ProjectIdeal.main_v55_4) = v4 c
          ∧ r.2.mem ((c.tc : Thread Cert.ProjectIdeal.nD Cert.ProjectIdeal.τ).loc Cert.ProjectIdeal.main_v55_5) = v5 c
          ∧ r.2.mem ((c.tc : Thread Cert.ProjectIdeal.nD Cert.ProjectIdeal.τ).loc Cert.ProjectIdeal.main_v55_6) = v6 c
          ∧ r.2.mem ((c.tc : Thread Cert.ProjectIdeal.nD Cert.ProjectIdeal.τ).loc Cert.ProjectIdeal.main_v55_7) = v7 c
          ∧ r.2.mem ((c.tc : Thread Cert.ProjectIdeal.nD Cert.ProjectIdeal.τ).loc Cert.ProjectIdeal.main_v55_8) = v8 c
          ∧ r.2.mem ((c.tc : Thread Cert.ProjectIdeal.nD Cert.ProjectIdeal.τ).loc Cert.ProjectIdeal.main_v55_9) = v9 c
          ∧ r.2.mem ((c.tc : Thread Cert.ProjectIdeal.nD Cert.ProjectIdeal.τ).loc Cert.ProjectIdeal.main_v55_10) = v10 c
          ∧ r.2.mem ((c.tc : Thread Cert.ProjectIdeal.nD Cert.ProjectIdeal.τ).loc Cert.ProjectIdeal.main_v55_11) = v11 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v97) = v0 c
          ∧ r.2.mem ((c.tc : Thread Cert.ProjectReferenceIdeal.nD Cert.ProjectReferenceIdeal.τ).loc Cert.ProjectReferenceIdeal.main_v114) = v1 c
          ∧ r.2.mem ((c.tc : Thread Cert.ProjectReferenceIdeal.nD Cert.ProjectReferenceIdeal.τ).loc Cert.ProjectReferenceIdeal.main_v117) = v2 c
          ∧ r.2.mem ((c.tc : Thread Cert.ProjectReferenceIdeal.nD Cert.ProjectReferenceIdeal.τ).loc Cert.ProjectReferenceIdeal.main_v134) = v3 c
          ∧ r.2.mem ((c.tc : Thread Cert.ProjectReferenceIdeal.nD Cert.ProjectReferenceIdeal.τ).loc Cert.ProjectReferenceIdeal.main_v138) = v4 c
          ∧ r.2.mem ((c.tc : Thread Cert.ProjectReferenceIdeal.nD Cert.ProjectReferenceIdeal.τ).loc Cert.ProjectReferenceIdeal.main_v155) = v5 c
          ∧ r.2.mem ((c.tc : Thread Cert.ProjectReferenceIdeal.nD Cert.ProjectReferenceIdeal.τ).loc Cert.ProjectReferenceIdeal.main_v37) = v6 c
          ∧ r.2.mem ((c.tc : Thread Cert.ProjectReferenceIdeal.nD Cert.ProjectReferenceIdeal.τ).loc Cert.ProjectReferenceIdeal.main_v38) = v7 c
          ∧ r.2.mem ((c.tc : Thread Cert.ProjectReferenceIdeal.nD Cert.ProjectReferenceIdeal.τ).loc Cert.ProjectReferenceIdeal.main_v160) = v8 c
          ∧ r.2.mem ((c.tc : Thread Cert.ProjectReferenceIdeal.nD Cert.ProjectReferenceIdeal.τ).loc Cert.ProjectReferenceIdeal.main_v165) = v9 c
          ∧ r.2.mem ((c.tc : Thread Cert.ProjectReferenceIdeal.nD Cert.ProjectReferenceIdeal.τ).loc Cert.ProjectReferenceIdeal.main_v169) = v10 c
          ∧ r.2.mem ((c.tc : Thread Cert.ProjectReferenceIdeal.nD Cert.ProjectReferenceIdeal.τ).loc Cert.ProjectReferenceIdeal.main_v93) = v11 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFirst : Cert.FfnFirst.Facts) (hFfnFirstIdeal : Cert.FfnFirstIdeal.Facts) (hFfnFirstReferenceIdeal : Cert.FfnFirstReferenceIdeal.Facts) (hMix : Cert.Mix.Facts) (hMixIdeal : Cert.MixIdeal.Facts) (hMixReferenceIdeal : Cert.MixReferenceIdeal.Facts) (hProject : Cert.Project.Facts) (hProjectIdeal : Cert.ProjectIdeal.Facts) (hProjectReferenceIdeal : Cert.ProjectReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_Mix (hMix := hMix)
    ∧ quiescent_MixIdeal (hMixIdeal := hMixIdeal)
    ∧ quiescent_MixReferenceIdeal (hMixReferenceIdeal := hMixReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_Mix_MixIdeal
    ∧ algebraic_MixIdeal_MixReferenceIdeal (hMixIdeal := hMixIdeal) (hMixReferenceIdeal := hMixReferenceIdeal)
    ∧ preserves_Project_ProjectIdeal
    ∧ algebraic_ProjectIdeal_ProjectReferenceIdeal (hProjectIdeal := hProjectIdeal) (hProjectReferenceIdeal := hProjectReferenceIdeal)
-- ==== Kernel.lean ====
abbrev S16x4096x8x64 : Shape := ⟨4, ![16, 4096, 8, 64]⟩
abbrev S16x4096x2x64 : Shape := ⟨4, ![16, 4096, 2, 64]⟩
abbrev S8 : Shape := ⟨1, ![8]⟩
abbrev S_ : Shape := ⟨0, ![]⟩
abbrev S16x1x4096x512 : Shape := ⟨4, ![16, 1, 4096, 512]⟩
abbrev S128 : Shape := ⟨1, ![128]⟩
abbrev S1x128 : Shape := ⟨2, ![1, 128]⟩
abbrev S16x4096x2x128 : Shape := ⟨4, ![16, 4096, 2, 128]⟩
abbrev S16x1x4096x256 : Shape := ⟨4, ![16, 1, 4096, 256]⟩
abbrev S1x1x512x512 : Shape := ⟨4, ![1, 1, 512, 512]⟩
abbrev S1x1x128x256 : Shape := ⟨4, ![1, 1, 128, 256]⟩
abbrev S1x1x512x256 : Shape := ⟨4, ![1, 1, 512, 256]⟩
abbrev S128x128 : Shape := ⟨2, ![128, 128]⟩
abbrev S128x256 : Shape := ⟨2, ![128, 256]⟩
abbrev S256x256 : Shape := ⟨2, ![256, 256]⟩
abbrev S1x1x128x128 : Shape := ⟨4, ![1, 1, 128, 128]⟩
abbrev S1x1x512x128 : Shape := ⟨4, ![1, 1, 512, 128]⟩
abbrev S512x128 : Shape := ⟨2, ![512, 128]⟩
abbrev S640x128 : Shape := ⟨2, ![640, 128]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩
abbrev S1x1 : Shape := ⟨2, ![1, 1]⟩
abbrev S128x1 : Shape := ⟨2, ![128, 1]⟩
abbrev S256x1 : Shape := ⟨2, ![256, 1]⟩

abbrev nBuf : Space → Nat
  | .hbm => 20
  | .vmem => 13
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S8, .f32⟩
  | .hbm, ⟨4, _⟩ => ⟨S_, .f32⟩
  | .hbm, ⟨5, _⟩ => ⟨S16x4096x8x64, .f32⟩
  | .hbm, ⟨6, _⟩ => ⟨S16x4096x8x64, .f32⟩
  | .hbm, ⟨7, _⟩ => ⟨S16x4096x8x64, .bf16⟩
  | .hbm, ⟨8, _⟩ => ⟨S16x1x4096x512, .bf16⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16x4096x2x128, .f32⟩
  | .hbm, ⟨14, _⟩ => ⟨S16x4096x2x128, .bf16⟩
  | .hbm, ⟨15, _⟩ => ⟨S16x1x4096x256, .bf16⟩
  | .hbm, ⟨16, _⟩ => ⟨S16x4096x2x128, .f32⟩
  | .hbm, ⟨17, _⟩ => ⟨S16x4096x2x128, .bf16⟩
  | .hbm, ⟨18, _⟩ => ⟨S16x1x4096x256, .bf16⟩
  | .hbm, ⟨19, _⟩ => ⟨S16x1x4096x512, .bf16⟩
  | .local _ .vmem, ⟨0, _⟩ => ⟨S1x1x512x512, .bf16⟩
  | .local _ .vmem, ⟨1, _⟩ => ⟨S1x1x512x512, .bf16⟩
  | .local _ .vmem, ⟨2, _⟩ => ⟨S1x1x128x256, .bf16⟩
  | .local _ .vmem, ⟨3, _⟩ => ⟨S1x1x128x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S1x1x128x256, .bf16⟩
  | .local _ .vmem, ⟨7, _⟩ => ⟨S1x1x128x256, .bf16⟩
  | .local _ .vmem, ⟨8, _⟩ => ⟨S1x1x512x256, .bf16⟩
  | .local _ .vmem, ⟨9, _⟩ => ⟨S1x1x512x256, .bf16⟩
  | .local _ .vmem, ⟨10, _⟩ => ⟨S1x128, .f32⟩
  | .local _ .vmem, ⟨11, _⟩ => ⟨S1x1x512x512, .bf16⟩
  | .local _ .vmem, ⟨12, _⟩ => ⟨S1x1x512x512, .bf16⟩
  | _, _ => ⟨S16x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![16, 1, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, arg1.toNat, v2.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16x4096x8x64 : Shape := ⟨4, ![16, 4096, 8, 64]⟩
abbrev S16x4096x2x64 : Shape := ⟨4, ![16, 4096, 2, 64]⟩
abbrev S8 : Shape := ⟨1, ![8]⟩
abbrev S16x4096x2x4x64 : Shape := ⟨5, ![16, 4096, 2, 4, 64]⟩
abbrev S16x2x4x4096x64 : Shape := ⟨5, ![16, 2, 4, 4096, 64]⟩
abbrev S2x4x1x1 : Shape := ⟨4, ![2, 4, 1, 1]⟩
abbrev S16x2x4096x64 : Shape := ⟨4, ![16, 2, 4096, 64]⟩
abbrev S16x2x4x32x128x64 : Shape := ⟨6, ![16, 2, 4, 32, 128, 64]⟩
abbrev S16x2x32x128x64 : Shape := ⟨5, ![16, 2, 32, 128, 64]⟩
abbrev S_ : Shape := ⟨0, ![]⟩
abbrev S16x2x33x128x64 : Shape := ⟨5, ![16, 2, 33, 128, 64]⟩
abbrev S16x2x32x256x64 : Shape := ⟨5, ![16, 2, 32, 256, 64]⟩
abbrev S16x2x32x256x4x128 : Shape := ⟨6, ![16, 2, 32, 256, 4, 128]⟩
abbrev S16x2x4x32x128x256 : Shape := ⟨6, ![16, 2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S16x2x4x32x128 : Shape := ⟨5, ![16, 2, 4, 32, 128]⟩
abbrev S1x2x4x1x1 : Shape := ⟨5, ![1, 2, 4, 1, 1]⟩
abbrev S16x2x4x32x128x1 : Shape := ⟨6, ![16, 2, 4, 32, 128, 1]⟩
abbrev S16x2x32x64x4x128 : Shape := ⟨6, ![16, 2, 32, 64, 4, 128]⟩
abbrev S16x2x4x4096 : Shape := ⟨4, ![16, 2, 4, 4096]⟩
abbrev S16x1x4096x512 : Shape := ⟨4, ![16, 1, 4096, 512]⟩

abbrev nBuf : Space → Nat
  | .hbm => 93
  | .vmem => 0
  | .smem => 0
  | _ => 0

abbrev bufTy : (tb : Table) → Fin (tcTables nBuf tb) → BufTy
  | .hbm, ⟨0, _⟩ => ⟨S16x4096x8x64, .f32⟩
  | .hbm, ⟨1, _⟩ => ⟨S16x4096x2x64, .f32⟩
  | .hbm, ⟨2, _⟩ => ⟨S16x4096x2x64, .f32⟩
  | .hbm, ⟨3, _⟩ => ⟨S8, .f32⟩
  | .hbm, ⟨4, _⟩ => ⟨S16x4096x2x4x64, .f32⟩
  | .hbm, ⟨5, _⟩ => ⟨S16x2x4x4096x64, .f32⟩
  | .hbm, ⟨6, _⟩ => ⟨S2x4x1x1, .f32⟩
  | .hbm, ⟨7, _⟩ => ⟨S16x2x4096x64, .f32⟩
  | .hbm, ⟨8, _⟩ => ⟨S16x2x4096x64, .f32⟩
  | .hbm, ⟨9, _⟩ => ⟨S16x2x4x32x128x64, .f32⟩
  | .hbm, ⟨10, _⟩ => ⟨S16x2x32x128x64, .f32⟩
  | .hbm, ⟨11, _⟩ => ⟨S16x2x32x128x64, .f32⟩
  | .hbm, ⟨12, _⟩ => ⟨S_, .i32⟩
  | .hbm, ⟨13, _⟩ => ⟨S_, .f32⟩
  | .hbm, ⟨14, _⟩ => ⟨S16x2x33x128x64, .f32⟩
  | .hbm, ⟨15, _⟩ => ⟨S16x2x32x128x64, .f32⟩
  | .hbm, ⟨16, _⟩ => ⟨S16x2x32x256x64, .f32⟩
  | .hbm, ⟨17, _⟩ => ⟨S_, .i32⟩
  | .hbm, ⟨18, _⟩ => ⟨S_, .f32⟩
  | .hbm, ⟨19, _⟩ => ⟨S16x2x33x128x64, .f32⟩
  | .hbm, ⟨20, _⟩ => ⟨S16x2x32x128x64, .f32⟩
  | .hbm, ⟨21, _⟩ => ⟨S16x2x32x256x64, .f32⟩
  | .hbm, ⟨22, _⟩ => ⟨S16x2x32x256x4x128, .f32⟩
  | .hbm, ⟨23, _⟩ => ⟨S16x2x4x32x128x256, .f32⟩
  | .hbm, ⟨24, _⟩ => ⟨S_, .f32⟩
  | .hbm, ⟨25, _⟩ => ⟨S16x2x4x32x128x256, .f32⟩
  | .hbm, ⟨26, _⟩ => ⟨S16x2x4x32x128x256, .f32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S128x256, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S128x256, .i1⟩
  | .hbm, ⟨44, _⟩ => ⟨S32, .i32⟩
  | .hbm, ⟨45, _⟩ => ⟨S32x1x1, .i32⟩
  | .hbm, ⟨46, _⟩ => ⟨S_, .i32⟩
  | .hbm, ⟨47, _⟩ => ⟨S32x1x1, .i32⟩
  | .hbm, ⟨48, _⟩ => ⟨S32x1x1, .i1⟩
  | .hbm, ⟨49, _⟩ => ⟨S1x1x256, .i32⟩
  | .hbm, ⟨50, _⟩ => ⟨S_, .i32⟩
  | .hbm, ⟨51, _⟩ => ⟨S1x1x256, .i32⟩
  | .hbm, ⟨52, _⟩ => ⟨S1x1x256, .i1⟩
  | .hbm, ⟨53, _⟩ => ⟨S32x1x256, .i1⟩
  | .hbm, ⟨54, _⟩ => ⟨S32x1x256, .i1⟩
  | .hbm, ⟨55, _⟩ => ⟨S32x1x256, .i1⟩
  | .hbm, ⟨56, _⟩ => ⟨S1x128x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S_, .f32⟩
  | .hbm, ⟨61, _⟩ => ⟨S_, .f32⟩
  | .hbm, ⟨62, _⟩ => ⟨S16x2x4x32x128x256, .i1⟩
  | .hbm, ⟨63, _⟩ => ⟨S16x2x4x32x128x256, .f32⟩
  | .hbm, ⟨64, _⟩ => ⟨S16x2x4x32x128x256, .f32⟩
  | .hbm, ⟨65, _⟩ => ⟨S_, .f32⟩
  | .hbm, ⟨66, _⟩ => ⟨S16x2x4x32x128, .f32⟩
  | .hbm, ⟨67, _⟩ => ⟨S1x2x4x1x1, .f32⟩
  | .hbm, ⟨68, _⟩ => ⟨S16x2x4x32x128, .f32⟩
  | .hbm, ⟨69, _⟩ => ⟨S16x2x4x32x128, .f32⟩
  | .hbm, ⟨70, _⟩ => ⟨S16x2x4x32x128x1, .f32⟩
  | .hbm, ⟨71, _⟩ => ⟨S16x2x4x32x128x256, .f32⟩
  | .hbm, ⟨72, _⟩ => ⟨S16x2x4x32x128x256, .f32⟩
  | .hbm, ⟨73, _⟩ => ⟨S16x2x4x32x128x256, .f32⟩
  | .hbm, ⟨74, _⟩ => ⟨S_, .f32⟩
  | .hbm, ⟨75, _⟩ => ⟨S16x2x4x32x128, .f32⟩
  | .hbm, ⟨76, _⟩ => ⟨S1x2x4x1x1, .f32⟩
  | .hbm, ⟨77, _⟩ => ⟨S16x2x4x32x128, .f32⟩
  | .hbm, ⟨78, _⟩ => ⟨S16x2x4x32x128, .f32⟩
  | .hbm, ⟨79, _⟩ => ⟨S16x2x4x32x128, .f32⟩
  | .hbm, ⟨80, _⟩ => ⟨S16x2x4x32x128, .f32⟩
  | .hbm, ⟨81, _⟩ => ⟨S16x2x32x64x4x128, .f32⟩
  | .hbm, ⟨82, _⟩ => ⟨S16x2x4x32x128x64, .f32⟩
  | .hbm, ⟨83, _⟩ => ⟨S16x2x4x32x128x1, .f32⟩
  | .hbm, ⟨84, _⟩ => ⟨S16x2x4x32x128x64, .f32⟩
  | .hbm, ⟨85, _⟩ => ⟨S16x2x4x32x128x64, .f32⟩
  | .hbm, ⟨86, _⟩ => ⟨S16x2x4x4096x64, .f32⟩
  | .hbm, ⟨87, _⟩ => ⟨S16x2x4x32x128, .f32⟩
  | .hbm, ⟨88, _⟩ => ⟨S16x2x4x32x128, .f32⟩
  | .hbm, ⟨89, _⟩ => ⟨S16x2x4x4096, .f32⟩
  | .hbm, ⟨90, _⟩ => ⟨S16x4096x2x4x64, .f32⟩
  | .hbm, ⟨91, _⟩ => ⟨S16x1x4096x512, .f32⟩
  | .hbm, ⟨92, _⟩ => ⟨S16x1x4096x512, .bf16⟩
  | _, _ => ⟨S16x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Ffn.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S2x1408x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c2_i32 : BitVec 32 := 2#32
  let v20 : BitVec 32 := Scalar.addi c0_i32 c2_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v38 : Index := Scalar.indexCast arg8
  let c0_18 : Index := 0#32
  let c0_19 : Index := 0#32
  ![v38.toNat, 0, 0]
def k0_off2 (k0_t1 : Fin k0_t1_loop.trips) : Fin 3 → Nat :=
  let c2_i32_21 : BitVec 32 := 2#32
  let c0_i32 : BitVec 32 := 0#32
  let c1_i32 : BitVec 32 := 1#32
  let arg8 : BitVec 32 := Scf.iv c0_i32 c1_i32 k0_t1
  let v42 : BitVec 32 := Scalar.addi c2_i32_21 arg8
  let v43 : Index := Scalar.indexCast v42
  let c0_22 : Index := 0#32
  let c0_23 : Index := 0#32
  ![v43.toNat, 0, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v52 : Index := Scalar.indexCast arg8
  let c0_27 : Index := 0#32
  let c0_28 : Index := 0#32
  ![v52.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== FfnFirst.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2816x1024, .bf16⟩
  | .hbm, ⟨9, _⟩ => ⟨S2x1408x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S2x1408x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c2_i32 : BitVec 32 := 2#32
  let v20 : BitVec 32 := Scalar.addi c0_i32 c2_i32
  let c1_i32 : BitVec 32 := 1#32
  ⟨c0_i32, v20, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v24 : Index := Scalar.indexCast arg8
  let c0_13 : Index := 0#32
  let c0_14 : Index := 0#32
  ![v24.toNat, 0, 0]
def k0_off2 (k0_t1 : Fin k0_t1_loop.trips) : Fin 3 → Nat :=
  let c2_i32_16 : BitVec 32 := 2#32
  let c0_i32 : BitVec 32 := 0#32
  let c1_i32 : BitVec 32 := 1#32
  let arg8 : BitVec 32 := Scf.iv c0_i32 c1_i32 k0_t1
  let v28 : BitVec 32 := Scalar.addi c2_i32_16 arg8
  let v29 : Index := Scalar.indexCast v28
  let c0_17 : Index := 0#32
  let c0_18 : Index := 0#32
  ![v29.toNat, 0, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v38 : Index := Scalar.indexCast arg8
  let c0_22 : Index := 0#32
  let c0_23 : Index := 0#32
  ![v38.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnFirstReferenceIdeal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 36
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Mix.lean ====
abbrev S65536x1024 : Shape := ⟨2, ![65536, 1024]⟩
abbrev S65536x512 : Shape := ⟨2, ![65536, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x1024, .f32⟩
  | .hbm, ⟨4, _⟩ => ⟨S65536x512, .bf16⟩
  | .hbm, ⟨5, _⟩ => ⟨S65536x512, .bf16⟩
  | .hbm, ⟨6, _⟩ => ⟨S1024x1024, .bf16⟩
  | .hbm, ⟨7, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixReferenceIdeal.lean ====
abbrev S65536x1024 : Shape := ⟨2, ![65536, 1024]⟩
abbrev S65536x512 : Shape := ⟨2, ![65536, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S1024x1024, .f32⟩
  | .hbm, ⟨4, _⟩ => ⟨S65536x1024, .f32⟩
  | .hbm, ⟨5, _⟩ => ⟨S65536x1024, .f32⟩
  | .hbm, ⟨6, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Project.lean ====
abbrev S16x4096x1024 : Shape := ⟨3, ![16, 4096, 1024]⟩
abbrev S1024 : Shape := ⟨1, ![1024]⟩
abbrev S1024x2072 : Shape := ⟨2, ![1024, 2072]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S64 : Shape := ⟨1, ![64]⟩
abbrev S1x64 : Shape := ⟨2, ![1, 64]⟩
abbrev S128 : Shape := ⟨1, ![128]⟩
abbrev S1x128 : Shape := ⟨2, ![1, 128]⟩
abbrev S4096x128 : Shape := ⟨2, ![4096, 128]⟩
abbrev S4096x512 : Shape := ⟨2, ![4096, 512]⟩
abbrev S1024x24 : Shape := ⟨2, ![1024, 24]⟩
abbrev S1024x128 : Shape := ⟨2, ![1024, 128]⟩
abbrev S1024x512 : Shape := ⟨2, ![1024, 512]⟩
abbrev S1024x2176 : Shape := ⟨2, ![1024, 2176]⟩
abbrev S1x1024 : Shape := ⟨2, ![1, 1024]⟩
abbrev S16x4096x512 : Shape := ⟨3, ![16, 4096, 512]⟩
abbrev S16x4096x256 : Shape := ⟨3, ![16, 4096, 256]⟩
abbrev S16x4096x128 : Shape := ⟨3, ![16, 4096, 128]⟩
abbrev S1x512x1024 : Shape := ⟨3, ![1, 512, 1024]⟩
abbrev S512x512 : Shape := ⟨2, ![512, 512]⟩
abbrev S1x512x512 : Shape := ⟨3, ![1, 512, 512]⟩
abbrev S1x512x256 : Shape := ⟨3, ![1, 512, 256]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x256 : Shape := ⟨2, ![512, 256]⟩
abbrev S1024x896 : Shape := ⟨2, ![1024, 896]⟩
abbrev S512x896 : Shape := ⟨2, ![512, 896]⟩

abbrev nBuf : Space → Nat
  | .hbm => 103
  | .vmem => 30
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x2072, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x64, .f32⟩
  | .hbm, ⟨26, _⟩ => ⟨S4096x64, .f32⟩
  | .hbm, ⟨27, _⟩ => ⟨S4096x64, .f32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i1⟩
  | .hbm, ⟨32, _⟩ => ⟨S1x64, .i1⟩
  | .hbm, ⟨33, _⟩ => ⟨S4096x64, .f32⟩
  | .hbm, ⟨34, _⟩ => ⟨S_, .f32⟩
  | .hbm, ⟨35, _⟩ => ⟨S_, .f32⟩
  | .hbm, ⟨36, _⟩ => ⟨S4096x64, .i1⟩
  | .hbm, ⟨37, _⟩ => ⟨S4096x64, .f32⟩
  | .hbm, ⟨38, _⟩ => ⟨S4096x64, .f32⟩
  | .hbm, ⟨39, _⟩ => ⟨S_, .f32⟩
  | .hbm, ⟨40, _⟩ => ⟨S_, .f32⟩
  | .hbm, ⟨41, _⟩ => ⟨S4096x64, .i1⟩
  | .hbm, ⟨42, _⟩ => ⟨S4096x64, .f32⟩
  | .hbm, ⟨43, _⟩ => ⟨S4096x64, .f32⟩
  | .hbm, ⟨44, _⟩ => ⟨S4096, .i32⟩
  | .hbm, ⟨45, _⟩ => ⟨S4096x1, .i32⟩
  | .hbm, ⟨46, _⟩ => ⟨S_, .i32⟩
  | .hbm, ⟨47, _⟩ => ⟨S_, .i32⟩
  | .hbm, ⟨48, _⟩ => ⟨S4096x1, .i32⟩
  | .hbm, ⟨49, _⟩ => ⟨S4096x1, .i32⟩
  | .hbm, ⟨50, _⟩ => ⟨S4096x1, .i32⟩
  | .hbm, ⟨51, _⟩ => ⟨S_, .i32⟩
  | .hbm, ⟨52, _⟩ => ⟨S4096x1, .i32⟩
  | .hbm, ⟨53, _⟩ => ⟨S4096x1, .i1⟩
  | .hbm, ⟨54, _⟩ => ⟨S4096x1, .i32⟩
  | .hbm, ⟨55, _⟩ => ⟨S4096x1, .i32⟩
  | .hbm, ⟨56, _⟩ => ⟨S_, .i32⟩
  | .hbm, ⟨57, _⟩ => ⟨S4096x1, .i32⟩
  | .hbm, ⟨58, _⟩ => ⟨S4096x1, .i1⟩
  | .hbm, ⟨59, _⟩ => ⟨S4096x1, .i1⟩
  | .hbm, ⟨60, _⟩ => ⟨S_, .i32⟩
  | .hbm, ⟨61, _⟩ => ⟨S4096x1, .i32⟩
  | .hbm, ⟨62, _⟩ => ⟨S4096x1, .i32⟩
  | .hbm, ⟨63, _⟩ => ⟨S4096x1, .i32⟩
  | .hbm, ⟨64, _⟩ => ⟨S128, .i32⟩
  | .hbm, ⟨65, _⟩ => ⟨S1x128, .i32⟩
  | .hbm, ⟨66, _⟩ => ⟨S4096x128, .i32⟩
  | .hbm, ⟨67, _⟩ => ⟨S4096x128, .i32⟩
  | .hbm, ⟨68, _⟩ => ⟨S4096x128, .i1⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S4096x512, .f32⟩
  | .hbm, ⟨74, _⟩ => ⟨S1024x24, .f32⟩
  | .hbm, ⟨75, _⟩ => ⟨S_, .i32⟩
  | .hbm, ⟨76, _⟩ => ⟨S_, .f32⟩
  | .hbm, ⟨77, _⟩ => ⟨S1024x128, .f32⟩
  | .hbm, ⟨78, _⟩ => ⟨S1024x512, .f32⟩
  | .hbm, ⟨79, _⟩ => ⟨S1024x128, .f32⟩
  | .hbm, ⟨80, _⟩ => ⟨S1024x128, .f32⟩
  | .hbm, ⟨81, _⟩ => ⟨S1024x512, .f32⟩
  | .hbm, ⟨82, _⟩ => ⟨S1024x128, .f32⟩
  | .hbm, ⟨83, _⟩ => ⟨S1024x128, .f32⟩
  | .hbm, ⟨84, _⟩ => ⟨S1024x128, .f32⟩
  | .hbm, ⟨85, _⟩ => ⟨S1024x128, .f32⟩
  | .hbm, ⟨86, _⟩ => ⟨S1024x128, .f32⟩
  | .hbm, ⟨87, _⟩ => ⟨S1024x128, .f32⟩
  | .hbm, ⟨88, _⟩ => ⟨S1024x2176, .f32⟩
  | .hbm, ⟨89, _⟩ => ⟨S1024x2176, .bf16⟩
  | .hbm, ⟨90, _⟩ => ⟨S1x1024, .f32⟩
  | .hbm, ⟨91, _⟩ => ⟨S16x4096x512, .bf16⟩
  | .hbm, ⟨92, _⟩ => ⟨S16x4096x512, .bf16⟩
  | .hbm, ⟨93, _⟩ => ⟨S16x4096x512, .bf16⟩
  | .hbm, ⟨94, _⟩ => ⟨S16x4096x256, .bf16⟩
  | .hbm, ⟨95, _⟩ => ⟨S16x4096x512, .bf16⟩
  | .hbm, ⟨96, _⟩ => ⟨S16x4096x256, .bf16⟩
  | .hbm, ⟨97, _⟩ => ⟨S16x4096x128, .f32⟩
  | .hbm, ⟨98, _⟩ => ⟨S16x4096x128, .f32⟩
  | .hbm, ⟨99, _⟩ => ⟨S16x4096x256, .bf16⟩
  | .hbm, ⟨100, _⟩ => ⟨S16x4096x256, .bf16⟩
  | .hbm, ⟨101, _⟩ => ⟨S16x4096x256, .bf16⟩
  | .hbm, ⟨102, _⟩ => ⟨S16x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2176, .bf16⟩
  | .local _ .vmem, ⟨4, _⟩ => ⟨S512x512, .f32⟩
  | .local _ .vmem, ⟨5, _⟩ => ⟨S512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x256, .bf16⟩
  | .local _ .vmem, ⟨23, _⟩ => ⟨S1x512x256, .bf16⟩
  | .local _ .vmem, ⟨24, _⟩ => ⟨S1x512x256, .bf16⟩
  | .local _ .vmem, ⟨25, _⟩ => ⟨S1x512x256, .bf16⟩
  | .local _ .vmem, ⟨26, _⟩ => ⟨S1x512x256, .bf16⟩
  | .local _ .vmem, ⟨27, _⟩ => ⟨S1x512x256, .bf16⟩
  | .local _ .vmem, ⟨28, _⟩ => ⟨S1x512x128, .f32⟩
  | .local _ .vmem, ⟨29, _⟩ => ⟨S1x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c_7 : Ref sig .tc := ⟨.hbm, 75, rfl⟩
abbrev main_call3_v0 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55_0 : Ref sig .tc := ⟨.hbm, 91, rfl⟩
abbrev main_v55_1 : Ref sig .tc := ⟨.hbm, 92, rfl⟩
abbrev main_v55_2 : Ref sig .tc := ⟨.hbm, 93, rfl⟩
abbrev main_v55_3 : Ref sig .tc := ⟨.hbm, 94, rfl⟩
abbrev main_v55_4 : Ref sig .tc := ⟨.hbm, 95, rfl⟩
abbrev main_v55_5 : Ref sig .tc := ⟨.hbm, 96, rfl⟩
abbrev main_v55_6 : Ref sig .tc := ⟨.hbm, 97, rfl⟩
abbrev main_v55_7 : Ref sig .tc := ⟨.hbm, 98, rfl⟩
abbrev main_v55_8 : Ref sig .tc := ⟨.hbm, 99, rfl⟩
abbrev main_v55_9 : Ref sig .tc := ⟨.hbm, 100, rfl⟩
abbrev main_v55_10 : Ref sig .tc := ⟨.hbm, 101, rfl⟩
abbrev main_v55_11 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjectReferenceIdeal.lean ====
abbrev S16x4096x1024 : Shape := ⟨3, ![16, 4096, 1024]⟩
abbrev S1024 : Shape := ⟨1, ![1024]⟩
abbrev S1024x2072 : Shape := ⟨2, ![1024, 2072]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S16x4096 : Shape := ⟨2, ![16, 4096]⟩
abbrev S16x4096x1 : Shape := ⟨3, ![16, 4096, 1]⟩
abbrev S1x1x1024 : Shape := ⟨3, ![1, 1, 1024]⟩
abbrev S16x4096x2072 : Shape := ⟨3, ![16, 4096, 2072]⟩
abbrev S16x4096x512 : Shape := ⟨3, ![16, 4096, 512]⟩
abbrev S16x4096x8x64 : Shape := ⟨4, ![16, 4096, 8, 64]⟩
abbrev S16x4096x768 : Shape := ⟨3, ![16, 4096, 768]⟩
abbrev S16x4096x128 : Shape := ⟨3, ![16, 4096, 128]⟩
abbrev S16x4096x8x32 : Shape := ⟨4, ![16, 4096, 8, 32]⟩
abbrev S4096x1x64 : Shape := ⟨3, ![4096, 1, 64]⟩
abbrev S1x4096x1x64 : Shape := ⟨4, ![1, 4096, 1, 64]⟩
abbrev S16x4096x256 : Shape := ⟨3, ![16, 4096, 256]⟩
abbrev S16x4096x2x64 : Shape := ⟨4, ![16, 4096, 2, 64]⟩
abbrev S16x4096x2x32 : Shape := ⟨4, ![16, 4096, 2, 32]⟩
abbrev S128 : Shape := ⟨1, ![128]⟩
abbrev S1x128 : Shape := ⟨2, ![1, 128]⟩
abbrev S4096x128 : Shape := ⟨2, ![4096, 128]⟩
abbrev S1x4096x1x128 : Shape := ⟨4, ![1, 4096, 1, 128]⟩
abbrev S16x4096x2x128 : Shape := ⟨4, ![16, 4096, 2, 128]⟩
abbrev S16x4096x24 : Shape := ⟨3, ![16, 4096, 24]⟩
abbrev S16x4096x2x256 : Shape := ⟨4, ![16, 4096, 2, 256]⟩

abbrev nBuf : Space → Nat
  | .hbm => 207
  | .vmem => 0
  | .smem => 0
  | _ => 0

abbrev hbmTy0_0 (i : Nat) : BufTy := match i % 128 with
  | 0 => ⟨S16x4096x1024, .f32⟩
  | 1 => ⟨S1024, .f32⟩
  | 2 => ⟨S1024x2072, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S4096, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x64, .f32⟩
  | 26 => ⟨S4096x64, .f32⟩
  | 27 => ⟨S4096x64, .f32⟩
  | 28 => ⟨S16x4096x1024, .f32⟩
  | 29 => ⟨S_, .f32⟩
  | 30 => ⟨S16x4096, .f32⟩
  | 31 => ⟨S16x4096x1, .f32⟩
  | 32 => ⟨S_, .f32⟩
  | 33 => ⟨S16x4096x1, .f32⟩
  | 34 => ⟨S16x4096x1, .f32⟩
  | 35 => ⟨S_, .f32⟩
  | 36 => ⟨S16x4096x1, .f32⟩
  | 37 => ⟨S16x4096x1, .f32⟩
  | 38 => ⟨S16x4096x1, .f32⟩
  | 39 => ⟨S16x4096x1024, .f32⟩
  | 40 => ⟨S16x4096x1024, .f32⟩
  | 41 => ⟨S1x1x1024, .f32⟩
  | 42 => ⟨S16x4096x1024, .f32⟩
  | 43 => ⟨S16x4096x1024, .f32⟩
  | 44 => ⟨S16x4096x2072, .f32⟩
  | 45 => ⟨S16x4096x512, .f32⟩
  | 46 => ⟨S16x4096x8x64, .f32⟩
  | 47 => ⟨S16x4096x768, .f32⟩
  | 48 => ⟨S16x4096x128, .f32⟩
  | 49 => ⟨S16x4096x128, .f32⟩
  | 50 => ⟨S16x4096x128, .f32⟩
  | 51 => ⟨S16x4096x128, .f32⟩
  | 52 => ⟨S16x4096x128, .f32⟩
  | 53 => ⟨S16x4096x128, .f32⟩
  | 54 => ⟨S16x4096x512, .f32⟩
  | 55 => ⟨S16x4096x8x64, .f32⟩
  | 56 => ⟨S16x4096x8x32, .f32⟩
  | 57 => ⟨S16x4096x8x32, .f32⟩
  | 58 => ⟨S16x4096x8x32, .f32⟩
  | 59 => ⟨S16x4096x8x64, .f32⟩
  | 60 => ⟨S4096x1x64, .f32⟩
  | 61 => ⟨S1x4096x1x64, .f32⟩
  | 62 => ⟨S16x4096x8x64, .f32⟩
  | 63 => ⟨S16x4096x8x64, .f32⟩
  | 64 => ⟨S4096x1x64, .f32⟩
  | 65 => ⟨S1x4096x1x64, .f32⟩
  | 66 => ⟨S16x4096x8x64, .f32⟩
  | 67 => ⟨S16x4096x8x64, .f32⟩
  | 68 => ⟨S16x4096x8x64, .f32⟩
  | 69 => ⟨S16x4096x256, .f32⟩
  | 70 => ⟨S16x4096x128, .f32⟩
  | 71 => ⟨S16x4096x128, .f32⟩
  | 72 => ⟨S16x4096x2x64, .f32⟩
  | 73 => ⟨S16x4096x2x32, .f32⟩
  | 74 => ⟨S16x4096x2x32, .f32⟩
  | 75 => ⟨S16x4096x2x32, .f32⟩
  | 76 => ⟨S16x4096x2x64, .f32⟩
  | 77 => ⟨S4096x1x64, .f32⟩
  | 78 => ⟨S1x4096x1x64, .f32⟩
  | 79 => ⟨S16x4096x2x64, .f32⟩
  | 80 => ⟨S16x4096x2x64, .f32⟩
  | 81 => ⟨S4096x1x64, .f32⟩
  | 82 => ⟨S1x4096x1x64, .f32⟩
  | 83 => ⟨S16x4096x2x64, .f32⟩
  | 84 => ⟨S16x4096x2x64, .f32⟩
  | 85 => ⟨S16x4096x2x64, .f32⟩
  | 86 => ⟨S4096, .i32⟩
  | 87 => ⟨S4096x1, .i32⟩
  | 88 => ⟨S_, .i32⟩
  | 89 => ⟨S_, .i32⟩
  | 90 => ⟨S4096x1, .i32⟩
  | 91 => ⟨S4096x1, .i32⟩
  | 92 => ⟨S4096x1, .i32⟩
  | 93 => ⟨S_, .i32⟩
  | 94 => ⟨S4096x1, .i32⟩
  | 95 => ⟨S4096x1, .i1⟩
  | 96 => ⟨S4096x1, .i32⟩
  | 97 => ⟨S4096x1, .i32⟩
  | 98 => ⟨S_, .i32⟩
  | 99 => ⟨S4096x1, .i32⟩
  | 100 => ⟨S4096x1, .i1⟩
  | 101 => ⟨S4096x1, .i1⟩
  | 102 => ⟨S_, .i32⟩
  | 103 => ⟨S4096x1, .i32⟩
  | 104 => ⟨S4096x1, .i32⟩
  | 105 => ⟨S4096x1, .i32⟩
  | 106 => ⟨S128, .i32⟩
  | 107 => ⟨S1x128, .i32⟩
  | 108 => ⟨S4096x128, .i32⟩
  | 109 => ⟨S4096x128, .i32⟩
  | 110 => ⟨S4096x128, .i1⟩
  | 111 => ⟨S4096x128, .f32⟩
  | 112 => ⟨S1x4096x1x128, .f32⟩
  | 113 => ⟨S16x4096x2x128, .f32⟩
  | 114 => ⟨S16x4096x24, .f32⟩
  | 115 => ⟨S_, .i32⟩
  | 116 => ⟨S_, .f32⟩
  | 117 => ⟨S16x4096x128, .f32⟩
  | 118 => ⟨S16x4096x128, .f32⟩
  | 119 => ⟨S16x4096x128, .f32⟩
  | 120 => ⟨S_, .f32⟩
  | 121 => ⟨S16x4096x128, .f32⟩
  | 122 => ⟨S16x4096x128, .f32⟩
  | 123 => ⟨S_, .f32⟩
  | 124 => ⟨S16x4096x128, .f32⟩
  | 125 => ⟨S16x4096x128, .f32⟩
  | 126 => ⟨S_, .f32⟩
  | 127 => ⟨S16x4096x8x64, .f32⟩
  | _ => ⟨S16x4096x1024, .f32⟩

abbrev hbmTy0_1 (i : Nat) : BufTy := match i % 128 with
  | 0 => ⟨S16x4096x8x64, .f32⟩
  | 1 => ⟨S16x4096x512, .f32⟩
  | 2 => ⟨S16x4096x512, .bf16⟩
  | 3 => ⟨S16x4096x8x32, .f32⟩
  | 4 => ⟨S16x4096x8x32, .f32⟩
  | 5 => ⟨S16x4096x8x32, .f32⟩
  | 6 => ⟨S16x4096x8x64, .f32⟩
  | 7 => ⟨S4096x1x64, .f32⟩
  | 8 => ⟨S1x4096x1x64, .f32⟩
  | 9 => ⟨S16x4096x8x64, .f32⟩
  | 10 => ⟨S16x4096x8x64, .f32⟩
  | 11 => ⟨S4096x1x64, .f32⟩
  | 12 => ⟨S1x4096x1x64, .f32⟩
  | 13 => ⟨S16x4096x8x64, .f32⟩
  | 14 => ⟨S16x4096x8x64, .f32⟩
  | 15 => ⟨S16x4096x8x64, .f32⟩
  | 16 => ⟨S_, .f32⟩
  | 17 => ⟨S16x4096x8x64, .f32⟩
  | 18 => ⟨S16x4096x8x64, .f32⟩
  | 19 => ⟨S16x4096x512, .f32⟩
  | 20 => ⟨S16x4096x512, .bf16⟩
  | 21 => ⟨S16x4096x2x256, .f32⟩
  | 22 => ⟨S16x4096x512, .f32⟩
  | 23 => ⟨S16x4096x512, .bf16⟩
  | 24 => ⟨S16x4096x2x64, .f32⟩
  | 25 => ⟨S16x4096x2x32, .f32⟩
  | 26 => ⟨S16x4096x2x32, .f32⟩
  | 27 => ⟨S16x4096x2x32, .f32⟩
  | 28 => ⟨S16x4096x2x64, .f32⟩
  | 29 => ⟨S4096x1x64, .f32⟩
  | 30 => ⟨S1x4096x1x64, .f32⟩
  | 31 => ⟨S16x4096x2x64, .f32⟩
  | 32 => ⟨S16x4096x2x64, .f32⟩
  | 33 => ⟨S4096x1x64, .f32⟩
  | 34 => ⟨S1x4096x1x64, .f32⟩
  | 35 => ⟨S16x4096x2x64, .f32⟩
  | 36 => ⟨S16x4096x2x64, .f32⟩
  | 37 => ⟨S16x4096x2x64, .f32⟩
  | 38 => ⟨S16x4096x2x128, .f32⟩
  | 39 => ⟨S16x4096x256, .f32⟩
  | 40 => ⟨S16x4096x256, .bf16⟩
  | 41 => ⟨S_, .f32⟩
  | 42 => ⟨S16x4096x8x64, .f32⟩
  | 43 => ⟨S16x4096x8x64, .f32⟩
  | 44 => ⟨S16x4096x512, .f32⟩
  | 45 => ⟨S16x4096x512, .bf16⟩
  | 46 => ⟨S16x4096x2x64, .f32⟩
  | 47 => ⟨S16x4096x2x32, .f32⟩
  | 48 => ⟨S16x4096x2x32, .f32⟩
  | 49 => ⟨S16x4096x2x32, .f32⟩
  | 50 => ⟨S16x4096x2x64, .f32⟩
  | 51 => ⟨S4096x1x64, .f32⟩
  | 52 => ⟨S1x4096x1x64, .f32⟩
  | 53 => ⟨S16x4096x2x64, .f32⟩
  | 54 => ⟨S16x4096x2x64, .f32⟩
  | 55 => ⟨S4096x1x64, .f32⟩
  | 56 => ⟨S1x4096x1x64, .f32⟩
  | 57 => ⟨S16x4096x2x64, .f32⟩
  | 58 => ⟨S16x4096x2x64, .f32⟩
  | 59 => ⟨S16x4096x2x64, .f32⟩
  | 60 => ⟨S16x4096x2x128, .f32⟩
  | 61 => ⟨S16x4096x256, .f32⟩
  | 62 => ⟨S16x4096x256, .bf16⟩
  | 63 => ⟨S16x4096x2x64, .f32⟩
  | 64 => ⟨S_, .f32⟩
  | 65 => ⟨S16x4096x2x64, .f32⟩
  | 66 => ⟨S16x4096x2x128, .f32⟩
  | 67 => ⟨S16x4096x256, .f32⟩
  | 68 => ⟨S16x4096x256, .bf16⟩
  | 69 => ⟨S16x4096x2x64, .f32⟩
  | 70 => ⟨S_, .f32⟩
  | 71 => ⟨S16x4096x2x64, .f32⟩
  | 72 => ⟨S16x4096x2x128, .f32⟩
  | 73 => ⟨S16x4096x256, .f32⟩
  | 74 => ⟨S16x4096x256, .bf16⟩
  | 75 => ⟨S16x4096x2x64, .f32⟩
  | 76 => ⟨S16x4096x2x128, .f32⟩
  | 77 => ⟨S16x4096x256, .f32⟩
  | 78 => ⟨S16x4096x256, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_c : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_v7 : Ref sig .tc := ⟨.hbm, 96, rfl⟩
abbrev main_call0_v8 : Ref sig .tc := ⟨.hbm, 97, rfl⟩
abbrev main_call0_c : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_c_0 : Ref sig .tc := ⟨.hbm, 102, rfl⟩
abbrev main_call0_v12 : Ref sig .tc := ⟨.hbm, 103, rfl⟩
abbrev main_call0_v13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_7 : Ref sig .tc := ⟨.hbm, 115, rfl⟩
abbrev main_call1_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_8 : Ref sig .tc := ⟨.hbm, 120, rfl⟩
abbrev main_v90 : Ref sig .tc := ⟨.hbm, 121, rfl⟩
abbrev main_v91 : Ref sig .tc := ⟨.hbm, 122, rfl⟩
abbrev main_cst_9 : Ref sig .tc := ⟨.hbm, 123, rfl⟩
abbrev main_v92 : Ref sig .tc := ⟨.hbm, 124, rfl⟩
abbrev main_v93 : Ref sig .tc := ⟨.hbm, 125, rfl⟩
abbrev main_cst_10 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_11 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_12 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_cst_13 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_14 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩

abbrev nD : Nat := 1
abbrev τ : Topo := Topo.v7x

variable {F : FTy → Type} [FloatOps F]
-- ==== Proof.AttentionFrames.lean ====
/- The frames of the banded attention call with sinks: its program, the same at the ideal instance, and its reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal

@[expose] public section

noncomputable section

namespace Cert.Proof.AttentionFrames

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem preserves : Cert.preserves_Kernel_KernelIdeal := trivial

end Cert.Proof.AttentionFrames

end
-- ==== Proof.AttentionMath.lean ====
/- One row of banded attention with a sink, over the extended reals: 256 scores, 256 values, and the sink's score. -/
module

public import Idealize.ShloMosaic.Lib.Pipeline.ValueKit
public import Idealize.ShloMosaic.Lib.VecWindow

@[expose] public section

set_option maxRecDepth 16384

noncomputable section

namespace Cert.Proof.Attn

open Idealize.ShloMosaic

/-- The score of a key that is not seen. -/
def low : EReal := Ideal.ofBits .f32 4286578688#32

theorem low_eq : low = ⊥ := by
  unfold low
  simp [Ideal.ofBits, Ideal.ieee]

/-- The scale of the scores, one over the square root of the head's width. -/
def scale : EReal := Ideal.ofBits .f32 1040187392#32

/-- The largest of the scores and the sink. -/
def top (s : Fin 256 → EReal) (sink : EReal) : EReal := max (Finset.univ.fold max low s) sink

/-- The weighted values over the weights' sum, the sink's weight included. -/
def row (s v : Fin 256 → EReal) (sink : EReal) : EReal :=
  Ideal.div (∑ k, v k * Ideal.exp (s k - top s sink)) (∑ k, Ideal.exp (s k - top s sink) + Ideal.exp (sink - top s sink))

theorem exp_low (x : EReal) : Ideal.exp (⊥ - x) = 0 := by
  simp [sub_eq_add_neg]

/-- A value whose score is minus infinity does not count. -/
theorem row_congr {s s' v v' : Fin 256 → EReal} {sink sink' : EReal} (hs : ∀ k, s k = s' k)
    (hv : ∀ k, s k ≠ ⊥ → v k = v' k) (hk : sink = sink') : row s v sink = row s' v' sink' := by
  obtain rfl : s = s' := funext hs
  subst hk
  unfold row
  refine congrArg (Ideal.div · _) (Finset.sum_congr rfl fun k _ => ?_)
  by_cases h : s k = ⊥
  · rw [h, exp_low, mul_zero, mul_zero]
  · rw [hv k h]

/-- Query `a` of block `n` sees key `k` of its band of two blocks. -/
def Seen (n a k : Nat) : Prop := (k ≤ 128 + a ∧ a + 1 ≤ k) ∧ (0 < n ∨ 128 ≤ k)

instance (n a k : Nat) : Decidable (Seen n a k) := by unfold Seen; infer_instance

theorem scale_nonneg : 0 ≤ scale ∧ scale ≠ ⊤ := by
  have h : scale = (((1 : ℝ) / 8 : ℝ) : EReal) := by
    unfold scale
    simp [Ideal.ofBits, Ideal.ieee, -EReal.coe_mul]; norm_num
  rw [h]
  exact ⟨EReal.coe_nonneg.2 (by norm_num), EReal.coe_ne_top _⟩

/-- The scale distributes over a sum. -/
theorem sum_scale {ι : Type} (s : Finset ι) (f : ι → EReal) : (∑ e ∈ s, f e) * scale = ∑ e ∈ s, f e * scale := by
  classical
  induction s using Finset.induction_on with
  | empty => simp
  | insert a s ha ih => rw [Finset.sum_insert ha, Finset.sum_insert ha, EReal.right_distrib_of_nonneg_of_ne_top scale_nonneg.1 scale_nonneg.2, ih]

/-- One key's score: the scaled product with the query. -/
def score (q k : Fin 64 → EReal) : EReal := (∑ e, k e * q e) * scale

/-- The score from 128 lanes whose upper half is zeroed. -/
theorem score_lower {q k : Fin 64 → EReal} {f g : Fin 128 → EReal} (hf : ∀ e : Fin 64, f ⟨e, by omega⟩ = q e * scale)
    (hf0 : ∀ d : Fin 128, 64 ≤ d.val → f d = 0) (hg : ∀ e : Fin 64, g ⟨e, by omega⟩ = k e) :
    ∑ d, f d * g d = score q k := by
  rw [score, sum_scale, Fin.sum_univ_two_halves 64 64 rfl]
  rw [Finset.sum_eq_zero (s := Finset.univ) (f := fun d : Fin 64 => f ⟨64 + d, _⟩ * g ⟨64 + d, _⟩) fun d _ => by
    rw [hf0 _ (by simp), zero_mul], add_zero]
  refine Finset.sum_congr rfl fun e _ => ?_
  rw [hf, hg, mul_right_comm, mul_comm (q e)]

/-- The score from 128 lanes whose lower half is zeroed. -/
theorem score_upper {q k : Fin 64 → EReal} {f g : Fin 128 → EReal} (hf : ∀ e : Fin 64, f ⟨64 + e, by omega⟩ = q e * scale)
    (hf0 : ∀ d : Fin 128, d.val < 64 → f d = 0) (hg : ∀ e : Fin 64, g ⟨64 + e, by omega⟩ = k e) :
    ∑ d, f d * g d = score q k := by
  rw [score, sum_scale, Fin.sum_univ_two_halves 64 64 rfl]
  rw [Finset.sum_eq_zero (s := Finset.univ) (f := fun d : Fin 64 => f ⟨d, _⟩ * g ⟨d, _⟩) fun d _ => by
    rw [hf0 _ (by simp), zero_mul], zero_add]
  refine Finset.sum_congr rfl fun e _ => ?_
  rw [hf, hg, mul_right_comm, mul_comm (q e)]

theorem diff_word : ∀ c : Fin 640,
    Scalar.andi (Scalar.cmpi .sge (BitVec.ofNat 32 c - 256#32) 0#32) (Scalar.cmpi .sle (BitVec.ofNat 32 c - 256#32) 127#32)
      = if 256 ≤ c.val ∧ c.val ≤ 383 then 1#1 else 0#1 := by
  decide +kernel

/-- Which keys of its band a query sees, as a word: those up to its own row and at most 127 rows before it. -/
theorem band_word (a : Fin 128) (k : Fin 256) :
    Scalar.andi (Scalar.cmpi .sge (Scalar.subi (Scalar.addi (BitVec.ofNat 32 a) 128#32) (BitVec.ofNat 32 k)) 0#32)
      (Scalar.cmpi .sle (Scalar.subi (Scalar.addi (BitVec.ofNat 32 a) 128#32) (BitVec.ofNat 32 k)) 127#32)
      = if k.val ≤ 128 + a.val ∧ a.val + 1 ≤ k.val then 1#1 else 0#1 := by
  have h : Scalar.subi (Scalar.addi (BitVec.ofNat 32 a) 128#32) (BitVec.ofNat 32 k) = BitVec.ofNat 32 (384 + a.val - k.val) - 256#32 := by
    show BitVec.ofNat 32 a + 128#32 - BitVec.ofNat 32 k = _
    apply BitVec.eq_of_toNat_eq
    simp only [BitVec.toNat_sub, BitVec.toNat_add, BitVec.toNat_ofNat]
    omega
  rw [h, diff_word ⟨384 + a.val - k.val, by omega⟩]
  refine if_congr ?_ rfl rfl
  show 256 ≤ 384 + a.val - k.val ∧ 384 + a.val - k.val ≤ 383 ↔ _
  omega

theorem first_word : ∀ n : Fin 32, Scalar.cmpi .sgt (BitVec.ofNat 32 n) 0#32 = if 0 < n.val then 1#1 else 0#1 := by
  decide +kernel

theorem second_word : ∀ k : Fin 256, Scalar.cmpi .sge (BitVec.ofNat 32 k) 128#32 = if 128 ≤ k.val then 1#1 else 0#1 := by
  decide +kernel

theorem and_or_word (P Q R : Prop) [Decidable P] [Decidable Q] [Decidable R] :
    Scalar.andi (if P then 1#1 else 0#1) (Scalar.ori (if Q then 1#1 else 0#1) (if R then 1#1 else 0#1)) = if P ∧ (Q ∨ R) then 1#1 else 0#1 := by
  by_cases h1 : P <;> by_cases h2 : Q <;> by_cases h3 : R <;> simp [h1, h2, h3] <;> rfl

/-- The mask word is set exactly where the key is seen. -/
theorem mask_word (n a k : Nat) {x y z : BitVec 1} (hx : x = if k ≤ 128 + a ∧ a + 1 ≤ k then 1#1 else 0#1)
    (hy : y = if 0 < n then 1#1 else 0#1) (hz : z = if 128 ≤ k then 1#1 else 0#1) :
    Scalar.andi x (Scalar.ori y z) = if Seen n a k then 1#1 else 0#1 := by
  rw [hx, hy, hz, and_or_word]
  rfl

/-- A selection by such a word. -/
theorem select_word {α : Type} (P : Prop) [Decidable P] (x y : α) : Scalar.select (if P then 1#1 else 0#1) x y = if P then x else y := by
  by_cases h : P <;> simp [h, Scalar.select]

end Cert.Proof.Attn

end
-- ==== Proof.AttentionReference.lean ====
/- What the banded-attention reference leaves: its composed term in named pieces, each read at an index, and the result
   at an index as one row of attention. -/
module

public import proofs.«01_k».proof.Proof.Gen.ReferenceIdeal.Run
public import proofs.«01_k».proof.Proof.AttentionMath
public import Idealize.ShloMosaic.Lib.Pipeline.ValueKit
public import Idealize.ShloMosaic.Lib.VecWindow

@[expose] public section

set_option maxRecDepth 16384

noncomputable section

namespace Cert.ReferenceIdeal.RefValue

open Cert.ReferenceIdeal Cert.ReferenceIdeal.Gen Idealize.ShloMosaic Idealize.ShloMosaic.TcCoe Idealize.SL.Sem
open Cert.Proof

/-- Keys or values per head, cut into blocks of 128 rows. -/
def blockV (A1 : FVec Ideal S16x4096x2x64 .f32) : FVec Ideal S16x2x32x128x64 .f32 :=
  shapeCast _ (transpose S16x2x4096x64 [0, 2, 1, 3] A1 transposes_S16x4096x2x64_S16x2x4096x64_0_2_1_3) shapeCasts_S16x2x4096x64_S16x2x32x128x64

/-- Each block after the block before it, zeros before the first. -/
def bandV (A1 : FVec Ideal S16x4096x2x64 .f32) : FVec Ideal S16x2x32x256x64 .f32 :=
  concatenate S16x2x32x256x64 3 [⟨S16x2x32x128x64, (extractStridedSlice S16x2x32x128x64 ![0, 0, 0, 0, 0] (pad S16x2x33x128x64 ![0, 0, 1, 0, 0] ![0, 0, 0, 0, 0] ![0, 0, 0, 0, 0] (blockV A1) (sitofp .f32 (constantI S_ 32 0#32)) pads_S16x2x32x128x64_S16x2x33x128x64_000_000_100_000_000 h_S_) slices_S16x2x33x128x64_S16x2x32x128x64_0_0_0_0_0)⟩, ⟨S16x2x32x128x64, (blockV A1)⟩] concatenates_S16x2x32x128x64_S16x2x32x128x64_S16x2x32x256x64_d3

/-- Which keys of its band a query sees. -/
def maskV : IVec S16x2x4x32x128x256 1 :=
  broadcastInDim S16x2x4x32x128x256 ![3, 4, 5] bcast_S32x128x256_S16x2x4x32x128x256_3_4_5 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 127#32)))))) (broadcastInDim S32x128x256 ![0, 1, 2] bcast_S32x1x256_S32x128x256_0_1_2 (ori (broadcastInDim S32x1x256 ![0, 1, 2] bcast_S32x1x1_S32x1x256_0_1_2 (cmpi .sgt (broadcastInDim S32x1x1 ![0] bcast_S32_S32x1x1_0 (iotaInDim S32 32 0)) (broadcastInDim S32x1x1 ![] bcast_S_S32x1x1 (constantI S_ 32 0#32)))) (broadcastInDim S32x1x256 ![0, 1, 2] bcast_S1x1x256_S32x1x256_0_1_2 (cmpi .sge (broadcastInDim S1x1x256 ![1, 2] bcast_S1x256_S1x1x256_1_2 (broadcastInDim S1x256 ![1] bcast_S256_S1x256_1 (iotaInDim S256 32 0))) (broadcastInDim S1x1x256 ![] bcast_S_S1x1x256 (constantI S_ 32 128#32)))))))

/-- Queries per head and group, cut into blocks. -/
def queryV (A0 : FVec Ideal S16x4096x8x64 .f32) : FVec Ideal S16x2x4x32x128x64 .f32 :=
  shapeCast _ (transpose S16x2x4x4096x64 [0, 2, 3, 1, 4] (shapeCast _ A0 shapeCasts_S16x4096x8x64_S16x4096x2x4x64) transposes_S16x4096x2x4x64_S16x2x4x4096x64_0_2_3_1_4) shapeCasts_S16x2x4x4096x64_S16x2x4x32x128x64

/-- The scores, minus infinity where a key is not seen. -/
def scoreV (A0 : FVec Ideal S16x4096x8x64 .f32) (A1 : FVec Ideal S16x4096x2x64 .f32) : FVec Ideal S16x2x4x32x128x256 .f32 :=
  select (maskV) (mulf (transpose S16x2x4x32x128x256 [0, 1, 4, 2, 5, 3] (Host.dotGeneral dot_S16x2x32x256x64_S16x2x4x32x128x64_S16x2x32x256x4x128_4_5_3_24_012_013 none (bandV A1) (queryV A0)) transposes_S16x2x32x256x4x128_S16x2x4x32x128x256_0_1_4_2_5_3) (broadcastInDim S16x2x4x32x128x256 ![] bcast_S_S16x2x4x32x128x256 (constant S_ .f32 0x3E000000#32))) (broadcastInDim S16x2x4x32x128x256 ![] bcast_S_S16x2x4x32x128x256 (id (constant S_ .f32 0xFF800000#32)))

/-- The head's sink. -/
def sinkV (A3 : FVec Ideal S8 .f32) : FVec Ideal S16x2x4x32x128 .f32 :=
  broadcastInDim S16x2x4x32x128 ![0, 1, 2, 3, 4] bcast_S1x2x4x1x1_S16x2x4x32x128_0_1_2_3_4 (broadcastInDim S1x2x4x1x1 ![1, 2, 3, 4] bcast_S2x4x1x1_S1x2x4x1x1_1_2_3_4 (shapeCast _ A3 shapeCasts_S8_S2x4x1x1))

/-- A row's largest score, the sink included. -/
def maxV (A0 : FVec Ideal S16x4096x8x64 .f32) (A1 : FVec Ideal S16x4096x2x64 .f32) (A3 : FVec Ideal S8 .f32) : FVec Ideal S16x2x4x32x128 .f32 :=
  maximumf (Host.reduce FloatOps.maximumf (scoreV A0 A1) (constant S_ .f32 0xFF800000#32) reducesTo_S16x2x4x32x128x256_S16x2x4x32x128_d5 h_S_) (sinkV A3)

/-- The exponentials under that maximum. -/
def expV (A0 : FVec Ideal S16x4096x8x64 .f32) (A1 : FVec Ideal S16x4096x2x64 .f32) (A3 : FVec Ideal S8 .f32) : FVec Ideal S16x2x4x32x128x256 .f32 :=
  Host.exp (subf (scoreV A0 A1) (broadcastInDim S16x2x4x32x128x256 ![0, 1, 2, 3, 4, 5] bcast_S16x2x4x32x128x1_S16x2x4x32x128x256_0_1_2_3_4_5 (broadcastInDim S16x2x4x32x128x1 ![0, 1, 2, 3, 4] bcast_S16x2x4x32x128_S16x2x4x32x128x1_0_1_2_3_4 (maxV A0 A1 A3))))

/-- Their sum, the sink's included. -/
def denV (A0 : FVec Ideal S16x4096x8x64 .f32) (A1 : FVec Ideal S16x4096x2x64 .f32) (A3 : FVec Ideal S8 .f32) : FVec Ideal S16x2x4x32x128 .f32 :=
  addf (Host.reduceAdd (expV A0 A1 A3) (constant S_ .f32 0x00000000#32) reducesTo_S16x2x4x32x128x256_S16x2x4x32x128_d5 h_S_) (Host.exp (subf (sinkV A3) (maxV A0 A1 A3)))

/-- The weighted values over that sum. -/
def quotV (A0 : FVec Ideal S16x4096x8x64 .f32) (A1 : FVec Ideal S16x4096x2x64 .f32) (A2 : FVec Ideal S16x4096x2x64 .f32) (A3 : FVec Ideal S8 .f32) : FVec Ideal S16x2x4x32x128x64 .f32 :=
  Host.divf (transpose S16x2x4x32x128x64 [0, 1, 4, 2, 5, 3] (Host.dotGeneral dot_S16x2x32x256x64_S16x2x4x32x128x256_S16x2x32x64x4x128_3_5_4_24_012_013 none (bandV A2) (expV A0 A1 A3)) transposes_S16x2x32x64x4x128_S16x2x4x32x128x64_0_1_4_2_5_3) (broadcastInDim S16x2x4x32x128x64 ![0, 1, 2, 3, 4, 5] bcast_S16x2x4x32x128x1_S16x2x4x32x128x64_0_1_2_3_4_5 (broadcastInDim S16x2x4x32x128x1 ![0, 1, 2, 3, 4] bcast_S16x2x4x32x128_S16x2x4x32x128x1_0_1_2_3_4 (denV A0 A1 A3)))

/-- The result, rows by sequence and lanes by head. -/
def outV (A0 : FVec Ideal S16x4096x8x64 .f32) (A1 : FVec Ideal S16x4096x2x64 .f32) (A2 : FVec Ideal S16x4096x2x64 .f32) (A3 : FVec Ideal S8 .f32) : FVec Ideal S16x1x4096x512 .bf16 :=
  truncf .bf16 (shapeCast _ (transpose S16x4096x2x4x64 [0, 3, 1, 2, 4] (shapeCast _ (quotV A0 A1 A2 A3) shapeCasts_S16x2x4x32x128x64_S16x2x4x4096x64) transposes_S16x2x4x4096x64_S16x4096x2x4x64_0_3_1_2_4) shapeCasts_S16x4096x2x4x64_S16x1x4096x512) bitsLt_bf16_f32

theorem res_eq (m : (ℓ : Loc nD τ sig) → Buf (Elt Ideal) ℓ) (c : Dev nD) :
    Value.res_main_v72 m c = outV (m ((c.tc : Thread nD τ).loc main_arg0)) (m ((c.tc : Thread nD τ).loc main_arg1))
      (m ((c.tc : Thread nD τ).loc main_arg2)) (m ((c.tc : Thread nD τ).loc main_arg3)) := rfl

variable (A0 : FVec Ideal S16x4096x8x64 .f32) (A1 A2 : FVec Ideal S16x4096x2x64 .f32) (A3 : FVec Ideal S8 .f32)

/-! ## The pieces at an index -/

theorem blockV_apply (b : Fin 16) (g : Fin 2) (n : Fin 32) (k : Fin 128) (d : Fin 64) :
    blockV A1 (ix5 b g n k d) = A1 (ix4 b ⟨n * 128 + k, by omega⟩ g d) := by
  pointwise [blockV]

/-- Row `k` of block `n`'s band of keys or values, at head `g`; before the first block it is zero. -/
def band (A1 : FVec Ideal S16x4096x2x64 .f32) (b : Fin 16) (g : Fin 2) (n : Fin 32) (k : Fin 256) (d : Fin 64) : EReal :=
  if h : 128 ≤ n.val * 128 + k.val then A1 (ix4 b ⟨n * 128 + k - 128, by omega⟩ g d) else 0

theorem bandV_apply (b : Fin 16) (g : Fin 2) (n : Fin 32) (k : Fin 256) (d : Fin 64) : bandV A1 (ix5 b g n k d) = band A1 b g n k d := by
  pointwise [bandV]
  unfold band
  split_ifs with h1 h2 h3 h3 h3
  · rw [blockV_apply]
    exact congrArg (fun s => A1 (ix4 b s g d)) (Fin.ext (by show (n.val - 1) * 128 + k.val = n.val * 128 + k.val - 128; omega))
  · omega
  · omega
  · simp [FloatOps.sitofp]
  · rw [blockV_apply]
    rw [dif_pos (by omega)]
    refine congrArg (fun s => A1 (ix4 b s g d)) (Fin.ext ?_)
    show n.val * 128 + (k.val - 128) = n.val * 128 + k.val - 128
    omega
  · omega

theorem maskV_apply (b : Fin 16) (g : Fin 2) (h : Fin 4) (n : Fin 32) (a : Fin 128) (k : Fin 256) :
    maskV (ix6 b g h n a k) = if Attn.Seen n a k then 1#1 else 0#1 := by
  pointwise [maskV]
  exact Attn.mask_word _ _ _ (Attn.band_word a k) (Attn.first_word n) (Attn.second_word k)

theorem queryV_apply (b : Fin 16) (g : Fin 2) (h : Fin 4) (n : Fin 32) (a : Fin 128) (d : Fin 64) :
    queryV A0 (ix6 b g h n a d) = A0 (ix4 b ⟨n * 128 + a, by omega⟩ ⟨g * 4 + h, by omega⟩ d) := by
  pointwise [queryV]

/-- A query's score with one key of its band. -/
def score (A0 : FVec Ideal S16x4096x8x64 .f32) (A1 : FVec Ideal S16x4096x2x64 .f32) (b : Fin 16) (g : Fin 2) (h : Fin 4) (n : Fin 32) (a : Fin 128) (k : Fin 256) : EReal :=
  if Attn.Seen n a k then Attn.score (fun e => A0 (ix4 b ⟨n * 128 + a, by omega⟩ ⟨g * 4 + h, by omega⟩ e)) (fun e => band A1 b g n k e) else ⊥

theorem scoreV_apply (b : Fin 16) (g : Fin 2) (h : Fin 4) (n : Fin 32) (a : Fin 128) (k : Fin 256) :
    scoreV A0 A1 (ix6 b g h n a k) = score A0 A1 b g h n a k := by
  pointwise [scoreV]
  rw [maskV_apply, Attn.select_word]
  simp only [queryV_apply, bandV_apply]
  exact if_congr Iff.rfl rfl Attn.low_eq

theorem sinkV_apply (b : Fin 16) (g : Fin 2) (h : Fin 4) (n : Fin 32) (a : Fin 128) : sinkV A3 (ix5 b g h n a) = A3 (ix1 ⟨g * 4 + h, by omega⟩) := by
  pointwise [sinkV]

/-- The indices of the scores that reduce to a row are the row's 256. -/
theorem fiber (b : Fin 16) (g : Fin 2) (h : Fin 4) (n : Fin 32) (a : Fin 128) (i : S16x2x4x32x128x256.Idx) :
    reducesTo_S16x2x4x32x128x256_S16x2x4x32x128_d5.drop i = ix5 b g h n a ↔ ∃ k : Fin 256, (ix6 b g h n a k : S16x2x4x32x128x256.Idx) = i := by
  constructor
  · intro e
    refine ⟨i 5, funext fun x => Fin.ext ?_⟩
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem row_inj (b : Fin 16) (g : Fin 2) (h : Fin 4) (n : Fin 32) (a : Fin 128) :
    Function.Injective fun k : Fin 256 => (ix6 b g h n a k : S16x2x4x32x128x256.Idx) := fun _ _ e => congrFun e 5

theorem maxV_apply (b : Fin 16) (g : Fin 2) (h : Fin 4) (n : Fin 32) (a : Fin 128) :
    maxV A0 A1 A3 (ix5 b g h n a) = Attn.top (score A0 A1 b g h n a) (A3 (ix1 ⟨g * 4 + h, by omega⟩)) := by
  unfold maxV
  rw [maximumf_apply, Host.reduce_eq_fold, sinkV_apply,
    Finset.fold_filter_eq_fold_of_fiber _ _ _ (row_inj b g h n a) (fiber b g h n a)]
  simp only [scoreV_apply]
  rfl

/-- A key's weight under the row's maximum. -/
def weight (A0 : FVec Ideal S16x4096x8x64 .f32) (A1 : FVec Ideal S16x4096x2x64 .f32) (A3 : FVec Ideal S8 .f32) (b : Fin 16) (g : Fin 2) (h : Fin 4) (n : Fin 32) (a : Fin 128) (k : Fin 256) : EReal :=
  Ideal.exp (score A0 A1 b g h n a k - Attn.top (score A0 A1 b g h n a) (A3 (ix1 ⟨g * 4 + h, by omega⟩)))

theorem expV_apply (b : Fin 16) (g : Fin 2) (h : Fin 4) (n : Fin 32) (a : Fin 128) (k : Fin 256) :
    expV A0 A1 A3 (ix6 b g h n a k) = weight A0 A1 A3 b g h n a k := by
  pointwise [expV]
  rw [scoreV_apply, maxV_apply]
  rfl

theorem denV_apply (b : Fin 16) (g : Fin 2) (h : Fin 4) (n : Fin 32) (a : Fin 128) :
    denV A0 A1 A3 (ix5 b g h n a) = ∑ k, weight A0 A1 A3 b g h n a k
      + Ideal.exp (A3 (ix1 ⟨g * 4 + h, by omega⟩) - Attn.top (score A0 A1 b g h n a) (A3 (ix1 ⟨g * 4 + h, by omega⟩))) := by
  pointwise [denV]
  rw [sinkV_apply, maxV_apply]
  refine congrArg (· + _) ?_
  refine (congrArg (_ + ·) (Finset.sum_filter_eq_sum_of_fiber _ _ (row_inj b g h n a) (fiber b g h n a) _)).trans ?_
  rw [zero_add]
  exact Finset.sum_congr rfl fun k _ => expV_apply ..

theorem quotV_apply (b : Fin 16) (g : Fin 2) (h : Fin 4) (n : Fin 32) (a : Fin 128) (d : Fin 64) :
    quotV A0 A1 A2 A3 (ix6 b g h n a d) = Attn.row (score A0 A1 b g h n a) (fun k => band A2 b g n k d) (A3 (ix1 ⟨g * 4 + h, by omega⟩)) := by
  pointwise [quotV]
  simp only [denV_apply, bandV_apply, expV_apply]
  rfl

/-- The result at an index: one row of attention. -/
theorem outV_apply (b : Fin 16) (s : Fin 4096) (l : Fin 512) :
    outV A0 A1 A2 A3 (ix4 b 0 s l)
      = Attn.row (score A0 A1 b ⟨l / 256, by omega⟩ ⟨l / 64 % 4, by omega⟩ ⟨s / 128, by omega⟩ ⟨s % 128, by omega⟩)
          (fun k => band A2 b ⟨l / 256, by omega⟩ ⟨s / 128, by omega⟩ k ⟨l % 64, by omega⟩)
          (A3 (ix1 ⟨l / 256 * 4 + l / 64 % 4, by omega⟩)) := by
  pointwise [outV]
  exact quotV_apply ..

end Cert.ReferenceIdeal.RefValue

end
-- ==== Proof.AttentionKernel.lean ====
/- The banded attention kernel's values at an index: the stacked scores, the sinks' column, the weights and their sum. -/
module

public import proofs.«01_k».proof.Proof.Gen.KernelIdeal.Value
public import proofs.«01_k».proof.Proof.AttentionMath
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.RefValue

open Cert.KernelIdeal Cert.KernelIdeal.Gen Idealize.ShloMosaic Idealize.ShloMosaic.TcCoe Idealize.SL.Sem
open Cert.Proof

abbrev Q0 := Vec Ideal S1x1x512x512 .bf16
abbrev KP := Vec Ideal S1x1x128x256 .bf16
abbrev KC := Vec Ideal S1x1x512x256 .bf16
abbrev SR := Vec Ideal S1x128 .f32

/-! ## The scores, stacked by tile -/

/-- The query tiles, four row blocks of four lane pairs. -/
def qs (x0 : Q0) : Fin 16 → Vec Ideal S1x1x128x128 .bf16 :=
  ![View.ld x0 r0_4, View.ld x0 r0_5, View.ld x0 r0_6, View.ld x0 r0_7, View.ld x0 r0_8, View.ld x0 r0_9, View.ld x0 r0_10, View.ld x0 r0_11, View.ld x0 r0_12, View.ld x0 r0_13, View.ld x0 r0_14, View.ld x0 r0_15, View.ld x0 r0_16, View.ld x0 r0_17, View.ld x0 r0_18, View.ld x0 r0_19]

/-- The 640 keys or values of one head: the 128 rows before the block and its own 512. -/
def rows (p : FVec Ideal S1x1x128x128 .bf16) (q : FVec Ideal S1x1x512x128 .bf16) : FVec Ideal S640x128 .bf16 := k0_pay6 (F := Ideal) p q

/-- The keys of each tile. -/
def ks (a b : FVec Ideal S640x128 .bf16) : Fin 16 → FVec Ideal S256x128 .bf16 :=
  ![extractStridedSlice S256x128 ![0, 0] a slices_S640x128_o0_0_S256x128, extractStridedSlice S256x128 ![0, 0] a slices_S640x128_o0_0_S256x128, extractStridedSlice S256x128 ![0, 0] b slices_S640x128_o0_0_S256x128, extractStridedSlice S256x128 ![0, 0] b slices_S640x128_o0_0_S256x128, extractStridedSlice S256x128 ![128, 0] a slices_S640x128_o128_0_S256x128, extractStridedSlice S256x128 ![128, 0] a slices_S640x128_o128_0_S256x128, extractStridedSlice S256x128 ![128, 0] b slices_S640x128_o128_0_S256x128, extractStridedSlice S256x128 ![128, 0] b slices_S640x128_o128_0_S256x128, extractStridedSlice S256x128 ![256, 0] a slices_S640x128_o256_0_S256x128, extractStridedSlice S256x128 ![256, 0] a slices_S640x128_o256_0_S256x128, extractStridedSlice S256x128 ![256, 0] b slices_S640x128_o256_0_S256x128, extractStridedSlice S256x128 ![256, 0] b slices_S640x128_o256_0_S256x128, extractStridedSlice S256x128 ![384, 0] a slices_S640x128_o384_0_S256x128, extractStridedSlice S256x128 ![384, 0] a slices_S640x128_o384_0_S256x128, extractStridedSlice S256x128 ![384, 0] b slices_S640x128_o384_0_S256x128, extractStridedSlice S256x128 ![384, 0] b slices_S640x128_o384_0_S256x128]

/-- The bias of each tile. -/
def bs (i : grid0.Coords) : Fin 16 → FVec Ideal S256x256 .f32 :=
  ![k0_pay4 (F := Ideal) i, k0_pay4 (F := Ideal) i, k0_pay4 (F := Ideal) i, k0_pay4 (F := Ideal) i, k0_pay5 (F := Ideal), k0_pay5 (F := Ideal), k0_pay5 (F := Ideal), k0_pay5 (F := Ideal), k0_pay5 (F := Ideal), k0_pay5 (F := Ideal), k0_pay5 (F := Ideal), k0_pay5 (F := Ideal), k0_pay5 (F := Ideal), k0_pay5 (F := Ideal), k0_pay5 (F := Ideal), k0_pay5 (F := Ideal)]

def tile (i : grid0.Coords) (x0 : Q0) (a b : FVec Ideal S640x128 .bf16) (n : Fin 16) : FVec Ideal S256x256 .f32 :=
  k0_pay14 (bs i n) (k0_pay12 k0_pay2 (qs x0 n)) (ks a b n) (constant S256x256 .f32 0x00000000#32)

theorem cat16 (f : Fin 16 → FVec Ideal S256x256 .f32) :
    Shape.Concatenates ((List.ofFn fun n : Fin 16 => (⟨S256x256, f n⟩ : (s : Shape) × (s.Idx → EReal))).map (·.1)) S4096x256 0 := by
  rw [List.map_ofFn]
  exact (by decide +kernel : Shape.Concatenates (List.ofFn fun _ : Fin 16 => S256x256) S4096x256 0)

/-- Sixteen tiles of scores stacked. -/
def stack (f : Fin 16 → FVec Ideal S256x256 .f32) : FVec Ideal S4096x256 .f32 :=
  concatenate S4096x256 0 [⟨S256x256, f 0⟩, ⟨S256x256, f 1⟩, ⟨S256x256, f 2⟩, ⟨S256x256, f 3⟩, ⟨S256x256, f 4⟩, ⟨S256x256, f 5⟩, ⟨S256x256, f 6⟩, ⟨S256x256, f 7⟩, ⟨S256x256, f 8⟩, ⟨S256x256, f 9⟩, ⟨S256x256, f 10⟩, ⟨S256x256, f 11⟩, ⟨S256x256, f 12⟩, ⟨S256x256, f 13⟩, ⟨S256x256, f 14⟩, ⟨S256x256, f 15⟩] concatenates_S256x256_S256x256_S256x256_S256x256_S256x256_S256x256_S256x256_S256x256_S256x256_S256x256_S256x256_S256x256_S256x256_S256x256_S256x256_S256x256_S4096x256_d0

theorem stack_eq (f : Fin 16 → FVec Ideal S256x256 .f32) :
    stack f = concatenate S4096x256 0 (List.ofFn fun n : Fin 16 => (⟨S256x256, f n⟩ : (s : Shape) × (s.Idx → EReal))) (cat16 f) := by
  rfl

theorem stack_apply (f : Fin 16 → FVec Ideal S256x256 .f32) (R : Fin 4096) (k : Fin 256) :
    stack f (ix2 R k) = f ⟨R / 256, by omega⟩ (ix2 ⟨R % 256, by omega⟩ k) := by
  rw [stack_eq]
  refine concatenate_ofFn_apply (t := S4096x256) (s₁ := S256x256) 0 f _ rfl 256 rfl _ _ rfl _ rfl fun c hc => ?_
  match c with
  | ⟨0, _⟩ => exact absurd rfl hc
  | ⟨1, _⟩ => rfl

def scores (i : grid0.Coords) (x0 : Q0) (a b : FVec Ideal S640x128 .bf16) : FVec Ideal S4096x256 .f32 := stack (tile i x0 a b)

section
variable (i : grid0.Coords) (x0 : Q0) (x1 : KP) (x2 : KC) (x3 : KP) (x4 : KC) (x5 : SR)

theorem tile_94 : k0_pay94 (F := Ideal) i x0 x1 x2 x3 x4 x5 = tile i x0 (k0_pay90 i x0 x1 x2 x3 x4 x5) (k0_pay91 i x0 x1 x2 x3 x4 x5) 0 := by
  rfl

theorem tile_95 : k0_pay95 (F := Ideal) i x0 x1 x2 x3 x4 x5 = tile i x0 (k0_pay90 i x0 x1 x2 x3 x4 x5) (k0_pay91 i x0 x1 x2 x3 x4 x5) 1 := by
  rfl

theorem tile_96 : k0_pay96 (F := Ideal) i x0 x1 x2 x3 x4 x5 = tile i x0 (k0_pay90 i x0 x1 x2 x3 x4 x5) (k0_pay91 i x0 x1 x2 x3 x4 x5) 2 := by
  rfl

theorem tile_97 : k0_pay97 (F := Ideal) i x0 x1 x2 x3 x4 x5 = tile i x0 (k0_pay90 i x0 x1 x2 x3 x4 x5) (k0_pay91 i x0 x1 x2 x3 x4 x5) 3 := by
  rfl

theorem tile_98 : k0_pay98 (F := Ideal) i x0 x1 x2 x3 x4 x5 = tile i x0 (k0_pay90 i x0 x1 x2 x3 x4 x5) (k0_pay91 i x0 x1 x2 x3 x4 x5) 4 := by
  rfl

theorem tile_99 : k0_pay99 (F := Ideal) i x0 x1 x2 x3 x4 x5 = tile i x0 (k0_pay90 i x0 x1 x2 x3 x4 x5) (k0_pay91 i x0 x1 x2 x3 x4 x5) 5 := by
  rfl

theorem tile_100 : k0_pay100 (F := Ideal) i x0 x1 x2 x3 x4 x5 = tile i x0 (k0_pay90 i x0 x1 x2 x3 x4 x5) (k0_pay91 i x0 x1 x2 x3 x4 x5) 6 := by
  rfl

theorem tile_101 : k0_pay101 (F := Ideal) i x0 x1 x2 x3 x4 x5 = tile i x0 (k0_pay90 i x0 x1 x2 x3 x4 x5) (k0_pay91 i x0 x1 x2 x3 x4 x5) 7 := by
  rfl

theorem tile_102 : k0_pay102 (F := Ideal) i x0 x1 x2 x3 x4 x5 = tile i x0 (k0_pay90 i x0 x1 x2 x3 x4 x5) (k0_pay91 i x0 x1 x2 x3 x4 x5) 8 := by
  rfl

theorem tile_104 : k0_pay104 (F := Ideal) i x0 x1 x2 x3 x4 x5 = tile i x0 (k0_pay90 i x0 x1 x2 x3 x4 x5) (k0_pay91 i x0 x1 x2 x3 x4 x5) 9 := by
  rfl

theorem tile_105 : k0_pay105 (F := Ideal) i x0 x1 x2 x3 x4 x5 = tile i x0 (k0_pay90 i x0 x1 x2 x3 x4 x5) (k0_pay91 i x0 x1 x2 x3 x4 x5) 10 := by
  rfl

theorem tile_106 : k0_pay106 (F := Ideal) i x0 x1 x2 x3 x4 x5 = tile i x0 (k0_pay90 i x0 x1 x2 x3 x4 x5) (k0_pay91 i x0 x1 x2 x3 x4 x5) 11 := by
  rfl

theorem tile_107 : k0_pay107 (F := Ideal) i x0 x1 x2 x3 x4 x5 = tile i x0 (k0_pay90 i x0 x1 x2 x3 x4 x5) (k0_pay91 i x0 x1 x2 x3 x4 x5) 12 := by
  rfl

theorem scores_eq :
    k0_pay110 (F := Ideal) i x0 x1 x2 x3 x4 x5 = scores i x0 (k0_pay90 i x0 x1 x2 x3 x4 x5) (k0_pay91 i x0 x1 x2 x3 x4 x5) := by
  unfold k0_pay110
  rw [tile_94, tile_95, tile_96, tile_97, tile_98, tile_99, tile_100, tile_101, tile_102, tile_104, tile_105, tile_106, tile_107]
  rfl
end

/-! ## The sinks' column -/

def sinkRow (x : Vec Ideal S1x1 .f32) : FVec Ideal S128x1 .f32 := k0_pay34 x

def sinkLanes (x5 : SR) : Fin 32 → Vec Ideal S1x1 .f32 :=
  ![View.ld x5 r0_20, View.ld x5 r0_21, View.ld x5 r0_22, View.ld x5 r0_23, View.ld x5 r0_24, View.ld x5 r0_25, View.ld x5 r0_26, View.ld x5 r0_27, View.ld x5 r0_20, View.ld x5 r0_21, View.ld x5 r0_22, View.ld x5 r0_23, View.ld x5 r0_24, View.ld x5 r0_25, View.ld x5 r0_26, View.ld x5 r0_27, View.ld x5 r0_20, View.ld x5 r0_21, View.ld x5 r0_22, View.ld x5 r0_23, View.ld x5 r0_24, View.ld x5 r0_25, View.ld x5 r0_26, View.ld x5 r0_27, View.ld x5 r0_20, View.ld x5 r0_21, View.ld x5 r0_22, View.ld x5 r0_23, View.ld x5 r0_24, View.ld x5 r0_25, View.ld x5 r0_26, View.ld x5 r0_27]

theorem cat32 (f : Fin 32 → FVec Ideal S128x1 .f32) :
    Shape.Concatenates ((List.ofFn fun n : Fin 32 => (⟨S128x1, f n⟩ : (s : Shape) × (s.Idx → EReal))).map (·.1)) S4096x1 0 := by
  rw [List.map_ofFn]
  exact (by decide +kernel : Shape.Concatenates (List.ofFn fun _ : Fin 32 => S128x1) S4096x1 0)

/-- Thirty-two columns stacked. -/
def stackCol (f : Fin 32 → FVec Ideal S128x1 .f32) : FVec Ideal S4096x1 .f32 :=
  concatenate S4096x1 0 (List.ofFn fun n : Fin 32 => (⟨S128x1, f n⟩ : (s : Shape) × (s.Idx → EReal))) (cat32 f)

theorem stackCol_apply (f : Fin 32 → FVec Ideal S128x1 .f32) (R : Fin 4096) :
    stackCol f (ix2 R 0) = f ⟨R / 128, by omega⟩ (ix2 ⟨R % 128, by omega⟩ 0) := by
  unfold stackCol
  refine concatenate_ofFn_apply (t := S4096x1) (s₁ := S128x1) 0 f _ rfl 128 rfl _ _ rfl _ rfl fun c hc => ?_
  match c with
  | ⟨0, _⟩ => exact absurd rfl hc
  | ⟨1, _⟩ => rfl

/-- The column a payload stacks from thirty-two columns, the last eight given as single entries. -/
theorem pay58_eq (f : Fin 32 → Vec Ideal S1x1 .f32) :
    k0_pay58 (F := Ideal) (sinkRow (f 0)) (sinkRow (f 1)) (sinkRow (f 2)) (sinkRow (f 3)) (sinkRow (f 4)) (sinkRow (f 5)) (sinkRow (f 6)) (sinkRow (f 7)) (sinkRow (f 8)) (sinkRow (f 9)) (sinkRow (f 10)) (sinkRow (f 11)) (sinkRow (f 12)) (sinkRow (f 13)) (sinkRow (f 14)) (sinkRow (f 15)) (sinkRow (f 16)) (sinkRow (f 17)) (sinkRow (f 18)) (sinkRow (f 19)) (sinkRow (f 20)) (sinkRow (f 21)) (sinkRow (f 22)) (sinkRow (f 23)) (f 24) (f 25) (f 26) (f 27) (f 28) (f 29) (f 30) (f 31) = stackCol fun n => sinkRow (f n) := by
  rfl

def sinkCol (x5 : SR) : FVec Ideal S4096x1 .f32 := stackCol fun n => sinkRow (sinkLanes x5 n)

/-! ## The weights and their sum -/

def rowMax (s : FVec Ideal S4096x256 .f32) : FVec Ideal S4096x1 .f32 :=
  shapeCast S4096x1 (multiReduction .maximumf [1] S4096 s 0xFF800000#32 reduces_S4096x256_S4096 (.inl rfl) rfl) shapeCasts_S4096_S4096x1

def tops (s : FVec Ideal S4096x256 .f32) (k : FVec Ideal S4096x1 .f32) : FVec Ideal S4096x1 .f32 := maximumf (rowMax s) k

def weights (s : FVec Ideal S4096x256 .f32) (k : FVec Ideal S4096x1 .f32) : FVec Ideal S4096x256 .f32 :=
  exp (subf s (broadcastTo S4096x256 (tops s k) broadcasts_S4096x1_S4096x256))

def dens (s : FVec Ideal S4096x256 .f32) (k : FVec Ideal S4096x1 .f32) : FVec Ideal S4096x1 .f32 :=
  addf (shapeCast S4096x1 (multiReduction .add [1] S4096 (weights s k) 0x00000000#32 reduces_S4096x256_S4096 (.inl rfl) rfl) shapeCasts_S4096_S4096x1)
    (exp (subf k (tops s k)))

theorem tops_apply (s : FVec Ideal S4096x256 .f32) (k : FVec Ideal S4096x1 .f32) (R : Fin 4096) :
    tops s k (ix2 R 0) = Attn.top (fun x => s (ix2 R x)) (k (ix2 R 0)) := by
  pointwise [tops, rowMax]
  rfl

theorem weights_apply (s : FVec Ideal S4096x256 .f32) (k : FVec Ideal S4096x1 .f32) (R : Fin 4096) (x : Fin 256) :
    weights s k (ix2 R x) = Ideal.exp (s (ix2 R x) - Attn.top (fun x => s (ix2 R x)) (k (ix2 R 0))) := by
  pointwise [weights]
  rw [tops_apply]

theorem dens_apply (s : FVec Ideal S4096x256 .f32) (k : FVec Ideal S4096x1 .f32) (R : Fin 4096) :
    dens s k (ix2 R 0) = ∑ x, Ideal.exp (s (ix2 R x) - Attn.top (fun x => s (ix2 R x)) (k (ix2 R 0)))
      + Ideal.exp (k (ix2 R 0) - Attn.top (fun x => s (ix2 R x)) (k (ix2 R 0))) := by
  pointwise [dens]
  simp only [weights_apply, tops_apply]

theorem pay61_eq (s : FVec Ideal S4096x256 .f32) (f : Fin 32 → Vec Ideal S1x1 .f32) :
    k0_pay61 (F := Ideal) s (rowMax s) (sinkRow (f 0)) (sinkRow (f 1)) (sinkRow (f 2)) (sinkRow (f 3)) (sinkRow (f 4)) (sinkRow (f 5)) (sinkRow (f 6)) (sinkRow (f 7)) (sinkRow (f 8)) (sinkRow (f 9)) (sinkRow (f 10)) (sinkRow (f 11)) (sinkRow (f 12)) (sinkRow (f 13)) (sinkRow (f 14)) (sinkRow (f 15)) (sinkRow (f 16)) (sinkRow (f 17)) (sinkRow (f 18)) (sinkRow (f 19)) (sinkRow (f 20)) (sinkRow (f 21)) (sinkRow (f 22)) (sinkRow (f 23)) (f 24) (f 25) (f 26) (f 27) (f 28) (f 29) (f 30) (f 31) = dens s (stackCol fun n => sinkRow (f n)) := by
  unfold k0_pay61 k0_pay60 k0_pay59
  rw [pay58_eq]
  rfl

theorem pay62_eq (s : FVec Ideal S4096x256 .f32) (f : Fin 32 → Vec Ideal S1x1 .f32) :
    k0_pay62 (F := Ideal) s (rowMax s) (sinkRow (f 0)) (sinkRow (f 1)) (sinkRow (f 2)) (sinkRow (f 3)) (sinkRow (f 4)) (sinkRow (f 5)) (sinkRow (f 6)) (sinkRow (f 7)) (sinkRow (f 8)) (sinkRow (f 9)) (sinkRow (f 10)) (sinkRow (f 11)) (sinkRow (f 12)) (sinkRow (f 13)) (sinkRow (f 14)) (sinkRow (f 15)) (sinkRow (f 16)) (sinkRow (f 17)) (sinkRow (f 18)) (sinkRow (f 19)) (sinkRow (f 20)) (sinkRow (f 21)) (sinkRow (f 22)) (sinkRow (f 23)) (f 24) (f 25) (f 26) (f 27) (f 28) (f 29) (f 30) (f 31) = weights s (stackCol fun n => sinkRow (f n)) := by
  unfold k0_pay62 k0_pay60 k0_pay59
  rw [pay58_eq]
  rfl

section
variable (i : grid0.Coords) (x0 : Q0) (x1 : KP) (x2 : KC) (x3 : KP) (x4 : KC) (x5 : SR)

theorem rowMax_eq : k0_pay111 (F := Ideal) i x0 x1 x2 x3 x4 x5 = rowMax (k0_pay110 i x0 x1 x2 x3 x4 x5) := by
  unfold k0_pay111 k0_pay110 k0_pay33 rowMax
  rfl

theorem sink_112 : k0_pay112 (F := Ideal) i x0 x1 x2 x3 x4 x5 = sinkRow (sinkLanes x5 0) := by
  rfl

theorem sink_113 : k0_pay113 (F := Ideal) i x0 x1 x2 x3 x4 x5 = sinkRow (sinkLanes x5 1) := by
  rfl

theorem sink_114 : k0_pay114 (F := Ideal) i x0 x1 x2 x3 x4 x5 = sinkRow (sinkLanes x5 2) := by
  rfl

theorem sink_115 : k0_pay115 (F := Ideal) i x0 x1 x2 x3 x4 x5 = sinkRow (sinkLanes x5 3) := by
  rfl

theorem sink_116 : k0_pay116 (F := Ideal) i x0 x1 x2 x3 x4 x5 = sinkRow (sinkLanes x5 4) := by
  rfl

theorem sink_117 : k0_pay117 (F := Ideal) i x0 x1 x2 x3 x4 x5 = sinkRow (sinkLanes x5 5) := by
  rfl

theorem sink_118 : k0_pay118 (F := Ideal) i x0 x1 x2 x3 x4 x5 = sinkRow (sinkLanes x5 6) := by
  rfl

theorem sink_119 : k0_pay119 (F := Ideal) i x0 x1 x2 x3 x4 x5 = sinkRow (sinkLanes x5 7) := by
  rfl

theorem sink_120 : k0_pay120 (F := Ideal) i x0 x1 x2 x3 x4 x5 = sinkRow (sinkLanes x5 8) := by
  rfl

theorem sink_121 : k0_pay121 (F := Ideal) i x0 x1 x2 x3 x4 x5 = sinkRow (sinkLanes x5 9) := by
  rfl

theorem sink_122 : k0_pay122 (F := Ideal) i x0 x1 x2 x3 x4 x5 = sinkRow (sinkLanes x5 10) := by
  rfl

theorem sink_123 : k0_pay123 (F := Ideal) i x0 x1 x2 x3 x4 x5 = sinkRow (sinkLanes x5 11) := by
  rfl

theorem sink_124 : k0_pay124 (F := Ideal) i x0 x1 x2 x3 x4 x5 = sinkRow (sinkLanes x5 12) := by
  rfl

theorem sink_125 : k0_pay125 (F := Ideal) i x0 x1 x2 x3 x4 x5 = sinkRow (sinkLanes x5 13) := by
  rfl

theorem sink_126 : k0_pay126 (F := Ideal) i x0 x1 x2 x3 x4 x5 = sinkRow (sinkLanes x5 14) := by
  rfl

theorem sink_127 : k0_pay127 (F := Ideal) i x0 x1 x2 x3 x4 x5 = sinkRow (sinkLanes x5 15) := by
  rfl

theorem sink_128 : k0_pay128 (F := Ideal) i x0 x1 x2 x3 x4 x5 = sinkRow (sinkLanes x5 16) := by
  rfl

theorem sink_129 : k0_pay129 (F := Ideal) i x0 x1 x2 x3 x4 x5 = sinkRow (sinkLanes x5 17) := by
  rfl

theorem sink_130 : k0_pay130 (F := Ideal) i x0 x1 x2 x3 x4 x5 = sinkRow (sinkLanes x5 18) := by
  rfl

theorem sink_131 : k0_pay131 (F := Ideal) i x0 x1 x2 x3 x4 x5 = sinkRow (sinkLanes x5 19) := by
  rfl

theorem sink_132 : k0_pay132 (F := Ideal) i x0 x1 x2 x3 x4 x5 = sinkRow (sinkLanes x5 20) := by
  rfl

theorem sink_133 : k0_pay133 (F := Ideal) i x0 x1 x2 x3 x4 x5 = sinkRow (sinkLanes x5 21) := by
  rfl

theorem sink_134 : k0_pay134 (F := Ideal) i x0 x1 x2 x3 x4 x5 = sinkRow (sinkLanes x5 22) := by
  rfl

theorem sink_135 : k0_pay135 (F := Ideal) i x0 x1 x2 x3 x4 x5 = sinkRow (sinkLanes x5 23) := by
  rfl

theorem dens_eq : k0_pay136 (F := Ideal) i x0 x1 x2 x3 x4 x5 = dens (k0_pay110 i x0 x1 x2 x3 x4 x5) (sinkCol x5) := by
  unfold k0_pay136
  rw [rowMax_eq, sink_112, sink_113, sink_114, sink_115, sink_116, sink_117, sink_118, sink_119, sink_120, sink_121, sink_122, sink_123, sink_124, sink_125, sink_126, sink_127, sink_128, sink_129, sink_130, sink_131, sink_132, sink_133, sink_134, sink_135]
  exact pay61_eq _ (sinkLanes x5)

theorem weights_eq : k0_pay137 (F := Ideal) i x0 x1 x2 x3 x4 x5 = weights (k0_pay110 i x0 x1 x2 x3 x4 x5) (sinkCol x5) := by
  unfold k0_pay137
  rw [rowMax_eq, sink_112, sink_113, sink_114, sink_115, sink_116, sink_117, sink_118, sink_119, sink_120, sink_121, sink_122, sink_123, sink_124, sink_125, sink_126, sink_127, sink_128, sink_129, sink_130, sink_131, sink_132, sink_133, sink_134, sink_135]
  exact pay62_eq _ (sinkLanes x5)
end

end Cert.KernelIdeal.RefValue

end
-- ==== Proof.AttentionIndex.lean ====
/- Which block of its array each of the banded attention kernel's windows holds at a point of the grid. -/
module

public import proofs.«01_k».proof.Proof.AttentionKernel
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.Proof

/-! ## The windows' blocks -/

theorem idx : ∀ t : Fin cfg0.N, win0_0.index t = ![t.val / 8, 0, t.val % 8, 0] ∧ win0_1.index t = ![t.val / 8, 0, 4 * (t.val % 8) - 1, 0]
    ∧ win0_2.index t = ![t.val / 8, 0, t.val % 8, 0] ∧ win0_3.index t = ![t.val / 8, 0, 4 * (t.val % 8) - 1, 0]
    ∧ win0_4.index t = ![t.val / 8, 0, t.val % 8, 0] ∧ win0_5.index t = ![0, 0] ∧ win0_6.index t = ![t.val / 8, 0, t.val % 8, 0]
    ∧ (grid0.coords t 2).val = t.val % 8 :=
  (by decide +kernel : ∀ t : Fin grid0.N, _)

end Cert.KernelIdeal.RefValue

end
-- ==== Proof.AttentionBlocks.lean ====
/- What the banded attention kernel's windows read, in terms of the call's own arguments. -/
module

public import proofs.«01_k».proof.Proof.AttentionIndex
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## The host's preparation of the operands -/

/-- The queries, scaled and laid out with a position's heads in one row. -/
def queries (x : Vec Ideal S16x4096x8x64 .f32) : Vec Ideal S16x1x4096x512 .f32 :=
  shapeCast S16x1x4096x512 (mulf (F := Ideal) x (broadcastInDim S16x4096x8x64 ![] bcast_S_S16x4096x8x64 (constant S_ .f32 0x3E000000#32))) shapeCasts_S16x4096x8x64_S16x1x4096x512

/-- Keys or values, each head's channels twice over. -/
def doubled (x : Vec Ideal S16x4096x2x64 .f32) : Vec Ideal S16x1x4096x256 .f32 :=
  shapeCast S16x1x4096x256 (concatenate S16x4096x2x128 3 [⟨S16x4096x2x64, x⟩, ⟨S16x4096x2x64, x⟩] concatenates_S16x4096x2x64_S16x4096x2x64_S16x4096x2x128_d3) shapeCasts_S16x4096x2x128_S16x1x4096x256

/-- The sinks' logits, filled up to a row of 128. -/
def sinkLine (x : Vec Ideal S8 .f32) : Vec Ideal S1x128 .f32 :=
  shapeCast S1x128 (pad S128 ![0] ![120] ![0] x (sitofp (F := Ideal) .f32 (constantI S_ 32 0#32)) pads_S8_S128_01200 h_S_) shapeCasts_S128_S1x128

theorem V_main_v3 (c : Dev nD) : V m c main_v3 = queries (m ((c : Thread nD τ).loc main_arg0)) := by
  unfold V
  simp only [List.flatten_cons, List.flatten_nil, List.append_nil, List.cons_append, List.nil_append]
  after_results
  funext i
  rfl

theorem V_main_v8 (c : Dev nD) : V m c main_v8 = doubled (m ((c : Thread nD τ).loc main_arg1)) := by
  unfold V
  simp only [List.flatten_cons, List.flatten_nil, List.append_nil, List.cons_append, List.nil_append]
  after_results
  funext i
  rfl

theorem V_main_v11 (c : Dev nD) : V m c main_v11 = doubled (m ((c : Thread nD τ).loc main_arg2)) := by
  unfold V
  simp only [List.flatten_cons, List.flatten_nil, List.append_nil, List.cons_append, List.nil_append]
  after_results
  funext i
  rfl

theorem V_main_v5 (c : Dev nD) : V m c main_v5 = sinkLine (m ((c : Thread nD τ).loc main_arg3)) := by
  unfold V
  simp only [List.flatten_cons, List.flatten_nil, List.append_nil, List.cons_append, List.nil_append]
  after_results_simp
  rfl

theorem queries_apply (x : Vec Ideal S16x4096x8x64 .f32) (b : Fin 16) (r : Fin 4096) (l : Fin 512) :
    queries x (ix4 b 0 r l) = (x (ix4 b r ⟨l / 64, by omega⟩ ⟨l % 64, by omega⟩) : EReal) * Attn.scale := by
  pointwise [queries]
  rfl

theorem doubled_apply (x : Vec Ideal S16x4096x2x64 .f32) (b : Fin 16) (r : Fin 4096) (l : Fin 256) :
    doubled x (ix4 b 0 r l) = x (ix4 b r ⟨l / 128, by omega⟩ ⟨l % 64, by omega⟩) := by
  pointwise [doubled]
  split
  · exact congrArg x (by congr 1; exact Fin.ext (by simp; omega))
  · exact congrArg x (by congr 1; exact Fin.ext (by simp; omega))

theorem sinkLine_apply (x : Vec Ideal S8 .f32) (l : Fin 8) :
    sinkLine x (ix2 0 ⟨l, by omega⟩) = x (ix1 l) := by
  pointwise [sinkLine]

/-! ## The blocks -/

theorem read0 (W : Vec Ideal S16x1x4096x512 .bf16) (t : Fin cfg0.N) (r : Fin 512) (l : Fin 512) (b : Fin 16) (hb : b.val = t.val / 8)
    (R : Fin 4096) (hR : R.val = t.val % 8 * 512 + r.val) :
    (win0_0.blk t).view.read (Elt Ideal) W (ix4 0 0 r l) = W (ix4 b 0 R l) := by
  blk_ext [idx t]

theorem blk0 (c : Dev nD) (t : Fin cfg0.N) (r : Fin 512) (l : Fin 512) (b : Fin 16) (hb : b.val = t.val / 8)
    (R : Fin 4096) (hR : R.val = t.val % 8 * 512 + r.val) :
    iblk m c 0 t (ix4 0 0 r l) = queries (m ((c : Thread nD τ).loc main_arg0)) (ix4 b 0 R l) :=
  (read0 (V m c main_v3) t r l b hb R hR).trans (congrFun (V_main_v3 m c) _)

theorem read1 (W : Vec Ideal S16x1x4096x256 .bf16) (t : Fin cfg0.N) (r : Fin 128) (l : Fin 256) (b : Fin 16) (hb : b.val = t.val / 8)
    (R : Fin 4096) (hR : R.val = (4 * (t.val % 8) - 1) * 128 + r.val) :
    (win0_1.blk t).view.read (Elt Ideal) W (ix4 0 0 r l) = W (ix4 b 0 R l) := by
  blk_ext [idx t]

theorem blk1 (c : Dev nD) (t : Fin cfg0.N) (r : Fin 128) (l : Fin 256) (b : Fin 16) (hb : b.val = t.val / 8)
    (R : Fin 4096) (hR : R.val = (4 * (t.val % 8) - 1) * 128 + r.val) :
    iblk m c 1 t (ix4 0 0 r l) = doubled (m ((c : Thread nD τ).loc main_arg1)) (ix4 b 0 R l) :=
  (read1 (V m c main_v8) t r l b hb R hR).trans (congrFun (V_main_v8 m c) _)

theorem read2 (W : Vec Ideal S16x1x4096x256 .bf16) (t : Fin cfg0.N) (r : Fin 512) (l : Fin 256) (b : Fin 16) (hb : b.val = t.val / 8)
    (R : Fin 4096) (hR : R.val = t.val % 8 * 512 + r.val) :
    (win0_2.blk t).view.read (Elt Ideal) W (ix4 0 0 r l) = W (ix4 b 0 R l) := by
  blk_ext [idx t]

theorem blk2 (c : Dev nD) (t : Fin cfg0.N) (r : Fin 512) (l : Fin 256) (b : Fin 16) (hb : b.val = t.val / 8)
    (R : Fin 4096) (hR : R.val = t.val % 8 * 512 + r.val) :
    iblk m c 2 t (ix4 0 0 r l) = doubled (m ((c : Thread nD τ).loc main_arg1)) (ix4 b 0 R l) :=
  (read2 (V m c main_v8) t r l b hb R hR).trans (congrFun (V_main_v8 m c) _)

theorem read3 (W : Vec Ideal S16x1x4096x256 .bf16) (t : Fin cfg0.N) (r : Fin 128) (l : Fin 256) (b : Fin 16) (hb : b.val = t.val / 8)
    (R : Fin 4096) (hR : R.val = (4 * (t.val % 8) - 1) * 128 + r.val) :
    (win0_3.blk t).view.read (Elt Ideal) W (ix4 0 0 r l) = W (ix4 b 0 R l) := by
  blk_ext [idx t]

theorem blk3 (c : Dev nD) (t : Fin cfg0.N) (r : Fin 128) (l : Fin 256) (b : Fin 16) (hb : b.val = t.val / 8)
    (R : Fin 4096) (hR : R.val = (4 * (t.val % 8) - 1) * 128 + r.val) :
    iblk m c 3 t (ix4 0 0 r l) = doubled (m ((c : Thread nD τ).loc main_arg2)) (ix4 b 0 R l) :=
  (read3 (V m c main_v11) t r l b hb R hR).trans (congrFun (V_main_v11 m c) _)

theorem read4 (W : Vec Ideal S16x1x4096x256 .bf16) (t : Fin cfg0.N) (r : Fin 512) (l : Fin 256) (b : Fin 16) (hb : b.val = t.val / 8)
    (R : Fin 4096) (hR : R.val = t.val % 8 * 512 + r.val) :
    (win0_4.blk t).view.read (Elt Ideal) W (ix4 0 0 r l) = W (ix4 b 0 R l) := by
  blk_ext [idx t]

theorem blk4 (c : Dev nD) (t : Fin cfg0.N) (r : Fin 512) (l : Fin 256) (b : Fin 16) (hb : b.val = t.val / 8)
    (R : Fin 4096) (hR : R.val = t.val % 8 * 512 + r.val) :
    iblk m c 4 t (ix4 0 0 r l) = doubled (m ((c : Thread nD τ).loc main_arg2)) (ix4 b 0 R l) :=
  (read4 (V m c main_v11) t r l b hb R hR).trans (congrFun (V_main_v11 m c) _)

theorem read5 (W : Vec Ideal S1x128 .f32) (t : Fin cfg0.N) (l : Fin 128) : (win0_5.blk t).view.read (Elt Ideal) W (ix2 0 l) = W (ix2 0 l) := by
  blk_ext [idx t]

theorem blk5 (c : Dev nD) (t : Fin cfg0.N) (l : Fin 8) :
    iblk m c 5 t (ix2 0 ⟨l, by omega⟩) = m ((c : Thread nD τ).loc main_arg3) (ix1 l) :=
  (read5 (V m c main_v5) t _).trans ((congrFun (V_main_v5 m c) _).trans (sinkLine_apply _ l))

end Cert.KernelIdeal.RefValue

end
-- ==== Proof.AttentionTiles.lean ====
/- The sixteen tiles of the banded attention kernel's result at an index. -/
module

public import proofs.«01_k».proof.Proof.Gen.KernelIdeal.Value
public import proofs.«01_k».proof.Proof.AttentionKernel
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.RefValue

open Cert.KernelIdeal Cert.KernelIdeal.Gen Idealize.ShloMosaic Idealize.ShloMosaic.TcCoe Idealize.SL.Sem
open Cert.Proof

/-! ## The sixteen tiles of the result -/

/-- One entry of tile `n` of the result: the lower 64 lanes from the tile's first 128 rows of weights, the upper from its last. -/
def cell (v : FVec Ideal S640x128 .bf16) (den : FVec Ideal S4096x1 .f32) (p : FVec Ideal S4096x256 .bf16) (n : Fin 16) (a l : Fin 128) : EReal :=
  Ideal.div (∑ x : Fin 256, p (ix2 ⟨256 * n + 128 * (l / 64) + a, by omega⟩ x) * v (ix2 ⟨128 * (n / 4) + x, by omega⟩ l))
    (den (ix2 ⟨256 * n + 128 * (l / 64) + a, by omega⟩ 0))

theorem half_word : ∀ l : Fin 128, Scalar.cmpi .slt (BitVec.ofNat 32 l) 64#32 = if l.val < 64 then 1#1 else 0#1 := by
  decide +kernel

theorem select_cell (v : FVec Ideal S640x128 .bf16) (den : FVec Ideal S4096x1 .f32) (p : FVec Ideal S4096x256 .bf16) (n : Fin 16) (a l : Fin 128)
    {R R' : Fin 4096} {J : Fin 256 → Fin 640} (hR : R.val = 256 * n + a) (hR' : R'.val = 256 * n + 128 + a) (hJ : ∀ x, (J x).val = 128 * (n / 4) + x) :
    Scalar.select (Scalar.cmpi .slt (BitVec.ofNat 32 l) 64#32)
      (Ideal.div (∑ x : Fin 256, p (ix2 R x) * v (ix2 (J x) l)) (den (ix2 R 0)))
      (Ideal.div (∑ x : Fin 256, p (ix2 R' x) * v (ix2 (J x) l)) (den (ix2 R' 0))) = cell v den p n a l := by
  have e : ∀ x : Fin 256, J x = ⟨128 * (n / 4) + x, by omega⟩ := fun x => Fin.ext (hJ x)
  rw [half_word, Attn.select_word, cell]
  by_cases h : l.val < 64
  · have hr : R = ⟨256 * n + 128 * (l / 64) + a, by omega⟩ := Fin.ext (by show R.val = 256 * n + 128 * (l.val / 64) + a; omega)
    rw [if_pos h, hr]
    simp only [e]
  · have hr : R' = ⟨256 * n + 128 * (l / 64) + a, by omega⟩ := Fin.ext (by show R'.val = 256 * n + 128 * (l.val / 64) + a; omega)
    rw [if_neg h, hr]
    simp only [e]

variable (v : FVec Ideal S640x128 .bf16) (den : FVec Ideal S4096x1 .f32) (p : FVec Ideal S4096x256 .bf16) (a l : Fin 128)

theorem tile0 : k0_pay63 (F := Ideal) k0_pay2 v den p (ix4 0 0 a l) = cell v den p 0 a l := by
  pointwise [k0_pay63, k0_pay2]
  exact select_cell v den p 0 a l (by simp <;> omega) (by simp <;> omega) (fun _ => by simp)

theorem tile1 : k0_pay64 (F := Ideal) k0_pay2 v den p (ix4 0 0 a l) = cell v den p 1 a l := by
  pointwise [k0_pay64, k0_pay2]
  exact select_cell v den p 1 a l (by simp <;> omega) (by simp <;> omega) (fun _ => by simp)

theorem tile2 : k0_pay65 (F := Ideal) k0_pay2 v den p (ix4 0 0 a l) = cell v den p 2 a l := by
  pointwise [k0_pay65, k0_pay2]
  exact select_cell v den p 2 a l (by simp <;> omega) (by simp <;> omega) (fun _ => by simp)

theorem tile3 : k0_pay68 (F := Ideal) k0_pay2 den (k0_pay66 v) (k0_pay67 p) (constant S256x128 .f32 0x00000000#32) (ix4 0 0 a l) = cell v den p 3 a l := by
  pointwise [k0_pay68, k0_pay66, k0_pay67, k0_pay2]
  exact select_cell v den p 3 a l (by simp <;> omega) (by simp <;> omega) (fun _ => by simp)

theorem tile4 : k0_pay69 (F := Ideal) k0_pay2 v den p (ix4 0 0 a l) = cell v den p 4 a l := by
  pointwise [k0_pay69, k0_pay2]
  exact select_cell v den p 4 a l (by simp <;> omega) (by simp <;> omega) (fun _ => by simp)

theorem tile5 : k0_pay70 (F := Ideal) k0_pay2 v den p (ix4 0 0 a l) = cell v den p 5 a l := by
  pointwise [k0_pay70, k0_pay2]
  exact select_cell v den p 5 a l (by simp <;> omega) (by simp <;> omega) (fun _ => by simp)

theorem tile6 : k0_pay73 (F := Ideal) k0_pay2 (k0_pay71 v p) (k0_pay72 den) (ix4 0 0 a l) = cell v den p 6 a l := by
  pointwise [k0_pay73, k0_pay71, k0_pay72, k0_pay2]
  exact select_cell v den p 6 a l (by simp <;> omega) (by simp <;> omega) (fun _ => by simp)

theorem tile7 : k0_pay74 (F := Ideal) k0_pay2 v den p (ix4 0 0 a l) = cell v den p 7 a l := by
  pointwise [k0_pay74, k0_pay2]
  exact select_cell v den p 7 a l (by simp <;> omega) (by simp <;> omega) (fun _ => by simp)

theorem tile8 : k0_pay75 (F := Ideal) k0_pay2 v den p (ix4 0 0 a l) = cell v den p 8 a l := by
  pointwise [k0_pay75, k0_pay2]
  exact select_cell v den p 8 a l (by simp <;> omega) (by simp <;> omega) (fun _ => by simp)

theorem tile9 : k0_pay79 (F := Ideal) k0_pay2 (k0_pay77 v den p) (k0_pay78 v den p) (ix4 0 0 a l) = cell v den p 9 a l := by
  pointwise [k0_pay79, k0_pay77, k0_pay78, k0_pay76, k0_pay2]
  exact select_cell v den p 9 a l (by simp <;> omega) (by simp <;> omega) (fun _ => by simp)

theorem tile10 : k0_pay80 (F := Ideal) k0_pay2 v den p (ix4 0 0 a l) = cell v den p 10 a l := by
  pointwise [k0_pay80, k0_pay2]
  exact select_cell v den p 10 a l (by simp <;> omega) (by simp <;> omega) (fun _ => by simp)

theorem tile11 : k0_pay81 (F := Ideal) k0_pay2 v den p (ix4 0 0 a l) = cell v den p 11 a l := by
  pointwise [k0_pay81, k0_pay2]
  exact select_cell v den p 11 a l (by simp <;> omega) (by simp <;> omega) (fun _ => by simp)

theorem tile12 : k0_pay83 (F := Ideal) (k0_pay82 k0_pay2 v den p) (ix4 0 0 a l) = cell v den p 12 a l := by
  pointwise [k0_pay83, k0_pay82, k0_pay2]
  exact select_cell v den p 12 a l (by simp <;> omega) (by simp <;> omega) (fun _ => by simp)

theorem tile13 : k0_pay84 (F := Ideal) k0_pay2 v den p (ix4 0 0 a l) = cell v den p 13 a l := by
  pointwise [k0_pay84, k0_pay2]
  exact select_cell v den p 13 a l (by simp <;> omega) (by simp <;> omega) (fun _ => by simp)

theorem tile14 : k0_pay85 (F := Ideal) k0_pay2 v den p (ix4 0 0 a l) = cell v den p 14 a l := by
  pointwise [k0_pay85, k0_pay2]
  exact select_cell v den p 14 a l (by simp <;> omega) (by simp <;> omega) (fun _ => by simp)

theorem tile15 : k0_pay1 (F := Ideal) (k0_pay86 k0_pay2 v den p) (ix4 0 0 a l) = cell v den p 15 a l := by
  pointwise [k0_pay1, k0_pay86, k0_pay2]
  exact select_cell v den p 15 a l (by simp <;> omega) (by simp <;> omega) (fun _ => by simp)

end Cert.KernelIdeal.RefValue

end
-- ==== Proof.AttentionOutput.lean ====
/- The banded attention kernel's block of results, tile by tile. -/
module

public import proofs.«01_k».proof.Proof.AttentionTiles
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.RefValue

open Cert.KernelIdeal Cert.KernelIdeal.Gen Idealize.ShloMosaic Idealize.ShloMosaic.TcCoe Idealize.SL.Sem
open Cert.Proof

theorem piece_eq (f : S1x1x128x128.Idx → EReal) (v v' : FVec Ideal S640x128 .bf16) (den : FVec Ideal S4096x1 .f32) (p : FVec Ideal S4096x256 .bf16)
    (n n' : Fin 16) (a l : Fin 128) (hf : ∀ a l : Fin 128, f (ix4 0 0 a l) = cell v den p n a l) (x : S1x1x128x128.Idx)
    (hn : n.val = n'.val) (ha : (x 2).val = a.val) (hl : (x 3).val = l.val) (hv : v' = v) : f x = cell v' den p n' a l := by
  obtain rfl : n = n' := Fin.ext hn
  subst hv
  have hx : x = ix4 0 0 a l := by
    funext b
    match b with
    | ⟨0, _⟩ => exact Fin.ext (by have h : (x 0).val < 1 := (x 0).isLt
                                  show (x 0).val = 0
                                  omega)
    | ⟨1, _⟩ => exact Fin.ext (by have h : (x 1).val < 1 := (x 1).isLt
                                  show (x 1).val = 0
                                  omega)
    | ⟨2, _⟩ => exact Fin.ext ha
    | ⟨3, _⟩ => exact Fin.ext hl
  rw [hx, hf]

theorem out_apply (i : grid0.Coords) (x0 : Q0) (x1 : KP) (x2 : KC) (x3 : KP) (x4 : KC) (x5 : SR) (r c : Fin 512) :
    out0_6 (F := Ideal) i x0 x1 x2 x3 x4 x5 (ix4 0 0 r c)
      = cell (if c.val / 256 = 0 then k0_pay92 i x0 x1 x2 x3 x4 x5 else k0_pay93 i x0 x1 x2 x3 x4 x5) (k0_pay136 i x0 x1 x2 x3 x4 x5)
        (k0_pay137 i x0 x1 x2 x3 x4 x5) ⟨4 * (r / 128) + c / 128, by omega⟩ ⟨r % 128, by omega⟩ ⟨c % 128, by omega⟩ := by
  unfold out0_6 k0_pay87
  generalize k0_pay92 (F := Ideal) i x0 x1 x2 x3 x4 x5 = v0
  generalize k0_pay93 (F := Ideal) i x0 x1 x2 x3 x4 x5 = v1
  generalize k0_pay136 (F := Ideal) i x0 x1 x2 x3 x4 x5 = den
  generalize k0_pay137 (F := Ideal) i x0 x1 x2 x3 x4 x5 = p
  canon_tiles x h
  · change r.val = 384 + (x 2).val at h2
    change c.val = 384 + (x 3).val at h3
    exact piece_eq _ v1 _ den p 15 _ _ _ (tile15 v1 den p) x (by show 15 = 4 * (r.val / 128) + c.val / 128; omega)
      (by show (x 2).val = r.val % 128; omega) (by show (x 3).val = c.val % 128; omega) (if_neg (by omega))
  · change r.val = 384 + (x 2).val at h2
    change c.val = 256 + (x 3).val at h3
    exact piece_eq _ v1 _ den p 14 _ _ _ (tile14 v1 den p) x (by show 14 = 4 * (r.val / 128) + c.val / 128; omega)
      (by show (x 2).val = r.val % 128; omega) (by show (x 3).val = c.val % 128; omega) (if_neg (by omega))
  · change r.val = 384 + (x 2).val at h2
    change c.val = 128 + (x 3).val at h3
    exact piece_eq _ v0 _ den p 13 _ _ _ (tile13 v0 den p) x (by show 13 = 4 * (r.val / 128) + c.val / 128; omega)
      (by show (x 2).val = r.val % 128; omega) (by show (x 3).val = c.val % 128; omega) (if_pos (by omega))
  · change r.val = 384 + (x 2).val at h2
    change c.val = (x 3).val at h3
    exact piece_eq _ v0 _ den p 12 _ _ _ (tile12 v0 den p) x (by show 12 = 4 * (r.val / 128) + c.val / 128; omega)
      (by show (x 2).val = r.val % 128; omega) (by show (x 3).val = c.val % 128; omega) (if_pos (by omega))
  · change r.val = 256 + (x 2).val at h2
    change c.val = 384 + (x 3).val at h3
    exact piece_eq _ v1 _ den p 11 _ _ _ (tile11 v1 den p) x (by show 11 = 4 * (r.val / 128) + c.val / 128; omega)
      (by show (x 2).val = r.val % 128; omega) (by show (x 3).val = c.val % 128; omega) (if_neg (by omega))
  · change r.val = 256 + (x 2).val at h2
    change c.val = 256 + (x 3).val at h3
    exact piece_eq _ v1 _ den p 10 _ _ _ (tile10 v1 den p) x (by show 10 = 4 * (r.val / 128) + c.val / 128; omega)
      (by show (x 2).val = r.val % 128; omega) (by show (x 3).val = c.val % 128; omega) (if_neg (by omega))
  · change r.val = 256 + (x 2).val at h2
    change c.val = 128 + (x 3).val at h3
    exact piece_eq _ v0 _ den p 9 _ _ _ (tile9 v0 den p) x (by show 9 = 4 * (r.val / 128) + c.val / 128; omega)
      (by show (x 2).val = r.val % 128; omega) (by show (x 3).val = c.val % 128; omega) (if_pos (by omega))
  · change r.val = 256 + (x 2).val at h2
    change c.val = (x 3).val at h3
    exact piece_eq _ v0 _ den p 8 _ _ _ (tile8 v0 den p) x (by show 8 = 4 * (r.val / 128) + c.val / 128; omega)
      (by show (x 2).val = r.val % 128; omega) (by show (x 3).val = c.val % 128; omega) (if_pos (by omega))
  · change r.val = 128 + (x 2).val at h2
    change c.val = 384 + (x 3).val at h3
    exact piece_eq _ v1 _ den p 7 _ _ _ (tile7 v1 den p) x (by show 7 = 4 * (r.val / 128) + c.val / 128; omega)
      (by show (x 2).val = r.val % 128; omega) (by show (x 3).val = c.val % 128; omega) (if_neg (by omega))
  · change r.val = 128 + (x 2).val at h2
    change c.val = 256 + (x 3).val at h3
    exact piece_eq _ v1 _ den p 6 _ _ _ (tile6 v1 den p) x (by show 6 = 4 * (r.val / 128) + c.val / 128; omega)
      (by show (x 2).val = r.val % 128; omega) (by show (x 3).val = c.val % 128; omega) (if_neg (by omega))
  · change r.val = 128 + (x 2).val at h2
    change c.val = 128 + (x 3).val at h3
    exact piece_eq _ v0 _ den p 5 _ _ _ (tile5 v0 den p) x (by show 5 = 4 * (r.val / 128) + c.val / 128; omega)
      (by show (x 2).val = r.val % 128; omega) (by show (x 3).val = c.val % 128; omega) (if_pos (by omega))
  · change r.val = 128 + (x 2).val at h2
    change c.val = (x 3).val at h3
    exact piece_eq _ v0 _ den p 4 _ _ _ (tile4 v0 den p) x (by show 4 = 4 * (r.val / 128) + c.val / 128; omega)
      (by show (x 2).val = r.val % 128; omega) (by show (x 3).val = c.val % 128; omega) (if_pos (by omega))
  · change r.val = (x 2).val at h2
    change c.val = 384 + (x 3).val at h3
    exact piece_eq _ v1 _ den p 3 _ _ _ (tile3 v1 den p) x (by show 3 = 4 * (r.val / 128) + c.val / 128; omega)
      (by show (x 2).val = r.val % 128; omega) (by show (x 3).val = c.val % 128; omega) (if_neg (by omega))
  · change r.val = (x 2).val at h2
    change c.val = 256 + (x 3).val at h3
    exact piece_eq _ v1 _ den p 2 _ _ _ (tile2 v1 den p) x (by show 2 = 4 * (r.val / 128) + c.val / 128; omega)
      (by show (x 2).val = r.val % 128; omega) (by show (x 3).val = c.val % 128; omega) (if_neg (by omega))
  · change r.val = (x 2).val at h2
    change c.val = 128 + (x 3).val at h3
    exact piece_eq _ v0 _ den p 1 _ _ _ (tile1 v0 den p) x (by show 1 = 4 * (r.val / 128) + c.val / 128; omega)
      (by show (x 2).val = r.val % 128; omega) (by show (x 3).val = c.val % 128; omega) (if_pos (by omega))
  · change r.val = (x 2).val at h2
    change c.val = (x 3).val at h3
    exact piece_eq _ v0 _ den p 0 _ _ _ (tile0 v0 den p) x (by show 0 = 4 * (r.val / 128) + c.val / 128; omega)
      (by show (x 2).val = r.val % 128; omega) (by show (x 3).val = c.val % 128; omega) (if_pos (by omega))

end Cert.KernelIdeal.RefValue

end
-- ==== Proof.AttentionScores.lean ====
/- One entry of the banded attention kernel's scores, as the scaled product of its query and key. -/
module

public import proofs.«01_k».proof.Proof.AttentionTiles
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.RefValue

open Cert.KernelIdeal Cert.KernelIdeal.Gen Idealize.ShloMosaic Idealize.ShloMosaic.TcCoe Idealize.SL.Sem
open Cert.Proof

/-! ## Reading through the slices -/

theorem qs_apply (x0 : Q0) (n : Fin 16) (r d : Fin 128) :
    qs x0 n (ix4 0 0 r d) = x0 (ix4 0 0 ⟨128 * (n / 4) + r, by omega⟩ ⟨128 * (n % 4) + d, by omega⟩) := by
  match n with
  | ⟨0, _⟩ =>
    show View.ld x0 r0_4 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨1, _⟩ =>
    show View.ld x0 r0_5 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨2, _⟩ =>
    show View.ld x0 r0_6 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨3, _⟩ =>
    show View.ld x0 r0_7 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨4, _⟩ =>
    show View.ld x0 r0_8 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨5, _⟩ =>
    show View.ld x0 r0_9 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨6, _⟩ =>
    show View.ld x0 r0_10 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨7, _⟩ =>
    show View.ld x0 r0_11 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨8, _⟩ =>
    show View.ld x0 r0_12 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨9, _⟩ =>
    show View.ld x0 r0_13 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨10, _⟩ =>
    show View.ld x0 r0_14 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨11, _⟩ =>
    show View.ld x0 r0_15 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨12, _⟩ =>
    show View.ld x0 r0_16 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨13, _⟩ =>
    show View.ld x0 r0_17 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨14, _⟩ =>
    show View.ld x0 r0_18 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨15, _⟩ =>
    show View.ld x0 r0_19 _ = _
    refine congrArg x0 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  | ⟨n + 16, h⟩ => exact absurd h (by omega)

theorem sinkLanes_apply (x5 : SR) (n : Fin 32) : sinkLanes x5 n (ix2 0 0) = x5 (ix2 0 ⟨n % 8, by omega⟩) := by
  match n with
  | ⟨0, _⟩ =>
    show View.ld x5 r0_20 _ = _
    refine congrArg x5 (funext fun a => Fin.ext ?_)
    rw [Rect.idx_unit_val]
    match a with
    | ⟨0, _⟩ => simp [ix2]
    | ⟨1, _⟩ => simp [ix2]
  | ⟨1, _⟩ =>
    show View.ld x5 r0_21 _ = _
    refine congrArg x5 (funext fun a => Fin.ext ?_)
    rw [Rect.idx_unit_val]
    match a with
    | ⟨0, _⟩ => simp [ix2]
    | ⟨1, _⟩ => simp [ix2]
  | ⟨2, _⟩ =>
    show View.ld x5 r0_22 _ = _
    refine congrArg x5 (funext fun a => Fin.ext ?_)
    rw [Rect.idx_unit_val]
    match a with
    | ⟨0, _⟩ => simp [ix2]
    | ⟨1, _⟩ => simp [ix2]
  | ⟨3, _⟩ =>
    show View.ld x5 r0_23 _ = _
    refine congrArg x5 (funext fun a => Fin.ext ?_)
    rw [Rect.idx_unit_val]
    match a with
    | ⟨0, _⟩ => simp [ix2]
    | ⟨1, _⟩ => simp [ix2]
  | ⟨4, _⟩ =>
    show View.ld x5 r0_24 _ = _
    refine congrArg x5 (funext fun a => Fin.ext ?_)
    rw [Rect.idx_unit_val]
    match a with
    | ⟨0, _⟩ => simp [ix2]
    | ⟨1, _⟩ => simp [ix2]
  | ⟨5, _⟩ =>
    show View.ld x5 r0_25 _ = _
    refine congrArg x5 (funext fun a => Fin.ext ?_)
    rw [Rect.idx_unit_val]
    match a with
    | ⟨0, _⟩ => simp [ix2]
    | ⟨1, _⟩ => simp [ix2]
  | ⟨6, _⟩ =>
    show View.ld x5 r0_26 _ = _
    refine congrArg x5 (funext fun a => Fin.ext ?_)
    rw [Rect.idx_unit_val]
    match a with
    | ⟨0, _⟩ => simp [ix2]
    | ⟨1, _⟩ => simp [ix2]
  | ⟨7, _⟩ =>
    show View.ld x5 r0_27 _ = _
    refine congrArg x5 (funext fun a => Fin.ext ?_)
    rw [Rect.idx_unit_val]
    match a with
    | ⟨0, _⟩ => simp [ix2]
    | ⟨1, _⟩ => simp [ix2]
  | ⟨8, _⟩ =>
    show View.ld x5 r0_20 _ = _
    refine congrArg x5 (funext fun a => Fin.ext ?_)
    rw [Rect.idx_unit_val]
    match a with
    | ⟨0, _⟩ => simp [ix2]
    | ⟨1, _⟩ => simp [ix2]
  | ⟨9, _⟩ =>
    show View.ld x5 r0_21 _ = _
    refine congrArg x5 (funext fun a => Fin.ext ?_)
    rw [Rect.idx_unit_val]
    match a with
    | ⟨0, _⟩ => simp [ix2]
    | ⟨1, _⟩ => simp [ix2]
  | ⟨10, _⟩ =>
    show View.ld x5 r0_22 _ = _
    refine congrArg x5 (funext fun a => Fin.ext ?_)
    rw [Rect.idx_unit_val]
    match a with
    | ⟨0, _⟩ => simp [ix2]
    | ⟨1, _⟩ => simp [ix2]
  | ⟨11, _⟩ =>
    show View.ld x5 r0_23 _ = _
    refine congrArg x5 (funext fun a => Fin.ext ?_)
    rw [Rect.idx_unit_val]
    match a with
    | ⟨0, _⟩ => simp [ix2]
    | ⟨1, _⟩ => simp [ix2]
  | ⟨12, _⟩ =>
    show View.ld x5 r0_24 _ = _
    refine congrArg x5 (funext fun a => Fin.ext ?_)
    rw [Rect.idx_unit_val]
    match a with
    | ⟨0, _⟩ => simp [ix2]
    | ⟨1, _⟩ => simp [ix2]
  | ⟨13, _⟩ =>
    show View.ld x5 r0_25 _ = _
    refine congrArg x5 (funext fun a => Fin.ext ?_)
    rw [Rect.idx_unit_val]
    match a with
    | ⟨0, _⟩ => simp [ix2]
    | ⟨1, _⟩ => simp [ix2]
  | ⟨14, _⟩ =>
    show View.ld x5 r0_26 _ = _
    refine congrArg x5 (funext fun a => Fin.ext ?_)
    rw [Rect.idx_unit_val]
    match a with
    | ⟨0, _⟩ => simp [ix2]
    | ⟨1, _⟩ => simp [ix2]
  | ⟨15, _⟩ =>
    show View.ld x5 r0_27 _ = _
    refine congrArg x5 (funext fun a => Fin.ext ?_)
    rw [Rect.idx_unit_val]
    match a with
    | ⟨0, _⟩ => simp [ix2]
    | ⟨1, _⟩ => simp [ix2]
  | ⟨16, _⟩ =>
    show View.ld x5 r0_20 _ = _
    refine congrArg x5 (funext fun a => Fin.ext ?_)
    rw [Rect.idx_unit_val]
    match a with
    | ⟨0, _⟩ => simp [ix2]
    | ⟨1, _⟩ => simp [ix2]
  | ⟨17, _⟩ =>
    show View.ld x5 r0_21 _ = _
    refine congrArg x5 (funext fun a => Fin.ext ?_)
    rw [Rect.idx_unit_val]
    match a with
    | ⟨0, _⟩ => simp [ix2]
    | ⟨1, _⟩ => simp [ix2]
  | ⟨18, _⟩ =>
    show View.ld x5 r0_22 _ = _
    refine congrArg x5 (funext fun a => Fin.ext ?_)
    rw [Rect.idx_unit_val]
    match a with
    | ⟨0, _⟩ => simp [ix2]
    | ⟨1, _⟩ => simp [ix2]
  | ⟨19, _⟩ =>
    show View.ld x5 r0_23 _ = _
    refine congrArg x5 (funext fun a => Fin.ext ?_)
    rw [Rect.idx_unit_val]
    match a with
    | ⟨0, _⟩ => simp [ix2]
    | ⟨1, _⟩ => simp [ix2]
  | ⟨20, _⟩ =>
    show View.ld x5 r0_24 _ = _
    refine congrArg x5 (funext fun a => Fin.ext ?_)
    rw [Rect.idx_unit_val]
    match a with
    | ⟨0, _⟩ => simp [ix2]
    | ⟨1, _⟩ => simp [ix2]
  | ⟨21, _⟩ =>
    show View.ld x5 r0_25 _ = _
    refine congrArg x5 (funext fun a => Fin.ext ?_)
    rw [Rect.idx_unit_val]
    match a with
    | ⟨0, _⟩ => simp [ix2]
    | ⟨1, _⟩ => simp [ix2]
  | ⟨22, _⟩ =>
    show View.ld x5 r0_26 _ = _
    refine congrArg x5 (funext fun a => Fin.ext ?_)
    rw [Rect.idx_unit_val]
    match a with
    | ⟨0, _⟩ => simp [ix2]
    | ⟨1, _⟩ => simp [ix2]
  | ⟨23, _⟩ =>
    show View.ld x5 r0_27 _ = _
    refine congrArg x5 (funext fun a => Fin.ext ?_)
    rw [Rect.idx_unit_val]
    match a with
    | ⟨0, _⟩ => simp [ix2]
    | ⟨1, _⟩ => simp [ix2]
  | ⟨24, _⟩ =>
    show View.ld x5 r0_20 _ = _
    refine congrArg x5 (funext fun a => Fin.ext ?_)
    rw [Rect.idx_unit_val]
    match a with
    | ⟨0, _⟩ => simp [ix2]
    | ⟨1, _⟩ => simp [ix2]
  | ⟨25, _⟩ =>
    show View.ld x5 r0_21 _ = _
    refine congrArg x5 (funext fun a => Fin.ext ?_)
    rw [Rect.idx_unit_val]
    match a with
    | ⟨0, _⟩ => simp [ix2]
    | ⟨1, _⟩ => simp [ix2]
  | ⟨26, _⟩ =>
    show View.ld x5 r0_22 _ = _
    refine congrArg x5 (funext fun a => Fin.ext ?_)
    rw [Rect.idx_unit_val]
    match a with
    | ⟨0, _⟩ => simp [ix2]
    | ⟨1, _⟩ => simp [ix2]
  | ⟨27, _⟩ =>
    show View.ld x5 r0_23 _ = _
    refine congrArg x5 (funext fun a => Fin.ext ?_)
    rw [Rect.idx_unit_val]
    match a with
    | ⟨0, _⟩ => simp [ix2]
    | ⟨1, _⟩ => simp [ix2]
  | ⟨28, _⟩ =>
    show View.ld x5 r0_24 _ = _
    refine congrArg x5 (funext fun a => Fin.ext ?_)
    rw [Rect.idx_unit_val]
    match a with
    | ⟨0, _⟩ => simp [ix2]
    | ⟨1, _⟩ => simp [ix2]
  | ⟨29, _⟩ =>
    show View.ld x5 r0_25 _ = _
    refine congrArg x5 (funext fun a => Fin.ext ?_)
    rw [Rect.idx_unit_val]
    match a with
    | ⟨0, _⟩ => simp [ix2]
    | ⟨1, _⟩ => simp [ix2]
  | ⟨30, _⟩ =>
    show View.ld x5 r0_26 _ = _
    refine congrArg x5 (funext fun a => Fin.ext ?_)
    rw [Rect.idx_unit_val]
    match a with
    | ⟨0, _⟩ => simp [ix2]
    | ⟨1, _⟩ => simp [ix2]
  | ⟨31, _⟩ =>
    show View.ld x5 r0_27 _ = _
    refine congrArg x5 (funext fun a => Fin.ext ?_)
    rw [Rect.idx_unit_val]
    match a with
    | ⟨0, _⟩ => simp [ix2]
    | ⟨1, _⟩ => simp [ix2]
  | ⟨n + 32, h⟩ => exact absurd h (by omega)

theorem sinkCol_apply (x5 : SR) (R : Fin 4096) : sinkCol x5 (ix2 R 0) = x5 (ix2 0 ⟨R / 128 % 8, by omega⟩) := by
  rw [sinkCol, stackCol_apply]
  refine Eq.trans ?_ (sinkLanes_apply x5 ⟨R / 128, by omega⟩)
  pointwise [sinkRow, k0_pay34]

theorem ks_apply (A B : FVec Ideal S640x128 .bf16) (n : Fin 16) (k : Fin 256) (d : Fin 128) :
    ks A B n (ix2 k d) = (if n.val % 4 < 2 then A else B) (ix2 ⟨128 * (n / 4) + k, by omega⟩ d) := by
  match n with
  | ⟨0, _⟩ =>
    refine Eq.trans (b := A (ix2 ⟨k, by omega⟩ d)) ?_ ?_
    · show extractStridedSlice S256x128 ![0, 0] A slices_S640x128_o0_0_S256x128 (ix2 k d) = _
      pointwise []
    · simp
  | ⟨1, _⟩ =>
    refine Eq.trans (b := A (ix2 ⟨k, by omega⟩ d)) ?_ ?_
    · show extractStridedSlice S256x128 ![0, 0] A slices_S640x128_o0_0_S256x128 (ix2 k d) = _
      pointwise []
    · simp
  | ⟨2, _⟩ =>
    refine Eq.trans (b := B (ix2 ⟨k, by omega⟩ d)) ?_ ?_
    · show extractStridedSlice S256x128 ![0, 0] B slices_S640x128_o0_0_S256x128 (ix2 k d) = _
      pointwise []
    · simp
  | ⟨3, _⟩ =>
    refine Eq.trans (b := B (ix2 ⟨k, by omega⟩ d)) ?_ ?_
    · show extractStridedSlice S256x128 ![0, 0] B slices_S640x128_o0_0_S256x128 (ix2 k d) = _
      pointwise []
    · simp
  | ⟨4, _⟩ =>
    refine Eq.trans (b := A (ix2 ⟨128 + k, by omega⟩ d)) ?_ ?_
    · show extractStridedSlice S256x128 ![128, 0] A slices_S640x128_o128_0_S256x128 (ix2 k d) = _
      pointwise []
    · simp
  | ⟨5, _⟩ =>
    refine Eq.trans (b := A (ix2 ⟨128 + k, by omega⟩ d)) ?_ ?_
    · show extractStridedSlice S256x128 ![128, 0] A slices_S640x128_o128_0_S256x128 (ix2 k d) = _
      pointwise []
    · simp
  | ⟨6, _⟩ =>
    refine Eq.trans (b := B (ix2 ⟨128 + k, by omega⟩ d)) ?_ ?_
    · show extractStridedSlice S256x128 ![128, 0] B slices_S640x128_o128_0_S256x128 (ix2 k d) = _
      pointwise []
    · simp
  | ⟨7, _⟩ =>
    refine Eq.trans (b := B (ix2 ⟨128 + k, by omega⟩ d)) ?_ ?_
    · show extractStridedSlice S256x128 ![128, 0] B slices_S640x128_o128_0_S256x128 (ix2 k d) = _
      pointwise []
    · simp
  | ⟨8, _⟩ =>
    refine Eq.trans (b := A (ix2 ⟨256 + k, by omega⟩ d)) ?_ ?_
    · show extractStridedSlice S256x128 ![256, 0] A slices_S640x128_o256_0_S256x128 (ix2 k d) = _
      pointwise []
    · simp
  | ⟨9, _⟩ =>
    refine Eq.trans (b := A (ix2 ⟨256 + k, by omega⟩ d)) ?_ ?_
    · show extractStridedSlice S256x128 ![256, 0] A slices_S640x128_o256_0_S256x128 (ix2 k d) = _
      pointwise []
    · simp
  | ⟨10, _⟩ =>
    refine Eq.trans (b := B (ix2 ⟨256 + k, by omega⟩ d)) ?_ ?_
    · show extractStridedSlice S256x128 ![256, 0] B slices_S640x128_o256_0_S256x128 (ix2 k d) = _
      pointwise []
    · simp
  | ⟨11, _⟩ =>
    refine Eq.trans (b := B (ix2 ⟨256 + k, by omega⟩ d)) ?_ ?_
    · show extractStridedSlice S256x128 ![256, 0] B slices_S640x128_o256_0_S256x128 (ix2 k d) = _
      pointwise []
    · simp
  | ⟨12, _⟩ =>
    refine Eq.trans (b := A (ix2 ⟨384 + k, by omega⟩ d)) ?_ ?_
    · show extractStridedSlice S256x128 ![384, 0] A slices_S640x128_o384_0_S256x128 (ix2 k d) = _
      pointwise []
    · simp
  | ⟨13, _⟩ =>
    refine Eq.trans (b := A (ix2 ⟨384 + k, by omega⟩ d)) ?_ ?_
    · show extractStridedSlice S256x128 ![384, 0] A slices_S640x128_o384_0_S256x128 (ix2 k d) = _
      pointwise []
    · simp
  | ⟨14, _⟩ =>
    refine Eq.trans (b := B (ix2 ⟨384 + k, by omega⟩ d)) ?_ ?_
    · show extractStridedSlice S256x128 ![384, 0] B slices_S640x128_o384_0_S256x128 (ix2 k d) = _
      pointwise []
    · simp
  | ⟨15, _⟩ =>
    refine Eq.trans (b := B (ix2 ⟨384 + k, by omega⟩ d)) ?_ ?_
    · show extractStridedSlice S256x128 ![384, 0] B slices_S640x128_o384_0_S256x128 (ix2 k d) = _
      pointwise []
    · simp
  | ⟨n + 16, h⟩ => exact absurd h (by omega)

theorem keys0_apply (i : grid0.Coords) (x0 : Q0) (x1 : KP) (x2 : KC) (x3 : KP) (x4 : KC) (x5 : SR) (J : Fin 640) (d : Fin 128) :
    k0_pay90 (F := Ideal) i x0 x1 x2 x3 x4 x5 (ix2 J d) = if h : J.val < 128 then x1 (ix4 0 0 ⟨J, h⟩ ⟨d, by omega⟩) else x2 (ix4 0 0 ⟨J - 128, by omega⟩ ⟨d, by omega⟩) := by
  have e1 : ∀ r : Fin 128, View.ld x1 r0_0 (ix4 0 0 r d) = x1 (ix4 0 0 r ⟨d, by omega⟩) := by
    intro r
    refine congrArg x1 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  have e2 : ∀ r : Fin 512, View.ld x2 r0_1 (ix4 0 0 r d) = x2 (ix4 0 0 r ⟨d, by omega⟩) := by
    intro r
    refine congrArg x2 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  unfold k0_pay90
  pointwise [k0_pay6, k0_pay7, k0_pay8, k0_pay9, k0_pay10]

theorem keys1_apply (i : grid0.Coords) (x0 : Q0) (x1 : KP) (x2 : KC) (x3 : KP) (x4 : KC) (x5 : SR) (J : Fin 640) (d : Fin 128) :
    k0_pay91 (F := Ideal) i x0 x1 x2 x3 x4 x5 (ix2 J d) = if h : J.val < 128 then x1 (ix4 0 0 ⟨J, h⟩ ⟨128 + d, by omega⟩) else x2 (ix4 0 0 ⟨J - 128, by omega⟩ ⟨128 + d, by omega⟩) := by
  have e1 : ∀ r : Fin 128, View.ld x1 r0_2 (ix4 0 0 r d) = x1 (ix4 0 0 r ⟨128 + d, by omega⟩) := by
    intro r
    refine congrArg x1 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  have e2 : ∀ r : Fin 512, View.ld x2 r0_3 (ix4 0 0 r d) = x2 (ix4 0 0 r ⟨128 + d, by omega⟩) := by
    intro r
    refine congrArg x2 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  unfold k0_pay91
  pointwise [k0_pay6, k0_pay7, k0_pay8, k0_pay9, k0_pay10]

theorem vals0_apply (i : grid0.Coords) (x0 : Q0) (x1 : KP) (x2 : KC) (x3 : KP) (x4 : KC) (x5 : SR) (J : Fin 640) (d : Fin 128) :
    k0_pay92 (F := Ideal) i x0 x1 x2 x3 x4 x5 (ix2 J d) = if h : J.val < 128 then x3 (ix4 0 0 ⟨J, h⟩ ⟨d, by omega⟩) else x4 (ix4 0 0 ⟨J - 128, by omega⟩ ⟨d, by omega⟩) := by
  have e1 : ∀ r : Fin 128, View.ld x3 r0_0 (ix4 0 0 r d) = x3 (ix4 0 0 r ⟨d, by omega⟩) := by
    intro r
    refine congrArg x3 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  have e2 : ∀ r : Fin 512, View.ld x4 r0_1 (ix4 0 0 r d) = x4 (ix4 0 0 r ⟨d, by omega⟩) := by
    intro r
    refine congrArg x4 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  unfold k0_pay92
  pointwise [k0_pay6, k0_pay7, k0_pay8, k0_pay9, k0_pay10]

theorem vals1_apply (i : grid0.Coords) (x0 : Q0) (x1 : KP) (x2 : KC) (x3 : KP) (x4 : KC) (x5 : SR) (J : Fin 640) (d : Fin 128) :
    k0_pay93 (F := Ideal) i x0 x1 x2 x3 x4 x5 (ix2 J d) = if h : J.val < 128 then x3 (ix4 0 0 ⟨J, h⟩ ⟨128 + d, by omega⟩) else x4 (ix4 0 0 ⟨J - 128, by omega⟩ ⟨128 + d, by omega⟩) := by
  have e1 : ∀ r : Fin 128, View.ld x3 r0_2 (ix4 0 0 r d) = x3 (ix4 0 0 r ⟨128 + d, by omega⟩) := by
    intro r
    refine congrArg x3 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  have e2 : ∀ r : Fin 512, View.ld x4 r0_3 (ix4 0 0 r d) = x4 (ix4 0 0 r ⟨128 + d, by omega⟩) := by
    intro r
    refine congrArg x4 (funext fun a => Fin.ext ?_)
    rw [Rect.idx_unit_val]
    match a with
    | ⟨0, _⟩ => simp [ix4]
    | ⟨1, _⟩ => simp [ix4]
    | ⟨2, _⟩ => simp [ix4]
    | ⟨3, _⟩ => simp [ix4]
  unfold k0_pay93
  pointwise [k0_pay6, k0_pay7, k0_pay8, k0_pay9, k0_pay10]

/-! ## The bias -/

theorem band_word' (a : Fin 128) (k : Fin 256) :
    Scalar.andi (Scalar.cmpi .sge (Scalar.subi (Scalar.addi 128#32 (BitVec.ofNat 32 a)) (BitVec.ofNat 32 k)) 0#32)
      (Scalar.cmpi .sle (Scalar.subi (Scalar.addi 128#32 (BitVec.ofNat 32 a)) (BitVec.ofNat 32 k)) 127#32)
      = if k.val ≤ 128 + a.val ∧ a.val + 1 ≤ k.val then 1#1 else 0#1 := by
  have h : Scalar.addi 128#32 (BitVec.ofNat 32 a.val) = Scalar.addi (BitVec.ofNat 32 a.val) 128#32 := by
    show 128#32 + BitVec.ofNat 32 a.val = BitVec.ofNat 32 a.val + 128#32
    rw [BitVec.add_comm]
  rw [h]
  exact Attn.band_word a k

theorem mask_word' (n a k : Nat) {x y z : BitVec 1} (hx : x = if k ≤ 128 + a ∧ a + 1 ≤ k then 1#1 else 0#1)
    (hz : z = if 128 ≤ k then 1#1 else 0#1) (hy : y = if 0 < n then 1#1 else 0#1) :
    Scalar.andi x (Scalar.ori z y) = if Attn.Seen n a k then 1#1 else 0#1 := by
  rw [hx, hy, hz, Attn.and_or_word]
  exact if_congr (and_congr_right fun _ => or_comm) rfl rfl

theorem first_word' : ∀ n : Fin 8, Scalar.cmpi .sgt (BitVec.ofNat 32 n) 0#32 = if 0 < 4 * n.val then 1#1 else 0#1 := by
  decide +kernel

theorem pay4_apply (i : grid0.Coords) (R k : Fin 256) :
    k0_pay4 (F := Ideal) i (ix2 R k) = if Attn.Seen (4 * (i 2).val) (R.val % 128) k.val then 0 else ⊥ := by
  have e : ∀ a : Fin 128, Scalar.select
      (Scalar.andi
        (Scalar.andi (Scalar.cmpi .sge (Scalar.subi (Scalar.addi 128#32 (BitVec.ofNat 32 a)) (BitVec.ofNat 32 k)) 0#32)
          (Scalar.cmpi .sle (Scalar.subi (Scalar.addi 128#32 (BitVec.ofNat 32 a)) (BitVec.ofNat 32 k)) 127#32))
        (Scalar.ori (Scalar.cmpi .sge (BitVec.ofNat 32 k) 128#32) (Scalar.cmpi .sgt (BitVec.ofNat 32 (i 2)) 0#32)))
      (0 : EReal) (Ideal.ofBits .f32 4286578688#32) = if Attn.Seen (4 * (i 2).val) a.val k.val then 0 else ⊥ := by
    intro a
    rw [mask_word' (4 * (i 2).val) a k (band_word' a k) (Attn.second_word k) (first_word' (i 2)), Attn.select_word]
    exact if_congr Iff.rfl rfl Attn.low_eq
  pointwise [k0_pay4, k0_pay3]
  split
  · rename_i h
    refine (e ⟨R, h⟩).trans ?_
    show (if Attn.Seen _ R.val _ then _ else _) = _
    rw [Nat.mod_eq_of_lt h]
  · rename_i h
    refine (e ⟨R - 128, by omega⟩).trans ?_
    show (if Attn.Seen _ (R.val - 128) _ then _ else _) = _
    rw [show R.val % 128 = R.val - 128 by omega]

theorem pay5_apply (n : Nat) (hn : 0 < n) (R k : Fin 256) :
    k0_pay5 (F := Ideal) (ix2 R k) = if Attn.Seen n (R.val % 128) k.val then 0 else ⊥ := by
  have e : ∀ a : Fin 128, Scalar.select
        (Scalar.andi (Scalar.cmpi .sge (Scalar.subi (Scalar.addi 128#32 (BitVec.ofNat 32 a)) (BitVec.ofNat 32 k)) 0#32)
          (Scalar.cmpi .sle (Scalar.subi (Scalar.addi 128#32 (BitVec.ofNat 32 a)) (BitVec.ofNat 32 k)) 127#32))
      (0 : EReal) (Ideal.ofBits .f32 4286578688#32) = if Attn.Seen n a.val k.val then 0 else ⊥ := by
    intro a
    rw [band_word' a k, Attn.select_word]
    exact if_congr (by simp [Attn.Seen, hn]) rfl Attn.low_eq
  pointwise [k0_pay5, k0_pay3]
  split
  · rename_i h
    refine (e ⟨R, h⟩).trans ?_
    show (if Attn.Seen _ R.val _ then _ else _) = _
    rw [Nat.mod_eq_of_lt h]
  · rename_i h
    refine (e ⟨R - 128, by omega⟩).trans ?_
    show (if Attn.Seen _ (R.val - 128) _ then _ else _) = _
    rw [show R.val % 128 = R.val - 128 by omega]

theorem bs_apply (i : grid0.Coords) (n : Fin 16) (R k : Fin 256) :
    bs i n (ix2 R k) = if Attn.Seen (4 * (i 2).val + n / 4) (R.val % 128) k.val then 0 else ⊥ := by
  match n with
  | ⟨0, _⟩ =>
    refine Eq.trans (congrFun (show bs i ⟨0, _⟩ = k0_pay4 (F := Ideal) i from rfl) _) ?_
    show _ = if Attn.Seen (4 * (i 2).val + 0 / 4) (R.val % 128) k.val then _ else _
    rw [show 4 * (i 2).val + 0 / 4 = 4 * (i 2).val by omega]
    exact pay4_apply i R k
  | ⟨1, _⟩ =>
    refine Eq.trans (congrFun (show bs i ⟨1, _⟩ = k0_pay4 (F := Ideal) i from rfl) _) ?_
    show _ = if Attn.Seen (4 * (i 2).val + 1 / 4) (R.val % 128) k.val then _ else _
    rw [show 4 * (i 2).val + 1 / 4 = 4 * (i 2).val by omega]
    exact pay4_apply i R k
  | ⟨2, _⟩ =>
    refine Eq.trans (congrFun (show bs i ⟨2, _⟩ = k0_pay4 (F := Ideal) i from rfl) _) ?_
    show _ = if Attn.Seen (4 * (i 2).val + 2 / 4) (R.val % 128) k.val then _ else _
    rw [show 4 * (i 2).val + 2 / 4 = 4 * (i 2).val by omega]
    exact pay4_apply i R k
  | ⟨3, _⟩ =>
    refine Eq.trans (congrFun (show bs i ⟨3, _⟩ = k0_pay4 (F := Ideal) i from rfl) _) ?_
    show _ = if Attn.Seen (4 * (i 2).val + 3 / 4) (R.val % 128) k.val then _ else _
    rw [show 4 * (i 2).val + 3 / 4 = 4 * (i 2).val by omega]
    exact pay4_apply i R k
  | ⟨4, _⟩ =>
    refine Eq.trans (congrFun (show bs i ⟨4, _⟩ = k0_pay5 (F := Ideal)  from rfl) _) ?_
    exact pay5_apply (4 * (i 2).val + 4 / 4) (by omega) R k
  | ⟨5, _⟩ =>
    refine Eq.trans (congrFun (show bs i ⟨5, _⟩ = k0_pay5 (F := Ideal)  from rfl) _) ?_
    exact pay5_apply (4 * (i 2).val + 5 / 4) (by omega) R k
  | ⟨6, _⟩ =>
    refine Eq.trans (congrFun (show bs i ⟨6, _⟩ = k0_pay5 (F := Ideal)  from rfl) _) ?_
    exact pay5_apply (4 * (i 2).val + 6 / 4) (by omega) R k
  | ⟨7, _⟩ =>
    refine Eq.trans (congrFun (show bs i ⟨7, _⟩ = k0_pay5 (F := Ideal)  from rfl) _) ?_
    exact pay5_apply (4 * (i 2).val + 7 / 4) (by omega) R k
  | ⟨8, _⟩ =>
    refine Eq.trans (congrFun (show bs i ⟨8, _⟩ = k0_pay5 (F := Ideal)  from rfl) _) ?_
    exact pay5_apply (4 * (i 2).val + 8 / 4) (by omega) R k
  | ⟨9, _⟩ =>
    refine Eq.trans (congrFun (show bs i ⟨9, _⟩ = k0_pay5 (F := Ideal)  from rfl) _) ?_
    exact pay5_apply (4 * (i 2).val + 9 / 4) (by omega) R k
  | ⟨10, _⟩ =>
    refine Eq.trans (congrFun (show bs i ⟨10, _⟩ = k0_pay5 (F := Ideal)  from rfl) _) ?_
    exact pay5_apply (4 * (i 2).val + 10 / 4) (by omega) R k
  | ⟨11, _⟩ =>
    refine Eq.trans (congrFun (show bs i ⟨11, _⟩ = k0_pay5 (F := Ideal)  from rfl) _) ?_
    exact pay5_apply (4 * (i 2).val + 11 / 4) (by omega) R k
  | ⟨12, _⟩ =>
    refine Eq.trans (congrFun (show bs i ⟨12, _⟩ = k0_pay5 (F := Ideal)  from rfl) _) ?_
    exact pay5_apply (4 * (i 2).val + 12 / 4) (by omega) R k
  | ⟨13, _⟩ =>
    refine Eq.trans (congrFun (show bs i ⟨13, _⟩ = k0_pay5 (F := Ideal)  from rfl) _) ?_
    exact pay5_apply (4 * (i 2).val + 13 / 4) (by omega) R k
  | ⟨14, _⟩ =>
    refine Eq.trans (congrFun (show bs i ⟨14, _⟩ = k0_pay5 (F := Ideal)  from rfl) _) ?_
    exact pay5_apply (4 * (i 2).val + 14 / 4) (by omega) R k
  | ⟨15, _⟩ =>
    refine Eq.trans (congrFun (show bs i ⟨15, _⟩ = k0_pay5 (F := Ideal)  from rfl) _) ?_
    exact pay5_apply (4 * (i 2).val + 15 / 4) (by omega) R k
  | ⟨n + 16, h⟩ => exact absurd h (by omega)

/-! ## One score -/

theorem pay12_lower (q : Vec Ideal S1x1x128x128 .bf16) (r d : Fin 128) :
    k0_pay12 (F := Ideal) k0_pay2 q (ix2 ⟨r, by omega⟩ d) = if d.val < 64 then (q (ix4 0 0 r d) : EReal) else 0 := by
  pointwise [k0_pay12, k0_pay2]
  exact (congrArg (Scalar.select · _ _) (half_word d)).trans (Attn.select_word ..)

theorem pay12_upper (q : Vec Ideal S1x1x128x128 .bf16) (r d : Fin 128) :
    k0_pay12 (F := Ideal) k0_pay2 q (ix2 ⟨128 + r, by omega⟩ d) = if d.val < 64 then 0 else (q (ix4 0 0 r d) : EReal) := by
  pointwise [k0_pay12, k0_pay2]
  exact (congrArg (Scalar.select · _ _) (half_word d)).trans (Attn.select_word ..)

theorem pay14_apply (b : FVec Ideal S256x256 .f32) (q k : FVec Ideal S256x128 .bf16) (r c : Fin 256) :
    k0_pay14 (F := Ideal) b q k (constant S256x256 .f32 0x00000000#32) (ix2 r c) = ∑ x, q (ix2 r x) * k (ix2 c x) + b (ix2 r c) := by
  pointwise [k0_pay14]

/-- A tile's entry: the query's scaled product with the key where the key is seen, minus infinity elsewhere. -/
theorem tile_apply (i : grid0.Coords) (x0 : Q0) (A B : FVec Ideal S640x128 .bf16) (n : Fin 16) (u : Fin 2) (a : Fin 128) (k : Fin 256)
    {q w : Fin 64 → EReal}
    (hq : ∀ e : Fin 64, x0 (ix4 0 0 ⟨128 * (n / 4) + a, by omega⟩ ⟨128 * (n % 4) + (64 * u + e), by omega⟩) = q e * Attn.scale)
    (hk : Attn.Seen (4 * (i 2).val + n / 4) a.val k.val →
      ∀ e : Fin 64, (if n.val % 4 < 2 then A else B) (ix2 ⟨128 * (n / 4) + k, by omega⟩ ⟨64 * u + e, by omega⟩) = w e) :
    tile i x0 A B n (ix2 ⟨128 * u + a, by omega⟩ k) = if Attn.Seen (4 * (i 2).val + n / 4) a.val k.val then Attn.score q w else ⊥ := by
  have low : ∀ (q : Vec Ideal S1x1x128x128 .bf16) (r d : Fin 128),
      k0_pay12 (F := Ideal) k0_pay2 q (ix2 ⟨128 * 0 + r, by omega⟩ d) = if d.val < 64 then (q (ix4 0 0 r d) : EReal) else 0 := fun q r d =>
    (congrArg (fun R => k0_pay12 (F := Ideal) k0_pay2 q (ix2 R d)) (Fin.ext (by simp))).trans (pay12_lower q r d)
  have upp := pay12_upper
  rw [tile, pay14_apply, bs_apply]
  have hm : (128 * u.val + a.val) % 128 = a.val := by omega
  show _ + (if Attn.Seen _ ((128 * u.val + a.val) % 128) _ then _ else _) = _
  rw [hm]
  by_cases hs : Attn.Seen (4 * (i 2).val + n / 4) a.val k.val
  · rw [if_pos hs, if_pos hs, add_zero]
    have hk := hk hs
    match u with
    | ⟨0, _⟩ =>
      refine Attn.score_lower (f := fun d => k0_pay12 k0_pay2 (qs x0 n) (ix2 ⟨128 * 0 + a, by omega⟩ d)) (g := fun d => ks A B n (ix2 k d)) (fun e => ?_) (fun d hd => ?_) (fun e => ?_)
      · refine (low (qs x0 n) a ⟨e, by omega⟩).trans ?_
        rw [if_pos e.isLt, qs_apply, ← hq e]
        exact congrArg (fun l => x0 (ix4 0 0 _ l)) (Fin.ext (by simp))
      · exact (low (qs x0 n) a d).trans (if_neg (by omega))
      · refine (ks_apply A B n k _).trans ((hk e).symm.trans ?_).symm
        exact congrArg (fun l => (if n.val % 4 < 2 then A else B) (ix2 _ l)) (Fin.ext (by simp))
    | ⟨1, _⟩ =>
      refine Attn.score_upper (f := fun d => k0_pay12 k0_pay2 (qs x0 n) (ix2 ⟨128 * 1 + a, by omega⟩ d)) (g := fun d => ks A B n (ix2 k d)) (fun e => ?_) (fun d hd => ?_) (fun e => ?_)
      · refine (upp (qs x0 n) a ⟨64 + e, by omega⟩).trans ?_
        rw [if_neg (by simp), qs_apply, ← hq e]
        exact congrArg (fun l => x0 (ix4 0 0 _ l)) (Fin.ext (by simp))
      · exact (upp (qs x0 n) a d).trans (if_pos hd)
      · exact (ks_apply A B n k _).trans (hk e)
  · rw [if_neg hs, if_neg hs, EReal.add_bot]

end Cert.KernelIdeal.RefValue

end
-- ==== Proof.AttentionPoint.lean ====
/- One entry of the banded attention kernel's block is the reference's entry, given what the block's operands hold. -/
module

public import proofs.«01_k».proof.Proof.AttentionOutput
public import proofs.«01_k».proof.Proof.AttentionScores
public import proofs.«01_k».proof.Proof.AttentionReference

@[expose] public section

set_option maxRecDepth 16384

noncomputable section

namespace Cert.KernelIdeal.RefValue

open Cert.KernelIdeal Cert.KernelIdeal.Gen Idealize.ShloMosaic Idealize.ShloMosaic.TcCoe Idealize.SL.Sem
open Cert.Proof
open Cert.ReferenceIdeal.RefValue (band score outV outV_apply)

/-- An entry of a tile is an attention row over the scores' row. -/
theorem cell_row (v : FVec Ideal S640x128 .bf16) (s : FVec Ideal S4096x256 .f32) (k : FVec Ideal S4096x1 .f32) (n : Fin 16) (a l : Fin 128) :
    cell v (dens s k) (weights s k) n a l
      = Attn.row (fun x => s (ix2 ⟨256 * n + 128 * (l / 64) + a, by omega⟩ x)) (fun x => v (ix2 ⟨128 * (n / 4) + x, by omega⟩ l))
        (k (ix2 ⟨256 * n + 128 * (l / 64) + a, by omega⟩ 0)) := by
  unfold cell Attn.row
  rw [dens_apply]
  refine congrArg (Ideal.div · _) (Finset.sum_congr rfl fun x _ => ?_)
  rw [weights_apply]
  exact mul_comm _ _

/-- The rows of a block and of the 128 before it are the reference's band. -/
theorem band_read (A : FVec Ideal S16x4096x2x64 .f32) (x : KP) (y : KC) (b : Fin 16) (i : Fin 8)
    (hx : ∀ (r : Fin 128) (L : Fin 256) (R : Fin 4096), R.val = (4 * i.val - 1) * 128 + r.val → x (ix4 0 0 r L) = A (ix4 b R ⟨L / 128, by omega⟩ ⟨L % 64, by omega⟩))
    (hy : ∀ (r : Fin 512) (L : Fin 256) (R : Fin 4096), R.val = i.val * 512 + r.val → y (ix4 0 0 r L) = A (ix4 b R ⟨L / 128, by omega⟩ ⟨L % 64, by omega⟩))
    (g : Fin 2) (n : Fin 32) (k : Fin 256) (e : Fin 64) (J : Fin 640) (L : Fin 256)
    (hJ : 4 * i.val * 128 + J.val = n.val * 128 + k.val) (hL : L.val / 128 = g.val) (he : L.val % 64 = e.val) (hs : 0 < n.val ∨ 128 ≤ k.val) :
    (if h : J.val < 128 then x (ix4 0 0 ⟨J, h⟩ L) else y (ix4 0 0 ⟨J - 128, by omega⟩ L)) = band A b g n k e := by
  have hg : g = ⟨L / 128, by omega⟩ := Fin.ext hL.symm
  have he' : e = ⟨L % 64, by omega⟩ := Fin.ext he.symm
  rw [hg, he']
  unfold band
  rw [dif_pos (by omega : 128 ≤ n.val * 128 + k.val)]
  by_cases h : J.val < 128
  · rw [dif_pos h]
    exact hx ⟨J, h⟩ L ⟨n * 128 + k - 128, by omega⟩ (by show n.val * 128 + k.val - 128 = (4 * i.val - 1) * 128 + J.val; omega)
  · rw [dif_neg h]
    exact hy ⟨J - 128, by omega⟩ L ⟨n * 128 + k - 128, by omega⟩ (by show n.val * 128 + k.val - 128 = i.val * 512 + (J.val - 128); omega)

/-- One score of the block: of tile `n`, its half `u`, query row `a` and key `k`. -/
theorem score_read (co : grid0.Coords) (x0 : Q0) (x1 : KP) (x2 : KC) (x3 : KP) (x4 : KC) (x5 : SR)
    (A0 : FVec Ideal S16x4096x8x64 .f32) (A1 : FVec Ideal S16x4096x2x64 .f32) (b : Fin 16) (i : Fin 8)
    (hi : (co 2).val = i.val)
    (h0 : ∀ (r l : Fin 512) (R : Fin 4096), R.val = i.val * 512 + r.val → x0 (ix4 0 0 r l) = A0 (ix4 b R ⟨l / 64, by omega⟩ ⟨l % 64, by omega⟩) * Attn.scale)
    (h1 : ∀ (r : Fin 128) (L : Fin 256) (R : Fin 4096), R.val = (4 * i.val - 1) * 128 + r.val → x1 (ix4 0 0 r L) = A1 (ix4 b R ⟨L / 128, by omega⟩ ⟨L % 64, by omega⟩))
    (h2 : ∀ (r : Fin 512) (L : Fin 256) (R : Fin 4096), R.val = i.val * 512 + r.val → x2 (ix4 0 0 r L) = A1 (ix4 b R ⟨L / 128, by omega⟩ ⟨L % 64, by omega⟩))
    (n : Fin 16) (u : Fin 2) (a : Fin 128) (k : Fin 256) (g : Fin 2) (h : Fin 4) (N : Fin 32) (P : Fin 4096)
    (hN : N.val = 4 * i.val + n / 4) (hg : g.val * 4 + h.val = n.val % 4 * 2 + u.val) (hP : P.val = 256 * n.val + 128 * u.val + a.val) :
    k0_pay110 (F := Ideal) co x0 x1 x2 x3 x4 x5 (ix2 P k) = score A0 A1 b g h N a k := by
  rw [scores_eq, scores, stack_apply]
  refine (congrArg₂ (fun n r => tile co x0 _ _ n (ix2 r k)) (Fin.ext (by show P.val / 256 = n.val; omega) : (⟨P / 256, by omega⟩ : Fin 16) = n)
    (Fin.ext (by show P.val % 256 = 128 * u.val + a.val; omega) : (⟨P % 256, by omega⟩ : Fin 256) = ⟨128 * u + a, by omega⟩)).trans ?_
  have hn : 4 * (co 2).val + n.val / 4 = N.val := by omega
  refine (tile_apply co x0 _ _ n u a k (q := fun e => A0 (ix4 b ⟨N * 128 + a, by omega⟩ ⟨g * 4 + h, by omega⟩ e)) (w := fun e => band A1 b g N k e)
    (fun e => ?_) (fun hs e => ?_)).trans ?_
  · refine (h0 ⟨128 * (n / 4) + a, by omega⟩ ⟨128 * (n % 4) + (64 * u + e), by omega⟩ ⟨N * 128 + a, by omega⟩
      (by show N.val * 128 + a.val = i.val * 512 + (128 * (n.val / 4) + a.val); omega)).trans ?_
    refine congrArg (· * Attn.scale) (congrArg₂ (fun h e => A0 (ix4 b _ h e)) (Fin.ext ?_) (Fin.ext ?_))
    · show (128 * (n.val % 4) + (64 * u.val + e.val)) / 64 = g.val * 4 + h.val
      omega
    · show (128 * (n.val % 4) + (64 * u.val + e.val)) % 64 = e.val
      omega
  · rw [hn] at hs
    have hs' : 0 < N.val ∨ 128 ≤ k.val := hs.2
    by_cases hp : n.val % 4 < 2
    · rw [if_pos hp, keys0_apply]
      exact band_read A1 x1 x2 b i h1 h2 g N k e ⟨128 * (n / 4) + k, by omega⟩ ⟨64 * u + e, by omega⟩
        (by show 4 * i.val * 128 + (128 * (n.val / 4) + k.val) = N.val * 128 + k.val; omega)
        (by show (64 * u.val + e.val) / 128 = g.val; omega) (by show (64 * u.val + e.val) % 64 = e.val; omega) hs'
    · rw [if_neg hp, keys1_apply]
      exact band_read A1 x1 x2 b i h1 h2 g N k e ⟨128 * (n / 4) + k, by omega⟩ ⟨128 + (64 * u + e), by omega⟩
        (by show 4 * i.val * 128 + (128 * (n.val / 4) + k.val) = N.val * 128 + k.val; omega)
        (by show (128 + (64 * u.val + e.val)) / 128 = g.val; omega) (by show (128 + (64 * u.val + e.val)) % 64 = e.val; omega) hs'
  · rw [hn]
    rfl

/-- One entry of the block the kernel writes at a point of the grid. -/
theorem out_point (co : grid0.Coords) (x0 : Q0) (x1 : KP) (x2 : KC) (x3 : KP) (x4 : KC) (x5 : SR)
    (A0 : FVec Ideal S16x4096x8x64 .f32) (A1 A2 : FVec Ideal S16x4096x2x64 .f32) (A3 : FVec Ideal S8 .f32) (b : Fin 16) (i : Fin 8)
    (hi : (co 2).val = i.val)
    (h0 : ∀ (r l : Fin 512) (R : Fin 4096), R.val = i.val * 512 + r.val → x0 (ix4 0 0 r l) = A0 (ix4 b R ⟨l / 64, by omega⟩ ⟨l % 64, by omega⟩) * Attn.scale)
    (h1 : ∀ (r : Fin 128) (L : Fin 256) (R : Fin 4096), R.val = (4 * i.val - 1) * 128 + r.val → x1 (ix4 0 0 r L) = A1 (ix4 b R ⟨L / 128, by omega⟩ ⟨L % 64, by omega⟩))
    (h2 : ∀ (r : Fin 512) (L : Fin 256) (R : Fin 4096), R.val = i.val * 512 + r.val → x2 (ix4 0 0 r L) = A1 (ix4 b R ⟨L / 128, by omega⟩ ⟨L % 64, by omega⟩))
    (h3 : ∀ (r : Fin 128) (L : Fin 256) (R : Fin 4096), R.val = (4 * i.val - 1) * 128 + r.val → x3 (ix4 0 0 r L) = A2 (ix4 b R ⟨L / 128, by omega⟩ ⟨L % 64, by omega⟩))
    (h4 : ∀ (r : Fin 512) (L : Fin 256) (R : Fin 4096), R.val = i.val * 512 + r.val → x4 (ix4 0 0 r L) = A2 (ix4 b R ⟨L / 128, by omega⟩ ⟨L % 64, by omega⟩))
    (h5 : ∀ l : Fin 8, x5 (ix2 0 ⟨l, by omega⟩) = A3 (ix1 l))
    (r l : Fin 512) (R : Fin 4096) (hR : R.val = i.val * 512 + r.val) :
    out0_6 (F := Ideal) co x0 x1 x2 x3 x4 x5 (ix4 0 0 r l) = outV A0 A1 A2 A3 (ix4 b 0 R l) := by
  rw [out_apply, dens_eq, weights_eq, cell_row, outV_apply]
  refine Attn.row_congr (fun k => ?_) (fun k hk => ?_) ?_
  · exact score_read co x0 x1 x2 x3 x4 x5 A0 A1 b i hi h0 h1 h2 ⟨4 * (r / 128) + l / 128, by omega⟩ ⟨l % 128 / 64, by omega⟩ ⟨R % 128, by omega⟩ k
      ⟨l / 256, by omega⟩ ⟨l / 64 % 4, by omega⟩ ⟨R / 128, by omega⟩ _
      (by show R.val / 128 = 4 * i.val + (4 * (r.val / 128) + l.val / 128) / 4; omega)
      (by show l.val / 256 * 4 + l.val / 64 % 4 = (4 * (r.val / 128) + l.val / 128) % 4 * 2 + l.val % 128 / 64; omega)
      (by show 256 * (4 * (r.val / 128) + l.val / 128) + 128 * (l.val % 128 / 64) + r.val % 128
            = 256 * (4 * (r.val / 128) + l.val / 128) + 128 * (l.val % 128 / 64) + R.val % 128
          omega)
  · have hs : 0 < R.val / 128 ∨ 128 ≤ k.val := by
      by_contra hn
      refine hk ((score_read co x0 x1 x2 x3 x4 x5 A0 A1 b i hi h0 h1 h2 ⟨4 * (r / 128) + l / 128, by omega⟩ ⟨l % 128 / 64, by omega⟩ ⟨R % 128, by omega⟩ k
        ⟨l / 256, by omega⟩ ⟨l / 64 % 4, by omega⟩ ⟨R / 128, by omega⟩ _
        (by show R.val / 128 = 4 * i.val + (4 * (r.val / 128) + l.val / 128) / 4; omega)
        (by show l.val / 256 * 4 + l.val / 64 % 4 = (4 * (r.val / 128) + l.val / 128) % 4 * 2 + l.val % 128 / 64; omega)
        (by show 256 * (4 * (r.val / 128) + l.val / 128) + 128 * (l.val % 128 / 64) + r.val % 128
              = 256 * (4 * (r.val / 128) + l.val / 128) + 128 * (l.val % 128 / 64) + R.val % 128
            omega)).trans ?_)
      exact if_neg fun hh => hn hh.2
    by_cases hc : l.val / 256 = 0
    · rw [if_pos hc, vals0_apply]
      exact band_read A2 x3 x4 b i h3 h4 _ _ k _ ⟨128 * ((4 * (r / 128) + l / 128) / 4) + k, by omega⟩ ⟨l % 128, by omega⟩
        (by show 4 * i.val * 128 + (128 * ((4 * (r.val / 128) + l.val / 128) / 4) + k.val) = R.val / 128 * 128 + k.val; omega)
        (by show l.val % 128 / 128 = l.val / 256; omega) (by show l.val % 128 % 64 = l.val % 64; omega) hs
    · rw [if_neg hc, vals1_apply]
      exact band_read A2 x3 x4 b i h3 h4 _ _ k _ ⟨128 * ((4 * (r / 128) + l / 128) / 4) + k, by omega⟩ ⟨128 + l % 128, by omega⟩
        (by show 4 * i.val * 128 + (128 * ((4 * (r.val / 128) + l.val / 128) / 4) + k.val) = R.val / 128 * 128 + k.val; omega)
        (by show (128 + l.val % 128) / 128 = l.val / 256; omega) (by show (128 + l.val % 128) % 64 = l.val % 64; omega) hs
  · rw [sinkCol_apply]
    refine (h5 ⟨(256 * (4 * (r / 128) + l / 128) + 128 * (l % 128 / 64) + r % 128) / 128 % 8, by omega⟩).trans ?_
    exact congrArg (fun h => A3 (ix1 h)) (Fin.ext (by
      show (256 * (4 * (r.val / 128) + l.val / 128) + 128 * (l.val % 128 / 64) + r.val % 128) / 128 % 8 = l.val / 256 * 4 + l.val / 64 % 4
      omega))

end Cert.KernelIdeal.RefValue

end
-- ==== Proof.AttentionValue.lean ====
/- The banded attention kernel's result array is the reference's. -/
module

public import proofs.«01_k».proof.Proof.AttentionBlocks
public import proofs.«01_k».proof.Proof.AttentionPoint
public import proofs.«01_k».proof.Proof.Gen.KernelIdeal.Value

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The reference's result from the call's own arguments. -/
def ref (c : Dev nD) : Vec Ideal S16x1x4096x512 .bf16 :=
  Cert.ReferenceIdeal.RefValue.outV (m ((c : Thread nD τ).loc main_arg0)) (m ((c : Thread nD τ).loc main_arg1))
    (m ((c : Thread nD τ).loc main_arg2)) (m ((c : Thread nD τ).loc main_arg3))

theorem point (c : Dev nD) (t : Fin cfg0.N) (r l : Fin 512) (b : Fin 16) (hb : b.val = t.val / 8) (R : Fin 4096)
    (hR : R.val = t.val % 8 * 512 + r.val) :
    out0_6 (F := Ideal) (grid0.coords t) (iblk m c 0 t) (iblk m c 1 t) (iblk m c 2 t) (iblk m c 3 t) (iblk m c 4 t) (iblk m c 5 t) (ix4 0 0 r l)
      = ref m c (ix4 b 0 R l) :=
  out_point (grid0.coords t) _ _ _ _ _ _ _ _ _ _ b ⟨t % 8, by omega⟩ (idx t).2.2.2.2.2.2.2
    (fun r l R hR => (blk0 m c t r l b hb R hR).trans (queries_apply _ b R l))
    (fun r l R hR => (blk1 m c t r l b hb R hR).trans (doubled_apply _ b R l))
    (fun r l R hR => (blk2 m c t r l b hb R hR).trans (doubled_apply _ b R l))
    (fun r l R hR => (blk3 m c t r l b hb R hR).trans (doubled_apply _ b R l))
    (fun r l R hR => (blk4 m c t r l b hb R hR).trans (doubled_apply _ b R l))
    (fun l => blk5 m c t l) r l R hR

/-- The result array after the run. -/
theorem final (c : Dev nD) : (dats m 0 c).arrAt 6 cfg0.N = ref m c := by
  refine (dats m 0 c).arrAt_eq_of_covers 6 _ (by decide +kernel) fun t hf y => ?_
  blk_simp
  rw [after0_6]
  idx_vars y
  obtain rfl : y0 = 0 := Subsingleton.elim _ _
  obtain rfl : y1 = 0 := Subsingleton.elim _ _
  have ht : t.val < 128 := t.isLt.trans_eq (by decide +kernel : cfg0.grid.N = 128)
  refine (point m c t y2 y3 ⟨t / 8, by omega⟩ rfl ⟨t % 8 * 512 + y2, by omega⟩ rfl).trans (congrArg (ref m c) ?_)
  funext a
  match a with
  | ⟨0, _⟩ => exact Fin.ext (by simp [ix4, (idx t).2.2.2.2.2.2.1])
  | ⟨1, _⟩ => exact Fin.ext (by simp [ix4, (idx t).2.2.2.2.2.2.1])
  | ⟨2, _⟩ => exact Fin.ext (by simp [ix4, (idx t).2.2.2.2.2.2.1])
  | ⟨3, _⟩ => exact Fin.ext (by simp [ix4, (idx t).2.2.2.2.2.2.1])

end Cert.KernelIdeal.RefValue

end
-- ==== Proof.AttentionClaims.lean ====
/- The banded attention's value: kernel and reference agree as extended reals. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.AttentionReference
public import proofs.«01_k».proof.Proof.AttentionValue

@[expose] public section

noncomputable section

namespace Cert.Proof.AttentionClaims

open Idealize.ShloMosaic Idealize.SL.Sem

/-- Kernel and reference leave the same array: the attention of each query over its band of keys. -/
theorem algebraic : Cert.algebraic_KernelIdeal_ReferenceIdeal := by
  intro m ρ m' ρ' _ hagree
  refine ⟨fun c => Cert.KernelIdeal.RefValue.ref m c, ?_, ?_⟩
  · exact (θ_run Cert.KernelIdeal.defs _ _).mono
      (fun _ h c => ⟨(h c).1.trans (Cert.KernelIdeal.RefValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := hagree c
    rw [Cert.ReferenceIdeal.RefValue.res_eq, h0, h1, h2, h3]
    rfl

end Cert.Proof.AttentionClaims

end
-- ==== Proof.FfnReference.lean ====
/- What the feed-forward reference leaves: its composed term in three named pieces (the root-mean-square norm, the
   gate, and the whole layer), each read at an index, and the layer at an index as one formula of a row. -/
module

public import proofs.«01_k».proof.Proof.Gen.FfnReferenceIdeal.Run
public import Idealize.ShloMosaic.Lib.Pointwise

@[expose] public section

set_option maxRecDepth 16384

noncomputable section

namespace Cert.Proof.Row

open Idealize.ShloMosaic

/-- The factor the root-mean-square norm multiplies a row of 1024 numbers by. -/
def scale (x : Fin 1024 → EReal) : EReal :=
  Ideal.rsqrt (Ideal.div (∑ k, x k * x k) (Ideal.ofBits FTy.f32 0x44800000#32) + Ideal.ofBits FTy.f32 0x3727C5AC#32)

/-- The norm of a row with gain `g`. -/
def norm (x g : Fin 1024 → EReal) (e : Fin 1024) : EReal := x e * scale x * g e

/-- A gated unit: `a · σ(a) · b`. -/
def gate (a b : EReal) : EReal := a * Ideal.logistic a * b

/-- The feed-forward sum of a row: over the 2816 hidden units, gate and up projections of the normed row, gated,
    times the down weights. -/
def hidden (x g : Fin 1024 → EReal) (w1 : Fin 1024 → Fin 5632 → EReal) (w2 : Fin 2816 → Fin 1024 → EReal) (e : Fin 1024) : EReal :=
  ∑ k : Fin 2816, gate (∑ d, norm x g d * w1 d ⟨k, by omega⟩) (∑ d, norm x g d * w1 d ⟨2816 + k, by omega⟩) * w2 k e

/-- The part of it that 1408 hidden units make, from the normed row and the units' weights. -/
def part (n : Fin 1024 → EReal) (wg wu : Fin 1024 → Fin 1408 → EReal) (wd : Fin 1408 → EReal) : EReal :=
  ∑ h, gate (∑ d, n d * wg d h) (∑ d, n d * wu d h) * wd h

theorem part_congr {n n' : Fin 1024 → EReal} {wg wg' wu wu' : Fin 1024 → Fin 1408 → EReal} {wd wd' : Fin 1408 → EReal}
    (hn : ∀ d, n d = n' d) (hg : ∀ d h, wg d h = wg' d h) (hu : ∀ d h, wu d h = wu' d h) (hd : ∀ h, wd h = wd' h) :
    part n wg wu wd = part n' wg' wu' wd' := by
  obtain rfl : n = n' := funext hn
  obtain rfl : wg = wg' := funext fun d => funext (hg d)
  obtain rfl : wu = wu' := funext fun d => funext (hu d)
  obtain rfl : wd = wd' := funext hd
  rfl

/-- The whole sum is the part of the first 1408 units and the part of the last. -/
theorem hidden_eq (x g : Fin 1024 → EReal) (w1 : Fin 1024 → Fin 5632 → EReal) (w2 : Fin 2816 → Fin 1024 → EReal) (e : Fin 1024) :
    hidden x g w1 w2 e
      = part (norm x g) (fun d h => w1 d ⟨h, by omega⟩) (fun d h => w1 d ⟨2816 + h, by omega⟩) (fun h => w2 ⟨h, by omega⟩ e)
        + part (norm x g) (fun d h => w1 d ⟨1408 + h, by omega⟩) (fun d h => w1 d ⟨2816 + (1408 + h), by omega⟩) (fun h => w2 ⟨1408 + h, by omega⟩ e) :=
  Fin.sum_univ_two_halves 1408 1408 rfl
    fun k : Fin 2816 => gate (∑ d, norm x g d * w1 d ⟨k, by omega⟩) (∑ d, norm x g d * w1 d ⟨2816 + k, by omega⟩) * w2 k e

end Cert.Proof.Row

namespace Cert.FfnReferenceIdeal.RefValue

open Cert.FfnReferenceIdeal Cert.FfnReferenceIdeal.Gen Idealize.ShloMosaic Idealize.ShloMosaic.TcCoe Idealize.SL.Sem
open Cert.Proof

/-- The norm over whole arrays, as the reference composes it. -/
def normV (x : FVec Ideal S65536x1024 .f32) (g : FVec Ideal S1024 .f32) : FVec Ideal S65536x1024 .f32 :=
  mulf (mulf x (broadcastInDim S65536x1024 ![0, 1] bcast_S65536x1_S65536x1024_0_1 (Host.rsqrt (addf (Host.divf (broadcastInDim S65536x1 ![0] bcast_S65536_S65536x1_0 (Host.reduceAdd (mulf x x) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 g))

/-- The gate over whole arrays. -/
def gateV (t : FVec Ideal S65536x5632 .f32) : FVec Ideal S65536x2816 .f32 :=
  mulf (mulf (extractStridedSlice S65536x2816 ![0, 0] t slices_S65536x5632_S65536x2816_0_0) (Host.divf (broadcastInDim S65536x2816 ![] bcast_S_S65536x2816 (constant S_ .f32 0x3F800000#32)) (addf (broadcastInDim S65536x2816 ![] bcast_S_S65536x2816 (constant S_ .f32 0x3F800000#32)) (Host.exp (Host.negf (extractStridedSlice S65536x2816 ![0, 0] t slices_S65536x5632_S65536x2816_0_0)))))) (extractStridedSlice S65536x2816 ![0, 2816] t slices_S65536x5632_S65536x2816_0_2816)

/-- The layer with its residual and without the last norm. -/
def layerV (x : FVec Ideal S65536x1024 .f32) (g : FVec Ideal S1024 .f32) (w1 : FVec Ideal S1024x5632 .f32) (w2 : FVec Ideal S2816x1024 .f32) : FVec Ideal S65536x1024 .f32 :=
  addf x (Host.dotGeneral dot_S65536x2816_S2816x1024_S65536x1024_1_0_0_1_n_n none (gateV (Host.dotGeneral dot_S65536x1024_S1024x5632_S65536x5632_1_0_0_1_n_n none (normV x g) w1)) w2)

/-- The reference's result is the last norm of the layer. -/
theorem res_eq (m : (ℓ : Loc nD τ sig) → Buf (Elt Ideal) ℓ) (c : Dev nD) :
    Value.res_main_v32 (F := Ideal) m c
      = normV (layerV (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl

theorem normV_apply (x g) (r : Fin 65536) (e : Fin 1024) :
    normV x g (ix2 r e) = Row.norm (fun k => x (ix2 r k)) (fun k => g (ix1 k)) e := by
  pointwise [normV]
  rfl

theorem gateV_apply (t) (r : Fin 65536) (e : Fin 2816) :
    gateV t (ix2 r e) = Row.gate (t (ix2 r ⟨e, by omega⟩)) (t (ix2 r ⟨2816 + e, by omega⟩)) := by
  pointwise [gateV]
  rfl

theorem layerV_apply (x g w1 w2) (r : Fin 65536) (e : Fin 1024) :
    layerV x g w1 w2 (ix2 r e)
      = x (ix2 r e) + Row.hidden (fun k => x (ix2 r k)) (fun k => g (ix1 k)) (fun d k => w1 (ix2 d k)) (fun k d => w2 (ix2 k d)) e := by
  pointwise [layerV]
  simp only [gateV_apply]
  pointwise
  simp only [normV_apply]
  rfl

end Cert.FfnReferenceIdeal.RefValue

end
-- ==== Proof.FfnValue.lean ====
/- The feed-forward kernel's result array: each block of 512 rows is the last norm of the layer, the two trips of the
   body's loop adding the two halves of the hidden units. -/
module

public import proofs.«01_k».proof.Proof.Gen.FfnIdeal.Value
public import proofs.«01_k».proof.Proof.FfnReference
public import Idealize.ShloMosaic.Lib.Pipeline.ValueKit
public import Idealize.ShloMosaic.Lib.VecWindow
public import Idealize.ShloMosaic.Lib.Pipeline.ReadBack

@[expose] public section

set_option maxRecDepth 16384

noncomputable section

namespace Cert.FfnIdeal.RefValue

open Cert.FfnIdeal Cert.FfnIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-! ## The payloads at an index -/

/-- The accumulator starts at zero. -/
theorem pay2_apply (j) : k0_pay2 (F := Ideal) j = 0 := by
  pointwise [k0_pay2]

/-- One trip adds its 1408 hidden units. -/
theorem pay3_apply (v0 v1 v39 v44 v51 v53) (r : Fin 512) (e : Fin 1024) :
    k0_pay3 (F := Ideal) v0 v1 v39 v44 v51 v53 (ix2 r e)
      = v51 (ix2 r e) + Row.part (Row.norm (fun k => v0 (ix2 r k)) (fun k => v1 (ix2 0 k)))
          (fun d h => v39 (ix3 0 d h)) (fun d h => v44 (ix3 0 d h)) (fun h => v53 (ix3 0 h e)) := by
  pointwise [k0_pay3]
  rfl

/-- What is stored: the last norm of the row with its residual. -/
theorem pay1_apply (v0 v1 v23) (r : Fin 512) (e : Fin 1024) :
    k0_pay1 (F := Ideal) (k0_pay4 v0 v1) (k0_pay5 v23) (ix2 r e)
      = Row.norm (fun k => v0 (ix2 r k) + v1 (ix2 r k)) (fun k => v23 (ix2 0 k)) e := by
  pointwise [k0_pay1, k0_pay4, k0_pay5]
  rfl

/-! ## The loop -/

/-- The accumulator after trip `k`, from what it held before: the weights are the trip's slabs of the two blocks. -/
def step (x0 : Vec Ideal S512x1024 .f32) (x1 : Vec Ideal S1x1024 .f32) (x2 : Vec Ideal S4x1024x1408 .bf16) (x3 : Vec Ideal S2x1408x1024 .bf16)
    (k : Fin k0_t1_loop.trips) (a : Vec Ideal S512x1024 .f32) : Vec Ideal S512x1024 .f32 :=
  k0_pay3 x0 x1 (View.ld x2 (Rect.unit (s := S4x1024x1408) (k0_off1 k) S1x1024x1408.size (k0_off1_inb k)))
    (View.ld x2 (Rect.unit (s := S4x1024x1408) (k0_off2 k) S1x1024x1408.size (k0_off2_inb k))) a
    (View.ld x3 (Rect.unit (s := S2x1408x1024) (k0_off3 k) S1x1408x1024.size (k0_off3_inb k)))

theorem step_apply (x0 x1 x2 x3) (k : Fin k0_t1_loop.trips) (a) (r : Fin 512) (e : Fin 1024) (hk : k.val < 2) :
    step x0 x1 x2 x3 k a (ix2 r e) = a (ix2 r e) + Row.part (Row.norm (fun k => x0 (ix2 r k)) (fun k => x1 (ix2 0 k)))
      (fun d h => x2 (ix3 ⟨k, by omega⟩ d h)) (fun d h => x2 (ix3 ⟨2 + k, by omega⟩ d h)) (fun h => x3 (ix3 ⟨k, hk⟩ h e)) := by
  unfold step
  rw [pay3_apply]
  have e1 : ∀ d h, View.ld x2 (Rect.unit (s := S4x1024x1408) (k0_off1 k) S1x1024x1408.size (k0_off1_inb k)) (ix3 0 d h) = x2 (ix3 ⟨k, by omega⟩ d h) := by
    intro d h
    refine congrArg x2 (funext fun a => Fin.ext ?_)
    rw [Rect.idx_unit_val]
    refine (congrArg (· + _) (congrFun (k0_off1_eq k) a)).trans ?_
    match a with
    | ⟨0, _⟩ => simp [ix3]; try omega
    | ⟨1, _⟩ => simp [ix3]
    | ⟨2, _⟩ => simp [ix3]
  have e2 : ∀ d h, View.ld x2 (Rect.unit (s := S4x1024x1408) (k0_off2 k) S1x1024x1408.size (k0_off2_inb k)) (ix3 0 d h) = x2 (ix3 ⟨2 + k, by omega⟩ d h) := by
    intro d h
    refine congrArg x2 (funext fun a => Fin.ext ?_)
    rw [Rect.idx_unit_val]
    refine (congrArg (· + _) (congrFun (k0_off2_eq k) a)).trans ?_
    match a with
    | ⟨0, _⟩ => simp [ix3]; try omega
    | ⟨1, _⟩ => simp [ix3]
    | ⟨2, _⟩ => simp [ix3]
  have e3 : ∀ h d, View.ld x3 (Rect.unit (s := S2x1408x1024) (k0_off3 k) S1x1408x1024.size (k0_off3_inb k)) (ix3 0 h d) = x3 (ix3 ⟨k, hk⟩ h d) := by
    intro h d
    refine congrArg x3 (funext fun a => Fin.ext ?_)
    rw [Rect.idx_unit_val]
    refine (congrArg (· + _) (congrFun (k0_off3_eq k) a)).trans ?_
    match a with
    | ⟨0, _⟩ => simp [ix3]; try omega
    | ⟨1, _⟩ => simp [ix3]
    | ⟨2, _⟩ => simp [ix3]
  simp only [e1, e2, e3]

/-- One trip writes the whole accumulator once. -/
theorem trip_eq (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (x0 : Vec Ideal S512x1024 .f32) (x1 : Vec Ideal S1x1024 .f32) (x2 : Vec Ideal S4x1024x1408 .bf16) (x3 : Vec Ideal S2x1408x1024 .bf16) (k) (f) :
    tripL_k0_t1 (F := Ideal) 𝒱 c bd i arg1 harg1 arg2 harg2 arg3 harg3 arg4 harg4 arg5 harg5 arg6 harg6 arg7 harg7 x0 x1 (harg3.unread x2) (harg4.unread x3) k f
      = [⟨Rect.unit (s := S512x1024) ![0, 0] S512x1024.size inb_S512x1024_S512x1024_0_0, step x0 x1 x2 x3 k
          (View.readAt (Elt Ideal) arg7.view (Rect.unit (s := S512x1024) ![0, 0] S512x1024.size inb_S512x1024_S512x1024_0_0).toLoadRect f)⟩] := by
  unfold tripL_k0_t1 trip_k0_t1 step
  simp only [View.readAt_eq_ld, Memref.IsWhole.read_unread]

theorem out_apply (c : Dev nD) (t : Fin cfg0.N) (y) :
    outsAt0 m c t y = k0_pay1 (k0_pay4 (iblk m c 0 t)
      (step (iblk m c 0 t) (iblk m c 1 t) (iblk m c 2 t) (iblk m c 3 t) ⟨1, by decide⟩
        (step (iblk m c 0 t) (iblk m c 1 t) (iblk m c 2 t) (iblk m c 3 t) ⟨0, by decide⟩ (k0_pay2 (F := Ideal))))) (k0_pay5 (iblk m c 4 t)) y := by
  unfold outsAt0
  frame_out
  rw [show Scf.trips (0#32) (Scalar.addi 0#32 2#32) 1#32 = (⟨1, by decide⟩ : Fin k0_t1_loop.trips).val + 1 from by decide]
  rw [pb_k0_t1_succ]
  rw [show (⟨1, by decide⟩ : Fin k0_t1_loop.trips).val = (⟨0, by decide⟩ : Fin k0_t1_loop.trips).val + 1 from rfl, pb_k0_t1_succ]
  simp only [trip_eq]
  rw [pb_k0_t1.eq_1]
  simp only [List.cons_append, List.nil_append]
  rw [View.readCov_cons_toLoadRect]
  rw [← View.writes_append, List.singleton_append, View.readAt_writes_full, View.writes_nil, View.readAt_writes_full]

theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] :=
  (by decide +kernel : ∀ t : Fin grid0.N, _)

theorem blk0 (c : Dev nD) (t : Fin cfg0.N) (r : Fin 512) (e : Fin 1024) (R : Fin 65536) (hR : R.val = t.val * 512 + r.val) :
    iblk m c 0 t (ix2 r e) = m ((c : Thread nD τ).loc main_arg0) (ix2 R e) := by
  blk_ext [iblk, V, idx t]

theorem blk1 (c : Dev nD) (t : Fin cfg0.N) (e : Fin 1024) :
    iblk m c 1 t (ix2 0 e) = m ((c : Thread nD τ).loc main_arg1) (ix1 e) := by
  blk_ext! [iblk, V, idx t]

theorem blk4 (c : Dev nD) (t : Fin cfg0.N) (e : Fin 1024) :
    iblk m c 4 t (ix2 0 e) = m ((c : Thread nD τ).loc main_arg4) (ix1 e) := by
  blk_ext! [iblk, V, idx t]

theorem blk2 (c : Dev nD) (t : Fin cfg0.N) (p : Fin 4) (d : Fin 1024) (h : Fin 1408) :
    iblk m c 2 t (ix3 p d h) = m ((c : Thread nD τ).loc main_arg2) (ix2 d ⟨p * 1408 + h, by omega⟩) := by
  blk_ext! [iblk, V, idx t]

theorem blk3 (c : Dev nD) (t : Fin cfg0.N) (p : Fin 2) (h : Fin 1408) (d : Fin 1024) :
    iblk m c 3 t (ix3 p h d) = m ((c : Thread nD τ).loc main_arg3) (ix2 ⟨p * 1408 + h, by omega⟩ d) := by
  blk_ext! [iblk, V, idx t]

/-! ## The two halves of the hidden units, and the result array -/

/-- The accumulator after both trips is the whole sum over the hidden units. -/
theorem acc_apply (c : Dev nD) (t : Fin cfg0.N) (r : Fin 512) (e : Fin 1024) (R : Fin 65536) (hR : R.val = t.val * 512 + r.val) :
    step (iblk m c 0 t) (iblk m c 1 t) (iblk m c 2 t) (iblk m c 3 t) ⟨1, by decide⟩
        (step (iblk m c 0 t) (iblk m c 1 t) (iblk m c 2 t) (iblk m c 3 t) ⟨0, by decide⟩ (k0_pay2 (F := Ideal))) (ix2 r e)
      = Row.hidden (fun k => m ((c : Thread nD τ).loc main_arg0) (ix2 R k)) (fun k => m ((c : Thread nD τ).loc main_arg1) (ix1 k))
          (fun d k => m ((c : Thread nD τ).loc main_arg2) (ix2 d k)) (fun k d => m ((c : Thread nD τ).loc main_arg3) (ix2 k d)) e := by
  rw [step_apply _ _ _ _ _ _ _ _ (by decide), step_apply _ _ _ _ _ _ _ _ (by decide), pay2_apply, zero_add]
  rw [Row.hidden_eq]
  have hn : ∀ d, Row.norm (fun k => iblk m c 0 t (ix2 r k)) (fun k => iblk m c 1 t (ix2 0 k)) d
      = Row.norm (fun k => m ((c : Thread nD τ).loc main_arg0) (ix2 R k)) (fun k => m ((c : Thread nD τ).loc main_arg1) (ix1 k)) d := by
    intro d
    simp only [blk0 m c t _ _ R hR, blk1]
  refine congrArg₂ (· + ·) (Row.part_congr hn (fun d h => ?_) (fun d h => ?_) (fun h => ?_))
    (Row.part_congr hn (fun d h => ?_) (fun d h => ?_) (fun h => ?_))
  · exact (blk2 ..).trans (congrArg (fun k => m ((c : Thread nD τ).loc main_arg2) (ix2 d k)) (Fin.ext (by simp)))
  · exact (blk2 ..).trans (congrArg (fun k => m ((c : Thread nD τ).loc main_arg2) (ix2 d k)) (Fin.ext (by simp)))
  · exact (blk3 ..).trans (congrArg (fun k => m ((c : Thread nD τ).loc main_arg3) (ix2 k e)) (Fin.ext (by simp)))
  · exact (blk2 ..).trans (congrArg (fun k => m ((c : Thread nD τ).loc main_arg2) (ix2 d k)) (Fin.ext (by simp)))
  · exact (blk2 ..).trans (congrArg (fun k => m ((c : Thread nD τ).loc main_arg2) (ix2 d k)) (Fin.ext (by simp; try omega)))
  · exact (blk3 ..).trans (congrArg (fun k => m ((c : Thread nD τ).loc main_arg3) (ix2 k e)) (Fin.ext (by simp)))

/-- The array the reference computes from the kernel's arguments. -/
abbrev ref (c : Dev nD) : FVec Ideal S65536x1024 .f32 :=
  Cert.FfnReferenceIdeal.RefValue.normV (Cert.FfnReferenceIdeal.RefValue.layerV (m ((c : Thread nD τ).loc main_arg0))
    (m ((c : Thread nD τ).loc main_arg1)) (m ((c : Thread nD τ).loc main_arg2)) (m ((c : Thread nD τ).loc main_arg3)))
    (m ((c : Thread nD τ).loc main_arg4))

/-- What point `t` leaves at row `r` of its block is the reference's row `512 t + r`. -/
theorem point (c : Dev nD) (t : Fin cfg0.N) (r : Fin 512) (e : Fin 1024) (R : Fin 65536) (hR : R.val = t.val * 512 + r.val) :
    outsAt0 m c t (ix2 r e) = ref m c (ix2 R e) := by
  rw [out_apply, pay1_apply, ref, Cert.FfnReferenceIdeal.RefValue.normV_apply]
  simp only [acc_apply m c t _ _ R hR, blk0 m c t _ _ R hR, blk4, Cert.FfnReferenceIdeal.RefValue.layerV_apply]

/-- The result array after the run. -/
theorem final (c : Dev nD) : (dats m 0 c).arrAt 5 cfg0.N = ref m c := by
  refine (dats m 0 c).arrAt_eq_of_covers 5 _ (by decide +kernel) fun t hf y => ?_
  blk_simp
  rw [after0_5]
  idx_vars y
  refine (point m c t y0 y1 ⟨t * 512 + y0, by have := t.isLt; have hN : cfg0.grid.N = 128 := by decide +kernel
                                              omega⟩ rfl).trans (congrArg (ref m c) ?_)
  funext a
  match a with
  | ⟨0, _⟩ => exact Fin.ext (by simp [ix2, (idx t).2.2.2.2.2])
  | ⟨1, _⟩ => exact Fin.ext (by simp [ix2, (idx t).2.2.2.2.2])

end Cert.FfnIdeal.RefValue

end
-- ==== Proof.FfnClaims.lean ====
/- The claims about the feed-forward call: the three frames, and that kernel and reference agree as extended reals. -/
module

public import proofs.«01_k».proof.Defs
public import proofs.«01_k».proof.Proof.Gen.Ffn.Frame
public import proofs.«01_k».proof.Proof.Gen.FfnIdeal.Frame
public import proofs.«01_k».proof.Proof.Gen.FfnReferenceIdeal
public import proofs.«01_k».proof.Proof.FfnReference
public import proofs.«01_k».proof.Proof.FfnValue

@[expose] public section

noncomputable section

namespace Cert.Proof.FfnClaims

open Idealize.ShloMosaic Idealize.SL.Sem

theorem frame_kernel : Cert.quiescent_Ffn := fun m ρ _ => Cert.Ffn.Gen.frame m ρ

theorem frame_ideal : Cert.quiescent_FfnIdeal := fun m ρ _ => Cert.FfnIdeal.Gen.frame m ρ

theorem frame_reference : Cert.quiescent_FfnReferenceIdeal := fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ)

theorem preserves : Cert.preserves_Ffn_FfnIdeal := trivial

/-- Kernel and reference leave the same array: the final norm of the layer, row by row. -/
theorem algebraic : Cert.algebraic_FfnIdeal_FfnReferenceIdeal := by
  intro m ρ m' ρ' _ hagree
  refine ⟨fun c => Cert.FfnIdeal.RefValue.ref m c, ?_, ?_⟩
  · exact (θ_run Cert.FfnIdeal.defs _ _).mono
      (fun _ h c => ⟨(h c).1.trans (Cert.FfnIdeal.RefValue.final m c), (h c).2⟩)
      (Cert.FfnIdeal.Value.run_blocks (F := Ideal) m ρ)
  · refine (θ_run Cert.FfnReferenceIdeal.defs _ _).mono (fun _ h c => ⟨(h c).1.trans ?_, (h c).2⟩)
      (Cert.FfnReferenceIdeal.Value.run (F := Ideal) m' ρ')
    obtain ⟨h0, h1, h2, h3, h4⟩ := hagree c
    rw [Cert.FfnReferenceIdeal.RefValue.res_eq, h0, h1, h2, h3, h4]

end Cert.Proof.FfnClaims

end
-- ==== Proof.FfnFirstReference.lean ====
/- What the first layer's feed-forward reference leaves: the layer with its residual, without a last norm. -/
module

public import proofs.«01_k».proof.Proof.Gen.FfnFirstReferenceIdeal.Run
public import proofs.«01_k».proof.Proof.FfnReference

@[expose] public section

set_option maxRecDepth 16384

noncomputable section

namespace Cert.FfnFirstReferenceIdeal.RefValue

open Cert.FfnFirstReferenceIdeal Cert.FfnFirstReferenceIdeal.Gen Idealize.ShloMosaic Idealize.ShloMosaic.TcCoe Idealize.SL.Sem

/-- The layer over whole arrays: the same mathematics as under the last norm of the other call. -/
abbrev layerV (x : FVec Ideal S65536x1024 .f32) (g : FVec Ideal S1024 .f32) (w1 : FVec Ideal S1024x5632 .f32) (w2 : FVec Ideal S2816x1024 .f32) : FVec Ideal S65536x1024 .f32 :=
  Cert.FfnReferenceIdeal.RefValue.layerV x g w1 w2

/-- The reference's run leaves the layer of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = layerV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

end Cert.FfnFirstReferenceIdeal.RefValue

end
-- ==== Proof.FfnFirstValue.lean ====
/- The first layer's feed-forward kernel's result array: each block of 512 rows is the layer with its residual. The loop's
   trips are those of the call with the last norm, whose lemmas are used here. -/
module

public import proofs.«01_k».proof.Proof.Gen.FfnFirstIdeal.Value
public import proofs.«01_k».proof.Proof.FfnFirstReference
public import proofs.«01_k».proof.Proof.FfnValue

@[expose] public section

set_option maxRecDepth 16384

noncomputable section

namespace Cert.FfnFirstIdeal.RefValue

open Cert.FfnFirstIdeal Cert.FfnFirstIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- The accumulator starts at zero. -/
theorem pay1_apply (j) : k0_pay1 (F := Ideal) j = 0 := by
  pointwise [k0_pay1]

/-- What is stored: the row and the accumulated sum. -/
theorem pay3_apply (v0 v1) (r : Fin 512) (e : Fin 1024) :
    k0_pay3 (F := Ideal) v0 v1 (ix2 r e) = v0 (ix2 r e) + v1 (ix2 r e) := by
  pointwise [k0_pay3]

/-- The accumulator after trip `k`, from what it held before. -/
abbrev step (x0 : Vec Ideal S512x1024 .f32) (x1 : Vec Ideal S1x1024 .f32) (x2 : Vec Ideal S4x1024x1408 .bf16) (x3 : Vec Ideal S2x1408x1024 .bf16)
    (k : Fin k0_t1_loop.trips) (a : Vec Ideal S512x1024 .f32) : Vec Ideal S512x1024 .f32 :=
  Cert.FfnIdeal.RefValue.step x0 x1 x2 x3 k a

theorem step_apply (x0 x1 x2 x3) (k : Fin k0_t1_loop.trips) (a) (r : Fin 512) (e : Fin 1024) (hk : k.val < 2) :
    step x0 x1 x2 x3 k a (ix2 r e) = a (ix2 r e) + Row.part (Row.norm (fun k => x0 (ix2 r k)) (fun k => x1 (ix2 0 k)))
      (fun d h => x2 (ix3 ⟨k, by omega⟩ d h)) (fun d h => x2 (ix3 ⟨2 + k, by omega⟩ d h)) (fun h => x3 (ix3 ⟨k, hk⟩ h e)) :=
  Cert.FfnIdeal.RefValue.step_apply x0 x1 x2 x3 k a r e hk

/-- One trip writes the whole accumulator once. -/
theorem trip_eq (𝒱 : Variants) (c : Dev nD) (bd : Option 𝒱.V) (i : grid0.Coords) (arg1 : Memref sig .tc .vmem S512x1024 .f32) (harg1 : arg1.IsWhole) (arg2 : Memref sig .tc .vmem S1x1024 .f32) (harg2 : arg2.IsWhole) (arg3 : Memref sig .tc .vmem S4x1024x1408 .bf16) (harg3 : arg3.IsWhole) (arg4 : Memref sig .tc .vmem S2x1408x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (x0 : Vec Ideal S512x1024 .f32) (x1 : Vec Ideal S1x1024 .f32) (x2 : Vec Ideal S4x1024x1408 .bf16) (x3 : Vec Ideal S2x1408x1024 .bf16) (k) (f) :
    tripL_k0_t1 (F := Ideal) 𝒱 c bd i arg1 harg1 arg2 harg2 arg3 harg3 arg4 harg4 arg5 harg5 arg6 harg6 arg7 harg7 x0 x1 (harg3.unread x2) (harg4.unread x3) k f
      = [⟨Rect.unit (s := S512x1024) ![0, 0] S512x1024.size inb_S512x1024_S512x1024_0_0, step x0 x1 x2 x3 k
          (View.readAt (Elt Ideal) arg7.view (Rect.unit (s := S512x1024) ![0, 0] S512x1024.size inb_S512x1024_S512x1024_0_0).toLoadRect f)⟩] := by
  unfold tripL_k0_t1 trip_k0_t1
  simp only [View.readAt_eq_ld, Memref.IsWhole.read_unread]
  rfl

theorem out_apply (c : Dev nD) (t : Fin cfg0.N) (y) :
    outsAt0 m c t y = k0_pay3 (iblk m c 0 t)
      (step (iblk m c 0 t) (iblk m c 1 t) (iblk m c 2 t) (iblk m c 3 t) ⟨1, by decide⟩
        (step (iblk m c 0 t) (iblk m c 1 t) (iblk m c 2 t) (iblk m c 3 t) ⟨0, by decide⟩ (k0_pay1 (F := Ideal)))) y := by
  unfold outsAt0
  frame_out
  rw [show Scf.trips (0#32) (Scalar.addi 0#32 2#32) 1#32 = (⟨1, by decide⟩ : Fin k0_t1_loop.trips).val + 1 from by decide]
  rw [pb_k0_t1_succ]
  rw [show (⟨1, by decide⟩ : Fin k0_t1_loop.trips).val = (⟨0, by decide⟩ : Fin k0_t1_loop.trips).val + 1 from rfl, pb_k0_t1_succ]
  simp only [trip_eq]
  rw [pb_k0_t1.eq_1]
  simp only [List.cons_append, List.nil_append]
  rw [View.readCov_cons_toLoadRect]
  rw [← View.writes_append, List.singleton_append, View.readAt_writes_full, View.writes_nil, View.readAt_writes_full]

theorem idx : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] :=
  (by decide +kernel : ∀ t : Fin grid0.N, _)

theorem blk0 (c : Dev nD) (t : Fin cfg0.N) (r : Fin 512) (e : Fin 1024) (R : Fin 65536) (hR : R.val = t.val * 512 + r.val) :
    iblk m c 0 t (ix2 r e) = m ((c : Thread nD τ).loc main_arg0) (ix2 R e) := by
  blk_ext [iblk, V, idx t]

theorem blk1 (c : Dev nD) (t : Fin cfg0.N) (e : Fin 1024) :
    iblk m c 1 t (ix2 0 e) = m ((c : Thread nD τ).loc main_arg1) (ix1 e) := by
  blk_ext! [iblk, V, idx t]

theorem blk2 (c : Dev nD) (t : Fin cfg0.N) (p : Fin 4) (d : Fin 1024) (h : Fin 1408) :
    iblk m c 2 t (ix3 p d h) = m ((c : Thread nD τ).loc main_arg2) (ix2 d ⟨p * 1408 + h, by omega⟩) := by
  blk_ext! [iblk, V, idx t]

theorem blk3 (c : Dev nD) (t : Fin cfg0.N) (p : Fin 2) (h : Fin 1408) (d : Fin 1024) :
    iblk m c 3 t (ix3 p h d) = m ((c : Thread nD τ).loc main_arg3) (ix2 ⟨p * 1408 + h, by omega⟩ d) := by
  blk_ext! [iblk, V, idx t]

/-! ## The two halves of the hidden units, and the result array -/

/-- The accumulator after both trips is the whole sum over the hidden units. -/
theorem acc_apply (c : Dev nD) (t : Fin cfg0.N) (r : Fin 512) (e : Fin 1024) (R : Fin 65536) (hR : R.val = t.val * 512 + r.val) :
    step (iblk m c 0 t) (iblk m c 1 t) (iblk m c 2 t) (iblk m c 3 t) ⟨1, by decide⟩
        (step (iblk m c 0 t) (iblk m c 1 t) (iblk m c 2 t) (iblk m c 3 t) ⟨0, by decide⟩ (k0_pay1 (F := Ideal))) (ix2 r e)
      = Row.hidden (fun k => m ((c : Thread nD τ).loc main_arg0) (ix2 R k)) (fun k => m ((c : Thread nD τ).loc main_arg1) (ix1 k))
          (fun d k => m ((c : Thread nD τ).loc main_arg2) (ix2 d k)) (fun k d => m ((c : Thread nD τ).loc main_arg3) (ix2 k d)) e := by
  rw [step_apply _ _ _ _ _ _ _ _ (by decide), step_apply _ _ _ _ _ _ _ _ (by decide), pay1_apply, zero_add]
  rw [Row.hidden_eq]
  have hn : ∀ d, Row.norm (fun k => iblk m c 0 t (ix2 r k)) (fun k => iblk m c 1 t (ix2 0 k)) d
      = Row.norm (fun k => m ((c : Thread nD τ).loc main_arg0) (ix2 R k)) (fun k => m ((c : Thread nD τ).loc main_arg1) (ix1 k)) d := by
    intro d
    simp only [blk0 m c t _ _ R hR, blk1]
  refine congrArg₂ (· + ·) (Row.part_congr hn (fun d h => ?_) (fun d h => ?_) (fun h => ?_))
    (Row.part_congr hn (fun d h => ?_) (fun d h => ?_) (fun h => ?_))
  · exact (blk2 ..).trans (congrArg (fun k => m ((c : Thread nD τ).loc main_arg2) (ix2 d k)) (Fin.ext (by simp)))
  · exact (blk2 ..).trans (congrArg (fun k => m ((c : Thread nD τ).loc main_arg2) (ix2 d k)) (Fin.ext (by simp)))
  · exact (blk3 ..).trans (congrArg (fun k => m ((c : Thread nD τ).loc main_arg3) (ix2 k e)) (Fin.ext (by simp)))
  · exact (blk2 ..).trans (congrArg (fun k => m ((c : Thread nD τ).loc main_arg2) (ix2 d k)) (Fin.ext (by simp)))
  · exact (blk2 ..).trans (congrArg (fun k => m ((c : Thread nD τ).loc main_arg2) (ix2 d k)) (Fin.ext (by simp; try omega)))
  · exact (blk3 ..).trans (congrArg (fun k => m ((c : Thread nD τ).loc main_arg3) (ix2 k e)) (Fin.ext (by simp)))

/-- The array the reference computes from the kernel's arguments. -/
abbrev ref (c : Dev nD) : FVec Ideal S65536x1024 .f32 :=
  Cert.FfnFirstReferenceIdeal.RefValue.layerV (m ((c : Thread nD τ).loc main_arg0)) (m ((c : Thread nD τ).loc main_arg1))
    (m ((c : Thread nD τ).loc main_arg2)) (m ((c : Thread nD τ).loc main_arg3))

/-- What point `t` leaves at row `r` of its block is the reference's row `512 t + r`. -/
theorem point (c : Dev nD) (t : Fin cfg0.N) (r : Fin 512) (e : Fin 1024) (R : Fin 65536) (hR : R.val = t.val * 512 + r.val) :
    outsAt0 m c t (ix2 r e) = ref m c (ix2 R e) := by
  rw [out_apply, pay3_apply, acc_apply m c t _ _ R hR, blk0 m c t _ _ R hR]
  exact (Cert.FfnReferenceIdeal.RefValue.layerV_apply _ _ _ _ R e).symm

/-- The result array after the run. -/
theorem final (c : Dev nD) : (dats m 0 c).arrAt 5 cfg0.N = ref m c := by
  refine (dats m 0 c).arrAt_eq_of_covers 5 _ (by decide +kernel) fun t hf y => ?_
  blk_simp
  rw [after0_5]
  idx_vars y
  refine (point m c t y0 y1 ⟨t * 512 + y0, by have := t.isLt; have hN : cfg0.grid.N = 128 := by decide +kernel
                                              omega⟩ rfl).trans (congrArg (ref m c) ?_)
  funext a
  match a with
  | ⟨0, _⟩ => exact Fin.ext (by simp [ix2, (idx t).2.2.2.2.2])
  | ⟨1, _⟩ => exact Fin.ext (by simp [ix2, (idx t).2.2.2.2.2])

end Cert.FfnFirstIdeal.RefValue

end
-- ==== Proof.FfnFirstClaims.lean ====
/- The claims about the first layer's feed-forward call: the three frames, and that kernel and reference agree as extended reals. -/
module

public import proofs.«01_k».proof.Defs
public import proofs.«01_k».proof.Proof.Gen.FfnFirst.Frame
public import proofs.«01_k».proof.Proof.Gen.FfnFirstIdeal.Frame
public import proofs.«01_k».proof.Proof.Gen.FfnFirstReferenceIdeal
public import proofs.«01_k».proof.Proof.FfnFirstReference
public import proofs.«01_k».proof.Proof.FfnFirstValue

@[expose] public section

noncomputable section

namespace Cert.Proof.FfnFirstClaims

open Idealize.ShloMosaic Idealize.SL.Sem

theorem frame_kernel : Cert.quiescent_FfnFirst := fun m ρ _ => Cert.FfnFirst.Gen.frame m ρ

theorem frame_ideal : Cert.quiescent_FfnFirstIdeal := fun m ρ _ => Cert.FfnFirstIdeal.Gen.frame m ρ

theorem frame_reference : Cert.quiescent_FfnFirstReferenceIdeal := fun m ρ _ =>
  (θ_run Cert.FfnFirstReferenceIdeal.defs _ _).mono
    (fun r h => ⟨fun c => (h c).2, sem_eq_zero_of_no_sems (by decide) r.2⟩)
    (Cert.FfnFirstReferenceIdeal.Value.run (F := Ideal) m ρ)

theorem preserves : Cert.preserves_FfnFirst_FfnFirstIdeal := trivial

/-- Kernel and reference leave the same array: the layer with its residual, row by row. -/
theorem algebraic : Cert.algebraic_FfnFirstIdeal_FfnFirstReferenceIdeal := by
  intro m ρ m' ρ' _ hagree
  refine ⟨fun c => Cert.FfnFirstIdeal.RefValue.ref m c, ?_, ?_⟩
  · exact (θ_run Cert.FfnFirstIdeal.defs _ _).mono
      (fun _ h c => ⟨(h c).1.trans (Cert.FfnFirstIdeal.RefValue.final m c), (h c).2⟩)
      (Cert.FfnFirstIdeal.Value.run_blocks (F := Ideal) m ρ)
  · refine (θ_run Cert.FfnFirstReferenceIdeal.defs _ _).mono (fun _ h c => ⟨(h c).1.trans ?_, (h c).2⟩)
      (Cert.FfnFirstReferenceIdeal.RefValue.run m' ρ')
    obtain ⟨h0, h1, h2, h3, h4⟩ := hagree c
    rw [h0, h1, h2, h3]

end Cert.Proof.FfnFirstClaims

end
-- ==== Proof.MixReference.lean ====
/- What the first output projection's reference leaves: the residual plus the two mixers' outputs, side by side, times
   the weights. -/
module

public import proofs.«01_k».proof.Proof.Gen.MixReferenceIdeal.Run
public import Idealize.ShloMosaic.Lib.Pointwise

@[expose] public section

set_option maxRecDepth 16384

noncomputable section

namespace Cert.Proof.Mix

/-- One entry: the two mixers' rows against the upper and lower half of the weights' column. -/
def entry (x : EReal) (a b : Fin 512 → EReal) (w : Fin 1024 → EReal) : EReal :=
  x + ((∑ k : Fin 512, a k * w ⟨k, by omega⟩) + ∑ k : Fin 512, b k * w ⟨512 + k, by omega⟩)

end Cert.Proof.Mix

namespace Cert.MixReferenceIdeal.RefValue

open Cert.MixReferenceIdeal Cert.MixReferenceIdeal.Gen Idealize.ShloMosaic Idealize.ShloMosaic.TcCoe Idealize.SL.Sem
open Cert.Proof

/-- The projection over whole arrays. -/
def mixV (x : FVec Ideal S65536x1024 .f32) (a b : FVec Ideal S65536x512 .f32) (w : FVec Ideal S1024x1024 .f32) : FVec Ideal S65536x1024 .f32 :=
  addf x (Host.dotGeneral dot_S65536x1024_S1024x1024_S65536x1024_1_0_0_1_n_n none (concatenate S65536x1024 1 [⟨S65536x512, a⟩, ⟨S65536x512, b⟩] concatenates_S65536x512_S65536x512_S65536x1024_d1) w)

theorem mixV_apply (x a b w) (r : Fin 65536) (e : Fin 1024) :
    mixV x a b w (ix2 r e) = Mix.entry (x (ix2 r e)) (fun k => a (ix2 r k)) (fun k => b (ix2 r k)) (fun k => w (ix2 k e)) := by
  pointwise [mixV]
  rfl

/-- The reference's run leaves the projection of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2)
        = mixV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run (F := Ideal) m ρ

end Cert.MixReferenceIdeal.RefValue

end
-- ==== Proof.MixValue.lean ====
/- The first output projection's result array: each block of 512 rows is the residual plus the product of the two
   mixers' outputs and the weights. -/
module

public import proofs.«01_k».proof.Proof.Gen.MixIdeal.Value
public import proofs.«01_k».proof.Proof.MixReference
public import Idealize.ShloMosaic.Lib.Pipeline.ValueKit
public import Idealize.ShloMosaic.Lib.VecWindow
public import Idealize.ShloMosaic.Lib.Pipeline.ReadBack

@[expose] public section

set_option maxRecDepth 16384

noncomputable section

namespace Cert.MixIdeal.RefValue

open Cert.MixIdeal Cert.MixIdeal.Gen Idealize.ShloMosaic Idealize.ShloMosaic.TcCoe Idealize.SL.Sem
open Idealize.ShloMosaic.Pipeline (Dat)
open Cert.Proof

variable (m : (ℓ : Loc nD τ sig) → Buf (Elt Ideal) ℓ)

/-- What is stored, at an index. -/
theorem pay1_apply (a b x w) (r : Fin 512) (e : Fin 1024) :
    k0_pay1 (F := Ideal) a b x w (ix2 r e)
      = Mix.entry (x (ix2 r e)) (fun k => a (ix2 r k)) (fun k => b (ix2 r k)) (fun k => w (ix2 k e)) := by
  pointwise [k0_pay1]
  rfl

/-- The block a point leaves is the one value it stores, of the whole input blocks. -/
theorem out_eq (x0 x1 x2 x3) : out0_4 (F := Ideal) x0 x1 x2 x3 = k0_pay1 x1 x2 x0 x3 := by
  have hz : (![0, 0] : Fin 2 → Nat) = fun _ => 0 := by decide
  unfold out0_4
  exact (View.canon_cons_unit_zero hz _ _ _).trans (by
    rw [show View.ld x1 r0_0 = x1 from View.ld_unit_zero hz _ x1, show View.ld x2 r0_0 = x2 from View.ld_unit_zero hz _ x2,
      show View.ld x0 r0_1 = x0 from View.ld_unit_zero hz _ x0, show View.ld x3 r0_2 = x3 from View.ld_unit_zero hz _ x3])

theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

theorem read0 (W : Vec Ideal S65536x1024 .f32) (t : Fin cfg0.N) (r : Fin 512) (e : Fin 1024) (R : Fin 65536) (hR : R.val = t.val * 512 + r.val) :
    (win0_0.blk t).view.read (Elt Ideal) W (ix2 r e) = W (ix2 R e) := by
  blk_ext [idx t]

theorem read1 (W : Vec Ideal S65536x512 .bf16) (t : Fin cfg0.N) (r : Fin 512) (e : Fin 512) (R : Fin 65536) (hR : R.val = t.val * 512 + r.val) :
    (win0_1.blk t).view.read (Elt Ideal) W (ix2 r e) = W (ix2 R e) := by
  blk_ext [idx t]

theorem read2 (W : Vec Ideal S65536x512 .bf16) (t : Fin cfg0.N) (r : Fin 512) (e : Fin 512) (R : Fin 65536) (hR : R.val = t.val * 512 + r.val) :
    (win0_2.blk t).view.read (Elt Ideal) W (ix2 r e) = W (ix2 R e) := by
  blk_ext [idx t]

theorem read3 (W : Vec Ideal S1024x1024 .bf16) (t : Fin cfg0.N) (d : Fin 1024) (e : Fin 1024) :
    (win0_3.blk t).view.read (Elt Ideal) W (ix2 d e) = W (ix2 d e) := by
  blk_ext [idx t]

theorem V_main_v0 (c : Dev nD) : V m c main_v0 = m ((c : Thread nD τ).loc main_arg1) := by
  unfold V
  after_results
  rfl

theorem V_main_v1 (c : Dev nD) : V m c main_v1 = m ((c : Thread nD τ).loc main_arg2) := by
  unfold V
  after_results
  rfl

theorem V_main_v2 (c : Dev nD) : V m c main_v2 = m ((c : Thread nD τ).loc main_arg3) := by
  unfold V
  after_results
  rfl

theorem blk0 (c : Dev nD) (t : Fin cfg0.N) (r : Fin 512) (e : Fin 1024) (R : Fin 65536) (hR : R.val = t.val * 512 + r.val) :
    iblk m c 0 t (ix2 r e) = m ((c : Thread nD τ).loc main_arg0) (ix2 R e) :=
  read0 (V m c main_arg0) t r e R hR

theorem blk1 (c : Dev nD) (t : Fin cfg0.N) (r : Fin 512) (e : Fin 512) (R : Fin 65536) (hR : R.val = t.val * 512 + r.val) :
    iblk m c 1 t (ix2 r e) = m ((c : Thread nD τ).loc main_arg1) (ix2 R e) :=
  (read1 (V m c main_v0) t r e R hR).trans (congrFun (V_main_v0 m c) _)

theorem blk2 (c : Dev nD) (t : Fin cfg0.N) (r : Fin 512) (e : Fin 512) (R : Fin 65536) (hR : R.val = t.val * 512 + r.val) :
    iblk m c 2 t (ix2 r e) = m ((c : Thread nD τ).loc main_arg2) (ix2 R e) :=
  (read2 (V m c main_v1) t r e R hR).trans (congrFun (V_main_v1 m c) _)

theorem blk3 (c : Dev nD) (t : Fin cfg0.N) (d : Fin 1024) (e : Fin 1024) :
    iblk m c 3 t (ix2 d e) = m ((c : Thread nD τ).loc main_arg3) (ix2 d e) :=
  (read3 (V m c main_v2) t d e).trans (congrFun (V_main_v2 m c) _)

/-- The array the reference computes from the kernel's arguments. -/
abbrev ref (c : Dev nD) : FVec Ideal S65536x1024 .f32 :=
  Cert.MixReferenceIdeal.RefValue.mixV (m ((c : Thread nD τ).loc main_arg0)) (m ((c : Thread nD τ).loc main_arg1))
    (m ((c : Thread nD τ).loc main_arg2)) (m ((c : Thread nD τ).loc main_arg3))

/-- What point `t` leaves at row `r` of its block is the reference's row `512 t + r`. -/
theorem point (c : Dev nD) (t : Fin cfg0.N) (r : Fin 512) (e : Fin 1024) (R : Fin 65536) (hR : R.val = t.val * 512 + r.val) :
    out0_4 (F := Ideal) (iblk m c 0 t) (iblk m c 1 t) (iblk m c 2 t) (iblk m c 3 t) (ix2 r e) = ref m c (ix2 R e) := by
  rw [out_eq, pay1_apply, ref, Cert.MixReferenceIdeal.RefValue.mixV_apply]
  simp only [blk0 m c t _ _ R hR, blk1 m c t _ _ R hR, blk2 m c t _ _ R hR, blk3]

/-- The result array after the run. -/
theorem final (c : Dev nD) : (dats m 0 c).arrAt 4 cfg0.N = ref m c := by
  refine (dats m 0 c).arrAt_eq_of_covers 4 _ (by decide +kernel) fun t hf y => ?_
  blk_simp
  rw [after0_4]
  idx_vars y
  refine (point m c t y0 y1 ⟨t * 512 + y0, by have := t.isLt; have hN : cfg0.grid.N = 128 := by decide +kernel
                                              omega⟩ rfl).trans (congrArg (ref m c) ?_)
  funext a
  match a with
  | ⟨0, _⟩ => exact Fin.ext (by simp [ix2, (idx t).2.2.2.2])
  | ⟨1, _⟩ => exact Fin.ext (by simp [ix2, (idx t).2.2.2.2])

end Cert.MixIdeal.RefValue

end
-- ==== Proof.MixClaims.lean ====
/- The claims about the first output projection: the three frames, and that kernel and reference agree as extended reals. -/
module

public import proofs.«01_k».proof.Defs
public import proofs.«01_k».proof.Proof.Gen.Mix.Frame
public import proofs.«01_k».proof.Proof.Gen.MixIdeal.Frame
public import proofs.«01_k».proof.Proof.Gen.MixReferenceIdeal
public import proofs.«01_k».proof.Proof.MixReference
public import proofs.«01_k».proof.Proof.MixValue

@[expose] public section

noncomputable section

namespace Cert.Proof.MixClaims

open Idealize.ShloMosaic Idealize.SL.Sem

theorem frame_kernel : Cert.quiescent_Mix := fun m ρ _ => Cert.Mix.Gen.frame m ρ

theorem frame_ideal : Cert.quiescent_MixIdeal := fun m ρ _ => Cert.MixIdeal.Gen.frame m ρ

theorem frame_reference : Cert.quiescent_MixReferenceIdeal := fun m ρ _ =>
  (θ_run Cert.MixReferenceIdeal.defs _ _).mono
    (fun r h => ⟨fun c => (h c).2, sem_eq_zero_of_no_sems (by decide) r.2⟩)
    (Cert.MixReferenceIdeal.Value.run (F := Ideal) m ρ)

theorem preserves : Cert.preserves_Mix_MixIdeal := trivial

/-- Kernel and reference leave the same array: the residual plus the projected mixers, row by row. -/
theorem algebraic : Cert.algebraic_MixIdeal_MixReferenceIdeal := by
  intro m ρ m' ρ' _ hagree
  refine ⟨fun c => Cert.MixIdeal.RefValue.ref m c, ?_, ?_⟩
  · exact (θ_run Cert.MixIdeal.defs _ _).mono
      (fun _ h c => ⟨(h c).1.trans (Cert.MixIdeal.RefValue.final m c), (h c).2⟩)
      (Cert.MixIdeal.Value.run_blocks (F := Ideal) m ρ)
  · refine (θ_run Cert.MixReferenceIdeal.defs _ _).mono (fun _ h c => ⟨(h c).1.trans ?_, (h c).2⟩)
      (Cert.MixReferenceIdeal.RefValue.run m' ρ')
    obtain ⟨h0, h1, h2, h3⟩ := hagree c
    rw [h0, h1, h2, h3]

end Cert.Proof.MixClaims

end
-- ==== Proof.ProjectMath.lean ====
/- The input projection's row mathematics, over columns counted by natural numbers: the rotation of a head's 64 channels,
   the twelve rows of results, and how the kernel's pairs of heads in 128 lanes come to the same numbers. -/
module

public import proofs.«01_k».proof.Proof.FfnReference
public import Idealize.ShloMosaic.Lib.Pointwise

@[expose] public section

set_option maxRecDepth 16384

noncomputable section

namespace Cert.Proof.Proj

open Idealize.ShloMosaic

/-- A row read at a natural number, zero past its end. -/
def nat {n : Nat} (f : Fin n → EReal) (j : Nat) : EReal := if h : j < n then f ⟨j, h⟩ else 0

theorem nat_mk {n : Nat} (f : Fin n → EReal) (j : Nat) (h : j < n) : nat f j = f ⟨j, h⟩ := dif_pos h

theorem nat_val {n : Nat} (f : Fin n → EReal) (j : Fin n) : nat f j = f j := dif_pos j.isLt

/-- Channel `d` of a rotated head whose first column is `o`: the channel times the cosine, plus its partner, negated in
    the first half, times the sine. -/
def rot (z C S : Nat → EReal) (o d : Nat) : EReal :=
  z (o + d) * C d + (if d < 32 then -z (o + (32 + d)) else z (o + (d - 32))) * S d

/-- What the kernel computes for lane `l` of a pair of heads from the three tables of its row. -/
def krot (y T : Nat → EReal) (o l : Nat) : EReal :=
  y (o + l) * T l + y (o + (l + 128 - 96) % 128) * T (128 + l) + y (o + (l + 128 - 32) % 128) * T (256 + l)

/-- How the kernel's columns `y` and tables `T` of a row stand to the reference's columns `z`, cosines `C`, sines `S`
    and block indicators `B`. -/
structure Link (y T z C S B : Nat → EReal) : Prop where
  cos : ∀ l < 128, T l = C (l % 64)
  lo : ∀ l < 128, T (128 + l) = if l % 64 < 32 then -S (l % 64) else 0
  hi : ∀ l < 128, T (256 + l) = if l % 64 < 32 then 0 else S (l % 64)
  block : ∀ l < 128, T (384 + l) = B l
  q : ∀ l < 512, y l = z l
  ksel : ∀ l < 128, y (512 + l) = z (768 + l)
  kwin : ∀ l < 128, y (640 + l) = z (1024 + l)
  bq : ∀ l < 512, y (768 + l) = z (1304 + l)
  bk : ∀ l < 128, y (1280 + l) = z (1816 + l)
  kcmp : ∀ l < 128, y (1408 + l) = z (512 + l)
  vcmp : ∀ l < 128, y (1536 + l) = z (640 + l)
  vsel : ∀ l < 128, y (1664 + l) = z (896 + l)
  vwin : ∀ l < 128, y (1792 + l) = z (1152 + l)
  bv : ∀ l < 128, y (1920 + l) = z (1944 + l)
  gate : ∀ l < 128, y (2048 + l) = if l < 24 then z (1280 + l) else 0

variable {y T z C S B : Nat → EReal}

/-- A lane of a rotated pair is a channel of one of the two rotated heads. -/
theorem krot_eq (L : Link y T z C S B) {o o' : Nat} (h : ∀ i < 128, y (o + i) = z (o' + i)) {l : Nat} (hl : l < 128) :
    krot y T o l = rot z C S (o' + 64 * (l / 64)) (l % 64) := by
  unfold krot rot
  rw [L.cos l hl, L.lo l hl, L.hi l hl, h l hl, h _ (Nat.mod_lt _ (by decide)), h _ (Nat.mod_lt _ (by decide))]
  rw [show o' + 64 * (l / 64) + l % 64 = o' + l by omega]
  by_cases hd : l % 64 < 32
  · rw [if_pos hd, if_pos hd, if_pos hd, mul_zero, add_zero, mul_neg, neg_mul,
      show o' + 64 * (l / 64) + (32 + l % 64) = o' + (l + 128 - 96) % 128 by omega]
  · rw [if_neg hd, if_neg hd, if_neg hd, mul_zero, add_zero,
      show o' + 64 * (l / 64) + (l % 64 - 32) = o' + (l + 128 - 32) % 128 by omega]

/-! ## The twelve rows -/

def o4 (z : Nat → EReal) (e : Nat) : EReal := z e * Ideal.ofBits FTy.f32 0x3E000000#32
def o5 (z C S : Nat → EReal) (e : Nat) : EReal := rot z C S (64 * (e / 64)) (e % 64) * Ideal.ofBits FTy.f32 0x3E38AA3B#32
def o6 (z C S B : Nat → EReal) (e : Nat) : EReal :=
  if e % 256 < 128 then rot z C S (768 + 64 * (e / 256)) (e % 64) else B (e % 128)
def twice (z C S : Nat → EReal) (o e : Nat) : EReal := rot z C S (o + 64 * (e / 128)) (e % 64)
def o8 (z C S : Nat → EReal) (e : Nat) : EReal := rot z C S (1304 + 64 * (e / 64)) (e % 64) * Ideal.ofBits FTy.f32 0x3E000000#32
def ones (z : Nat → EReal) (o e : Nat) : EReal := if e % 128 < 64 then z (o + (64 * (e / 128) + e % 128)) else 1
def o14 (z : Nat → EReal) (e : Nat) : EReal := z (1944 + (64 * (e / 128) + e % 64))
def o15 (z : Nat → EReal) (e : Nat) : EReal := Ideal.logistic (if e < 24 then z (1280 + e) else 0)

theorem rot_congr {o o' d d' : Nat} (ho : o = o') (hd : d = d') : rot z C S o d = rot z C S o' d' := by rw [ho, hd]

/-- A rotated channel, whatever way its columns are counted. -/
theorem rot_of {a1 a2 a3 o d d' : Nat} (h1 : a1 = o + d') (h2 : a2 = o + (32 + d')) (h3 : a3 = o + (d' - 32)) (hd : d = d') :
    z a1 * C d + (if _h : d < 32 then -z a2 else z a3) * S d = rot z C S o d' := by
  subst h1 h2 h3 hd
  rfl

/-- The first of a doubled pair: the first head in both halves of the lanes. -/
theorem dup0 (L : Link y T z C S B) {o o' : Nat} (h : ∀ i < 128, y (o + i) = z (o' + i)) {l : Nat} (hl : l < 128) :
    (if l < 64 then krot y T o l else krot y T o ((l + 128 - 64) % 128)) = rot z C S o' (l % 64) := by
  split
  · rw [krot_eq L h hl]; exact rot_congr (by omega) rfl
  · rw [krot_eq L h (Nat.mod_lt _ (by decide))]; exact rot_congr (by omega) (by omega)

/-- The second of a doubled pair. -/
theorem dup1 (L : Link y T z C S B) {o o' : Nat} (h : ∀ i < 128, y (o + i) = z (o' + i)) {l : Nat} (hl : l < 128) :
    (if l < 64 then krot y T o ((l + 128 - 64) % 128) else krot y T o l) = rot z C S (o' + 64) (l % 64) := by
  split
  · rw [krot_eq L h (Nat.mod_lt _ (by decide))]; exact rot_congr (by omega) (by omega)
  · rw [krot_eq L h hl]; exact rot_congr (by omega) rfl

end Cert.Proof.Proj

end
-- ==== Proof.ProjectTerms.lean ====
/- What the input projection's reference leaves, as functions of the projected rows: the normed rows' product with the
   weights, its columns cut into heads, the rotations, and the twelve results. -/
module

public import proofs.«01_k».proof.Proof.Gen.ProjectReferenceIdeal.Run
public import proofs.«01_k».proof.Proof.ProjectMath

@[expose] public section

set_option maxRecDepth 16384

noncomputable section

namespace Cert.ProjectReferenceIdeal.RefValue

open Cert.ProjectReferenceIdeal Cert.ProjectReferenceIdeal.Gen Idealize.ShloMosaic Idealize.ShloMosaic.TcCoe Idealize.SL.Sem
open Cert.Proof

/-- The angles of the positions, one for each pair of channels. -/
def halfAngles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The angles twice, for the two halves of a head. -/
def angles : FVec Ideal S4096x64 .f32 :=
  concatenate S4096x64 1 [⟨S4096x32, halfAngles⟩, ⟨S4096x32, halfAngles⟩] concatenates_S4096x32_S4096x32_S4096x64_d1

def cosT : FVec Ideal S4096x64 .f32 := Host.cos angles
def sinT : FVec Ideal S4096x64 .f32 := Host.sin angles

/-- The projection of the normed rows. -/
def proj (x : FVec Ideal S16x4096x1024 .f32) (g : FVec Ideal S1024 .f32) (w : FVec Ideal S1024x2072 .f32) : FVec Ideal S16x4096x2072 .f32 :=
  Host.dotGeneral dot_S16x4096x1024_S1024x2072_S16x4096x2072_2_0_01_1_n_n none (mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x3727C5AC#32)))))) (broadcastInDim S16x4096x1024 ![0, 1, 2] bcast_S1x1x1024_S16x4096x1024_0_1_2 (broadcastInDim S1x1x1024 ![2] bcast_S1024_S1x1x1024_2 g))) w

/-- The rotation of 2 heads. -/
def rope2 (t : FVec Ideal S16x4096x2x64 .f32) : FVec Ideal S16x4096x2x64 .f32 :=
  addf (mulf t (broadcastInDim S16x4096x2x64 ![0, 1, 2, 3] bcast_S1x4096x1x64_S16x4096x2x64_0_1_2_3 (broadcastInDim S1x4096x1x64 ![1, 2, 3] bcast_S4096x1x64_S1x4096x1x64_1_2_3 (broadcastInDim S4096x1x64 ![0, 2] bcast_S4096x64_S4096x1x64_0_2 cosT)))) (mulf (concatenate S16x4096x2x64 3 [⟨S16x4096x2x32, (Host.negf (extractStridedSlice S16x4096x2x32 ![0, 0, 0, 32] t slices_S16x4096x2x64_S16x4096x2x32_0_0_0_32))⟩, ⟨S16x4096x2x32, (extractStridedSlice S16x4096x2x32 ![0, 0, 0, 0] t slices_S16x4096x2x64_S16x4096x2x32_0_0_0_0)⟩] concatenates_S16x4096x2x32_S16x4096x2x32_S16x4096x2x64_d3) (broadcastInDim S16x4096x2x64 ![0, 1, 2, 3] bcast_S1x4096x1x64_S16x4096x2x64_0_1_2_3 (broadcastInDim S1x4096x1x64 ![1, 2, 3] bcast_S4096x1x64_S1x4096x1x64_1_2_3 (broadcastInDim S4096x1x64 ![0, 2] bcast_S4096x64_S4096x1x64_0_2 sinT))))

/-- The rotation of 8 heads. -/
def rope8 (t : FVec Ideal S16x4096x8x64 .f32) : FVec Ideal S16x4096x8x64 .f32 :=
  addf (mulf t (broadcastInDim S16x4096x8x64 ![0, 1, 2, 3] bcast_S1x4096x1x64_S16x4096x8x64_0_1_2_3 (broadcastInDim S1x4096x1x64 ![1, 2, 3] bcast_S4096x1x64_S1x4096x1x64_1_2_3 (broadcastInDim S4096x1x64 ![0, 2] bcast_S4096x64_S4096x1x64_0_2 cosT)))) (mulf (concatenate S16x4096x8x64 3 [⟨S16x4096x8x32, (Host.negf (extractStridedSlice S16x4096x8x32 ![0, 0, 0, 32] t slices_S16x4096x8x64_S16x4096x8x32_0_0_0_32))⟩, ⟨S16x4096x8x32, (extractStridedSlice S16x4096x8x32 ![0, 0, 0, 0] t slices_S16x4096x8x64_S16x4096x8x32_0_0_0_0)⟩] concatenates_S16x4096x8x32_S16x4096x8x32_S16x4096x8x64_d3) (broadcastInDim S16x4096x8x64 ![0, 1, 2, 3] bcast_S1x4096x1x64_S16x4096x8x64_0_1_2_3 (broadcastInDim S1x4096x1x64 ![1, 2, 3] bcast_S4096x1x64_S1x4096x1x64_1_2_3 (broadcastInDim S4096x1x64 ![0, 2] bcast_S4096x64_S4096x1x64_0_2 sinT))))

/-- The positions as words. -/
def pos : IVec S4096x1 32 := broadcastInDim S4096x1 ![0] bcast_S4096_S4096x1_0 (iotaInDim S4096 32 0)

/-- One where the lane counts the position's block of 64. -/
def blockT : FVec Ideal S4096x128 .f32 :=
  (uitofp .f32 (cmpi .eq (broadcastInDim S4096x128 ![0, 1] bcast_S4096x1_S4096x128_0_1 (select (andi (cmpi .ne (signi pos) (broadcastInDim S4096x1 ![] bcast_S_S4096x1 (signi (id (constantI S_ 32 64#32))))) (cmpi .ne (Host.remsi pos (broadcastInDim S4096x1 ![] bcast_S_S4096x1 (id (constantI S_ 32 64#32)))) (broadcastInDim S4096x1 ![] bcast_S_S4096x1 (constantI S_ 32 0#32)))) (subi (Host.divsi pos (broadcastInDim S4096x1 ![] bcast_S_S4096x1 (id (constantI S_ 32 64#32)))) (broadcastInDim S4096x1 ![] bcast_S_S4096x1 (constantI S_ 32 1#32))) (Host.divsi pos (broadcastInDim S4096x1 ![] bcast_S_S4096x1 (id (constantI S_ 32 64#32)))))) (broadcastInDim S4096x128 ![0, 1] bcast_S1x128_S4096x128_0_1 (broadcastInDim S1x128 ![1] bcast_S128_S1x128_1 (iotaInDim S128 32 0)))))

def keysSel (z : FVec Ideal S16x4096x2072 .f32) : FVec Ideal S16x4096x2x64 .f32 :=
  shapeCast S16x4096x2x64 (extractStridedSlice S16x4096x128 ![0, 0, 256] (extractStridedSlice S16x4096x768 ![0, 0, 512] z slices_S16x4096x2072_S16x4096x768_0_0_512) slices_S16x4096x768_S16x4096x128_0_0_256) shapeCasts_S16x4096x128_S16x4096x2x64

def keysWin (z : FVec Ideal S16x4096x2072 .f32) : FVec Ideal S16x4096x2x64 .f32 :=
  shapeCast S16x4096x2x64 (extractStridedSlice S16x4096x128 ![0, 0, 512] (extractStridedSlice S16x4096x768 ![0, 0, 512] z slices_S16x4096x2072_S16x4096x768_0_0_512) slices_S16x4096x768_S16x4096x128_0_0_512) shapeCasts_S16x4096x128_S16x4096x2x64

def valsSel (z : FVec Ideal S16x4096x2072 .f32) : FVec Ideal S16x4096x2x64 .f32 :=
  shapeCast S16x4096x2x64 (extractStridedSlice S16x4096x128 ![0, 0, 384] (extractStridedSlice S16x4096x768 ![0, 0, 512] z slices_S16x4096x2072_S16x4096x768_0_0_512) slices_S16x4096x768_S16x4096x128_0_0_384) shapeCasts_S16x4096x128_S16x4096x2x64

def valsWin (z : FVec Ideal S16x4096x2072 .f32) : FVec Ideal S16x4096x2x64 .f32 :=
  shapeCast S16x4096x2x64 (extractStridedSlice S16x4096x128 ![0, 0, 640] (extractStridedSlice S16x4096x768 ![0, 0, 512] z slices_S16x4096x2072_S16x4096x768_0_0_512) slices_S16x4096x768_S16x4096x128_0_0_640) shapeCasts_S16x4096x128_S16x4096x2x64

def keysBand (z : FVec Ideal S16x4096x2072 .f32) : FVec Ideal S16x4096x2x64 .f32 :=
  shapeCast S16x4096x2x64 (extractStridedSlice S16x4096x128 ![0, 0, 0] (extractStridedSlice S16x4096x256 ![0, 0, 1816] z slices_S16x4096x2072_S16x4096x256_0_0_1816) slices_S16x4096x256_S16x4096x128_0_0_0) shapeCasts_S16x4096x128_S16x4096x2x64

def valsBand (z : FVec Ideal S16x4096x2072 .f32) : FVec Ideal S16x4096x2x64 .f32 :=
  shapeCast S16x4096x2x64 (extractStridedSlice S16x4096x128 ![0, 0, 128] (extractStridedSlice S16x4096x256 ![0, 0, 1816] z slices_S16x4096x2072_S16x4096x256_0_0_1816) slices_S16x4096x256_S16x4096x128_0_0_128) shapeCasts_S16x4096x128_S16x4096x2x64

/-- Two heads of 64 channels side by side. -/
def pair (t u : FVec Ideal S16x4096x2x64 .f32) : FVec Ideal S16x4096x2x128 .f32 :=
  concatenate S16x4096x2x128 3 [⟨S16x4096x2x64, t⟩, ⟨S16x4096x2x64, u⟩] concatenates_S16x4096x2x64_S16x4096x2x64_S16x4096x2x128_d3

def onesT : FVec Ideal S16x4096x2x64 .f32 := broadcastInDim S16x4096x2x64 ![] bcast_S_S16x4096x2x64 (constant S_ .f32 0x3F800000#32)

/-- The block indicators of every head. -/
def blocks : FVec Ideal S16x4096x2x128 .f32 :=
  broadcastInDim S16x4096x2x128 ![0, 1, 2, 3] bcast_S1x4096x1x128_S16x4096x2x128_0_1_2_3 (broadcastInDim S1x4096x1x128 ![1, 3] bcast_S4096x128_S1x4096x1x128_1_3 blockT)

/-- Two heads of 64 channels and 128 lanes side by side. -/
def triple (t u : FVec Ideal S16x4096x2x64 .f32) (v : FVec Ideal S16x4096x2x128 .f32) : FVec Ideal S16x4096x2x256 .f32 :=
  concatenate S16x4096x2x256 3 [⟨S16x4096x2x64, t⟩, ⟨S16x4096x2x64, u⟩, ⟨S16x4096x2x128, v⟩] concatenates_S16x4096x2x64_S16x4096x2x64_S16x4096x2x128_S16x4096x2x256_d3

def r4 (z : FVec Ideal S16x4096x2072 .f32) : FVec Ideal S16x4096x512 .bf16 :=
  truncf .bf16 (shapeCast S16x4096x512 (mulf (shapeCast S16x4096x8x64 (extractStridedSlice S16x4096x512 ![0, 0, 0] z slices_S16x4096x2072_S16x4096x512_0_0_0) shapeCasts_S16x4096x512_S16x4096x8x64) (broadcastInDim S16x4096x8x64 ![] bcast_S_S16x4096x8x64 (constant S_ .f32 0x3E000000#32))) shapeCasts_S16x4096x8x64_S16x4096x512) bitsLt_bf16_f32

def r5 (z : FVec Ideal S16x4096x2072 .f32) : FVec Ideal S16x4096x512 .bf16 :=
  truncf .bf16 (shapeCast S16x4096x512 (mulf (rope8 (shapeCast S16x4096x8x64 (extractStridedSlice S16x4096x512 ![0, 0, 0] z slices_S16x4096x2072_S16x4096x512_0_0_0) shapeCasts_S16x4096x512_S16x4096x8x64)) (broadcastInDim S16x4096x8x64 ![] bcast_S_S16x4096x8x64 (constant S_ .f32 0x3E38AA3B#32))) shapeCasts_S16x4096x8x64_S16x4096x512) bitsLt_bf16_f32

def r6 (z : FVec Ideal S16x4096x2072 .f32) : FVec Ideal S16x4096x512 .bf16 :=
  truncf .bf16 (shapeCast S16x4096x512 (triple (rope2 (keysSel z)) (rope2 (keysSel z)) blocks) shapeCasts_S16x4096x2x256_S16x4096x512) bitsLt_bf16_f32

def r7 (z : FVec Ideal S16x4096x2072 .f32) : FVec Ideal S16x4096x256 .bf16 :=
  truncf .bf16 (shapeCast S16x4096x256 (pair (rope2 (keysWin z)) (rope2 (keysWin z))) shapeCasts_S16x4096x2x128_S16x4096x256) bitsLt_bf16_f32

def r8 (z : FVec Ideal S16x4096x2072 .f32) : FVec Ideal S16x4096x512 .bf16 :=
  truncf .bf16 (shapeCast S16x4096x512 (mulf (rope8 (shapeCast S16x4096x8x64 (extractStridedSlice S16x4096x512 ![0, 0, 1304] z slices_S16x4096x2072_S16x4096x512_0_0_1304) shapeCasts_S16x4096x512_S16x4096x8x64)) (broadcastInDim S16x4096x8x64 ![] bcast_S_S16x4096x8x64 (constant S_ .f32 0x3E000000#32))) shapeCasts_S16x4096x8x64_S16x4096x512) bitsLt_bf16_f32

def r9 (z : FVec Ideal S16x4096x2072 .f32) : FVec Ideal S16x4096x256 .bf16 :=
  truncf .bf16 (shapeCast S16x4096x256 (pair (rope2 (keysBand z)) (rope2 (keysBand z))) shapeCasts_S16x4096x2x128_S16x4096x256) bitsLt_bf16_f32

def r10 (z : FVec Ideal S16x4096x2072 .f32) : FVec Ideal S16x4096x128 .f32 :=
  extractStridedSlice S16x4096x128 ![0, 0, 0] (extractStridedSlice S16x4096x768 ![0, 0, 512] z slices_S16x4096x2072_S16x4096x768_0_0_512) slices_S16x4096x768_S16x4096x128_0_0_0

def r11 (z : FVec Ideal S16x4096x2072 .f32) : FVec Ideal S16x4096x128 .f32 :=
  extractStridedSlice S16x4096x128 ![0, 0, 128] (extractStridedSlice S16x4096x768 ![0, 0, 512] z slices_S16x4096x2072_S16x4096x768_0_0_512) slices_S16x4096x768_S16x4096x128_0_0_128

def r12 (z : FVec Ideal S16x4096x2072 .f32) : FVec Ideal S16x4096x256 .bf16 :=
  truncf .bf16 (shapeCast S16x4096x256 (pair (valsSel z) (onesT)) shapeCasts_S16x4096x2x128_S16x4096x256) bitsLt_bf16_f32

def r13 (z : FVec Ideal S16x4096x2072 .f32) : FVec Ideal S16x4096x256 .bf16 :=
  truncf .bf16 (shapeCast S16x4096x256 (pair (valsWin z) (onesT)) shapeCasts_S16x4096x2x128_S16x4096x256) bitsLt_bf16_f32

def r14 (z : FVec Ideal S16x4096x2072 .f32) : FVec Ideal S16x4096x256 .bf16 :=
  truncf .bf16 (shapeCast S16x4096x256 (pair (valsBand z) (valsBand z)) shapeCasts_S16x4096x2x128_S16x4096x256) bitsLt_bf16_f32

def r15 (z : FVec Ideal S16x4096x2072 .f32) : FVec Ideal S16x4096x128 .f32 :=
  Host.divf (broadcastInDim S16x4096x128 ![] bcast_S_S16x4096x128 (constant S_ .f32 0x3F800000#32)) (addf (broadcastInDim S16x4096x128 ![] bcast_S_S16x4096x128 (constant S_ .f32 0x3F800000#32)) (Host.exp (Host.negf (pad S16x4096x128 ![0, 0, 0] ![0, 0, 104] ![0, 0, 0] (extractStridedSlice S16x4096x24 ![0, 0, 1280] z slices_S16x4096x2072_S16x4096x24_0_0_1280) (sitofp .f32 (constantI S_ 32 0#32)) pads_S16x4096x24_S16x4096x128_000_000_01040 h_S_))))

end Cert.ProjectReferenceIdeal.RefValue

end
-- ==== Proof.ProjectRun.lean ====
/- The input projection's reference run, its results over the projected rows. -/
module

public import proofs.«01_k».proof.Proof.ProjectTerms

@[expose] public section

set_option maxRecDepth 16384

noncomputable section

namespace Cert.ProjectReferenceIdeal.RefValue

open Cert.ProjectReferenceIdeal Cert.ProjectReferenceIdeal.Gen Idealize.ShloMosaic Idealize.ShloMosaic.TcCoe Idealize.SL.Sem

/-- The reference's run leaves the twelve results of the projection of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97) = r4 (proj (m ((c.tc : Thread nD τ).loc main_arg0)) (m ((c.tc : Thread nD τ).loc main_arg1)) (m ((c.tc : Thread nD τ).loc main_arg2)))
      ∧ r.2.mem ((c.tc : Thread nD τ).loc main_v114) = r5 (proj (m ((c.tc : Thread nD τ).loc main_arg0)) (m ((c.tc : Thread nD τ).loc main_arg1)) (m ((c.tc : Thread nD τ).loc main_arg2)))
      ∧ r.2.mem ((c.tc : Thread nD τ).loc main_v117) = r6 (proj (m ((c.tc : Thread nD τ).loc main_arg0)) (m ((c.tc : Thread nD τ).loc main_arg1)) (m ((c.tc : Thread nD τ).loc main_arg2)))
      ∧ r.2.mem ((c.tc : Thread nD τ).loc main_v134) = r7 (proj (m ((c.tc : Thread nD τ).loc main_arg0)) (m ((c.tc : Thread nD τ).loc main_arg1)) (m ((c.tc : Thread nD τ).loc main_arg2)))
      ∧ r.2.mem ((c.tc : Thread nD τ).loc main_v138) = r8 (proj (m ((c.tc : Thread nD τ).loc main_arg0)) (m ((c.tc : Thread nD τ).loc main_arg1)) (m ((c.tc : Thread nD τ).loc main_arg2)))
      ∧ r.2.mem ((c.tc : Thread nD τ).loc main_v155) = r9 (proj (m ((c.tc : Thread nD τ).loc main_arg0)) (m ((c.tc : Thread nD τ).loc main_arg1)) (m ((c.tc : Thread nD τ).loc main_arg2)))
      ∧ r.2.mem ((c.tc : Thread nD τ).loc main_v37) = r10 (proj (m ((c.tc : Thread nD τ).loc main_arg0)) (m ((c.tc : Thread nD τ).loc main_arg1)) (m ((c.tc : Thread nD τ).loc main_arg2)))
      ∧ r.2.mem ((c.tc : Thread nD τ).loc main_v38) = r11 (proj (m ((c.tc : Thread nD τ).loc main_arg0)) (m ((c.tc : Thread nD τ).loc main_arg1)) (m ((c.tc : Thread nD τ).loc main_arg2)))
      ∧ r.2.mem ((c.tc : Thread nD τ).loc main_v160) = r12 (proj (m ((c.tc : Thread nD τ).loc main_arg0)) (m ((c.tc : Thread nD τ).loc main_arg1)) (m ((c.tc : Thread nD τ).loc main_arg2)))
      ∧ r.2.mem ((c.tc : Thread nD τ).loc main_v165) = r13 (proj (m ((c.tc : Thread nD τ).loc main_arg0)) (m ((c.tc : Thread nD τ).loc main_arg1)) (m ((c.tc : Thread nD τ).loc main_arg2)))
      ∧ r.2.mem ((c.tc : Thread nD τ).loc main_v169) = r14 (proj (m ((c.tc : Thread nD τ).loc main_arg0)) (m ((c.tc : Thread nD τ).loc main_arg1)) (m ((c.tc : Thread nD τ).loc main_arg2)))
      ∧ r.2.mem ((c.tc : Thread nD τ).loc main_v93) = r15 (proj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run (F := Ideal) m ρ

end Cert.ProjectReferenceIdeal.RefValue

end
-- ==== Proof.ProjectHost.lean ====
/- The operands the host prepares for the input projection: the weights' columns reordered and padded, the table of
   cosines, signed sines and block indicators, and the gain as one line. -/
module

public import proofs.«01_k».proof.Proof.Gen.ProjectIdeal.Value
public import proofs.«01_k».proof.Proof.ProjectTerms
public import Idealize.ShloMosaic.Lib.Pipeline.ValueKit
public import Idealize.ShloMosaic.Lib.VecWindow
public import Idealize.ShloMosaic.Lib.Pipeline.ReadBack
public import Idealize.ShloMosaic.Lib.StableHlo.RunClose

@[expose] public section

set_option maxRecDepth 16384

noncomputable section

namespace Cert.ProjectIdeal.RefValue

open Cert.ProjectIdeal Cert.ProjectIdeal.Gen Idealize.ShloMosaic Idealize.ShloMosaic.TcCoe Idealize.SL.Sem
open Cert.Proof
open Cert.ProjectReferenceIdeal.RefValue (cosT sinT blockT)

variable (m : (ℓ : Loc nD τ sig) → Buf (Elt Ideal) ℓ)

/-- The weights with their columns in the kernel's order, the gates' columns padded to a whole tile. -/
def weights (w : FVec Ideal S1024x2072 .f32) : FVec Ideal S1024x2176 .bf16 :=
  truncf .bf16 (concatenate S1024x2176 1 [⟨S1024x512, extractStridedSlice S1024x512 ![0, 0] w slices_S1024x2072_S1024x512_0_0⟩, ⟨S1024x128, extractStridedSlice S1024x128 ![0, 768] w slices_S1024x2072_S1024x128_0_768⟩, ⟨S1024x128, extractStridedSlice S1024x128 ![0, 1024] w slices_S1024x2072_S1024x128_0_1024⟩, ⟨S1024x512, extractStridedSlice S1024x512 ![0, 1304] w slices_S1024x2072_S1024x512_0_1304⟩, ⟨S1024x128, extractStridedSlice S1024x128 ![0, 1816] w slices_S1024x2072_S1024x128_0_1816⟩, ⟨S1024x128, extractStridedSlice S1024x128 ![0, 512] w slices_S1024x2072_S1024x128_0_512⟩, ⟨S1024x128, extractStridedSlice S1024x128 ![0, 640] w slices_S1024x2072_S1024x128_0_640⟩, ⟨S1024x128, extractStridedSlice S1024x128 ![0, 896] w slices_S1024x2072_S1024x128_0_896⟩, ⟨S1024x128, extractStridedSlice S1024x128 ![0, 1152] w slices_S1024x2072_S1024x128_0_1152⟩, ⟨S1024x128, extractStridedSlice S1024x128 ![0, 1944] w slices_S1024x2072_S1024x128_0_1944⟩,
    ⟨S1024x128, pad S1024x128 ![0, 0] ![0, 104] ![0, 0] (extractStridedSlice S1024x24 ![0, 1280] w slices_S1024x2072_S1024x24_0_1280) (sitofp (F := Ideal) .f32 (constantI S_ 32 0#32)) pads_S1024x24_S1024x128_000_01040 h_S_⟩]
    concatenates_S1024x512_S1024x128_S1024x128_S1024x512_S1024x128_S1024x128_S1024x128_S1024x128_S1024x128_S1024x128_S1024x128_S1024x2176_d1) bitsLt_bf16_f32

/-- Which channels of a head are in its first half. -/
def first : IVec S4096x64 1 :=
  broadcastInDim S4096x64 ![0, 1] bcast_S1x64_S4096x64_0_1 (broadcastInDim S1x64 ![1] bcast_S64_S1x64_1 (cmpi .slt (iotaInDim S64 32 0) (broadcastInDim S64 ![] bcast_S_S64 (constantI S_ 32 32#32))))

def zeros : FVec Ideal S4096x64 .f32 := broadcastInDim S4096x64 ![] bcast_S_S4096x64 (id (constant (F := Ideal) S_ .f32 0x00000000#32))

def lows : FVec Ideal S4096x64 .f32 := select first (Host.negf sinT) zeros
def highs : FVec Ideal S4096x64 .f32 := select first zeros sinT

/-- The table: two copies each of the cosines, the first half's negated sines and the second half's sines, then the
    block indicators. -/
def table : FVec Ideal S4096x512 .f32 :=
  concatenate S4096x512 1 [⟨S4096x128, concatenate S4096x128 1 [⟨S4096x64, cosT⟩, ⟨S4096x64, cosT⟩] concatenates_S4096x64_S4096x64_S4096x128_d1⟩,
    ⟨S4096x128, concatenate S4096x128 1 [⟨S4096x64, lows⟩, ⟨S4096x64, lows⟩] concatenates_S4096x64_S4096x64_S4096x128_d1⟩,
    ⟨S4096x128, concatenate S4096x128 1 [⟨S4096x64, highs⟩, ⟨S4096x64, highs⟩] concatenates_S4096x64_S4096x64_S4096x128_d1⟩,
    ⟨S4096x128, blockT⟩] concatenates_S4096x128_S4096x128_S4096x128_S4096x128_S4096x512_d1

theorem V_main_v54 (c : Dev nD) : V m c main_v54 = shapeCast S1x1024 (m ((c : Thread nD τ).loc main_arg1)) shapeCasts_S1024_S1x1024 := by
  unfold V
  simp only [List.flatten_cons, List.flatten_nil, List.append_nil, List.cons_append, List.nil_append]
  after_results_simp
  rfl

theorem V_main_v53 (c : Dev nD) : V m c main_v53 = weights (m ((c : Thread nD τ).loc main_arg2)) := by
  unfold V
  simp only [List.flatten_cons, List.flatten_nil, List.append_nil, List.cons_append, List.nil_append]
  after_results_simp
  rfl

/-- Four equal pieces make equal tables. -/
theorem cat_congr {a a' b b' c c' d d' : FVec Ideal S4096x128 .f32} (ha : a = a') (hb : b = b') (hc : c = c') (hd : d = d') :
    (concatenate S4096x512 1 [⟨S4096x128, a⟩, ⟨S4096x128, b⟩, ⟨S4096x128, c⟩, ⟨S4096x128, d⟩] concatenates_S4096x128_S4096x128_S4096x128_S4096x128_S4096x512_d1 : FVec Ideal S4096x512 .f32)
      = concatenate S4096x512 1 [⟨S4096x128, a'⟩, ⟨S4096x128, b'⟩, ⟨S4096x128, c'⟩, ⟨S4096x128, d'⟩] concatenates_S4096x128_S4096x128_S4096x128_S4096x128_S4096x512_d1 := by
  rw [ha, hb, hc, hd]

theorem V_main_v39 (c : Dev nD) : V m c main_v39 = table := by
  unfold V
  simp only [List.flatten_cons, List.flatten_nil, List.append_nil, List.cons_append, List.nil_append]
  after_results_simp
  dsimp only [Matrix.cons_val]
  refine cat_congr ?_ ?_ ?_ ?_
  · after_results_simp
    rfl
  · after_results_simp
    rfl
  · after_results_simp
    rfl
  · after_results_simp
    rfl

end Cert.ProjectIdeal.RefValue

end
-- ==== Proof.ProjectReference.lean ====
/- The reference's terms, each read at an index. -/
module

public import proofs.«01_k».proof.Proof.ProjectTerms

@[expose] public section

set_option maxRecDepth 16384

noncomputable section

namespace Cert.ProjectReferenceIdeal.RefValue

open Cert.ProjectReferenceIdeal Cert.ProjectReferenceIdeal.Gen Idealize.ShloMosaic Idealize.ShloMosaic.TcCoe Idealize.SL.Sem
open Cert.Proof

/-! ## The pieces at an index -/

theorem proj_apply (x g w) (b : Fin 16) (s : Fin 4096) (j : Fin 2072) :
    proj x g w (ix3 b s j) = ∑ d, Row.norm (fun k => x (ix3 b s k)) (fun k => g (ix1 k)) d * w (ix2 d j) := by
  pointwise [proj]
  rfl

/-- A row of the projection, by natural number, and the row's tables. -/
def zc (z : FVec Ideal S16x4096x2072 .f32) (b : Fin 16) (s : Fin 4096) : Nat → EReal := Proj.nat fun j : Fin 2072 => z (ix3 b s j)
def cc (s : Fin 4096) : Nat → EReal := Proj.nat fun d : Fin 64 => cosT (ix2 s d)
def sc (s : Fin 4096) : Nat → EReal := Proj.nat fun d : Fin 64 => sinT (ix2 s d)
def bc (s : Fin 4096) : Nat → EReal := Proj.nat fun l : Fin 128 => blockT (ix2 s l)

theorem z_val (z : FVec Ideal S16x4096x2072 .f32) (b s) (j : Fin 2072) : z (ix3 b s j) = zc z b s j :=
  (Proj.nat_val (fun j : Fin 2072 => z (ix3 b s j)) j).symm
theorem c_val (s) (d : Fin 64) : cosT (ix2 s d) = cc s d := (Proj.nat_val (fun d : Fin 64 => cosT (ix2 s d)) d).symm
theorem s_val (s) (d : Fin 64) : sinT (ix2 s d) = sc s d := (Proj.nat_val (fun d : Fin 64 => sinT (ix2 s d)) d).symm
theorem b_val (s) (l : Fin 128) : blockT (ix2 s l) = bc s l := (Proj.nat_val (fun l : Fin 128 => blockT (ix2 s l)) l).symm

theorem rope2_apply (t) (b : Fin 16) (s : Fin 4096) (h : Fin 2) (d : Fin 64) :
    rope2 t (ix4 b s h d) = t (ix4 b s h d) * cosT (ix2 s d)
      + (if h_1 : d.val < 32 then -t (ix4 b s h ⟨32 + d, by omega⟩) else t (ix4 b s h ⟨d - 32, by omega⟩)) * sinT (ix2 s d) := by
  pointwise [rope2]

theorem rope8_apply (t) (b : Fin 16) (s : Fin 4096) (h : Fin 8) (d : Fin 64) :
    rope8 t (ix4 b s h d) = t (ix4 b s h d) * cosT (ix2 s d)
      + (if h_1 : d.val < 32 then -t (ix4 b s h ⟨32 + d, by omega⟩) else t (ix4 b s h ⟨d - 32, by omega⟩)) * sinT (ix2 s d) := by
  pointwise [rope8]

theorem pair_apply (t u) (b : Fin 16) (s : Fin 4096) (h : Fin 2) (l : Fin 128) :
    pair t u (ix4 b s h l) = if h1 : l.val < 64 then t (ix4 b s h ⟨l, h1⟩) else u (ix4 b s h ⟨l - 64, by omega⟩) := by
  pointwise [pair]

theorem triple_apply (t u v) (b : Fin 16) (s : Fin 4096) (h : Fin 2) (l : Fin 256) :
    triple t u v (ix4 b s h l) = if h1 : l.val < 64 then t (ix4 b s h ⟨l, h1⟩)
      else if h2 : l.val - 64 < 64 then u (ix4 b s h ⟨l - 64, h2⟩) else v (ix4 b s h ⟨l - 64 - 64, by omega⟩) := by
  pointwise [triple]

theorem blocks_apply (b : Fin 16) (s : Fin 4096) (h : Fin 2) (l : Fin 128) : blocks (ix4 b s h l) = bc s l := by
  pointwise [blocks]
  exact b_val s l

theorem onesT_apply (b : Fin 16) (s : Fin 4096) (h : Fin 2) (d : Fin 64) : onesT (ix4 b s h d) = 1 := by
  pointwise [onesT]

theorem keysSel_apply (z) (b : Fin 16) (s : Fin 4096) (h : Fin 2) (d : Fin 64) :
    keysSel z (ix4 b s h d) = zc z b s (768 + (64 * h + d)) := by
  pointwise [keysSel]
  simp only [z_val z b s]
  exact congrArg (zc z b s) (by omega)

theorem keysWin_apply (z) (b : Fin 16) (s : Fin 4096) (h : Fin 2) (d : Fin 64) :
    keysWin z (ix4 b s h d) = zc z b s (1024 + (64 * h + d)) := by
  pointwise [keysWin]
  simp only [z_val z b s]
  exact congrArg (zc z b s) (by omega)

theorem valsSel_apply (z) (b : Fin 16) (s : Fin 4096) (h : Fin 2) (d : Fin 64) :
    valsSel z (ix4 b s h d) = zc z b s (896 + (64 * h + d)) := by
  pointwise [valsSel]
  simp only [z_val z b s]
  exact congrArg (zc z b s) (by omega)

theorem valsWin_apply (z) (b : Fin 16) (s : Fin 4096) (h : Fin 2) (d : Fin 64) :
    valsWin z (ix4 b s h d) = zc z b s (1152 + (64 * h + d)) := by
  pointwise [valsWin]
  simp only [z_val z b s]
  exact congrArg (zc z b s) (by omega)

theorem keysBand_apply (z) (b : Fin 16) (s : Fin 4096) (h : Fin 2) (d : Fin 64) :
    keysBand z (ix4 b s h d) = zc z b s (1816 + (64 * h + d)) := by
  pointwise [keysBand]
  simp only [z_val z b s]
  exact congrArg (zc z b s) (by omega)

theorem valsBand_apply (z) (b : Fin 16) (s : Fin 4096) (h : Fin 2) (d : Fin 64) :
    valsBand z (ix4 b s h d) = zc z b s (1944 + (64 * h + d)) := by
  pointwise [valsBand]
  simp only [z_val z b s]
  exact congrArg (zc z b s) (by omega)

/-- A rotated pair of heads, from the columns the pair was cut from. -/
theorem rope2_row (z) (t) (b : Fin 16) (s : Fin 4096) (O : Nat) (ht : ∀ (h : Fin 2) (d : Fin 64), t (ix4 b s h d) = zc z b s (O + (64 * h + d)))
    (h : Fin 2) (d : Fin 64) : rope2 t (ix4 b s h d) = Proj.rot (zc z b s) (cc s) (sc s) (O + 64 * h) d := by
  rw [rope2_apply, ht, c_val, s_val]
  simp only [ht]
  exact Proj.rot_of (by omega) (by omega) (by omega) rfl

/-- The rotated pair twice, side by side. -/
theorem twice_row (z) (t) (b : Fin 16) (s : Fin 4096) (O : Nat) (ht : ∀ (h : Fin 2) (d : Fin 64), t (ix4 b s h d) = zc z b s (O + (64 * h + d)))
    (h : Fin 2) (l : Fin 128) : pair (rope2 t) (rope2 t) (ix4 b s h l) = Proj.rot (zc z b s) (cc s) (sc s) (O + 64 * h) (l % 64) := by
  rw [pair_apply]
  by_cases h1 : l.val < 64
  · exact (dif_pos h1).trans ((rope2_row z t b s O ht h _).trans (Proj.rot_congr rfl (by show l.val = _; omega)))
  · exact (dif_neg h1).trans ((rope2_row z t b s O ht h _).trans (Proj.rot_congr rfl (by show l.val - 64 = _; omega)))

theorem triple_row (z) (t) (b : Fin 16) (s : Fin 4096) (O : Nat) (ht : ∀ (h : Fin 2) (d : Fin 64), t (ix4 b s h d) = zc z b s (O + (64 * h + d)))
    (h : Fin 2) (l : Fin 256) : triple (rope2 t) (rope2 t) blocks (ix4 b s h l)
      = if l.val < 128 then Proj.rot (zc z b s) (cc s) (sc s) (O + 64 * h) (l % 64) else bc s (l % 128) := by
  rw [triple_apply]
  by_cases h1 : l.val < 64
  · exact (dif_pos h1).trans ((rope2_row z t b s O ht h _).trans ((Proj.rot_congr rfl (by show l.val = _; omega)).trans (if_pos (by omega)).symm))
  · refine (dif_neg h1).trans ?_
    by_cases h2 : l.val - 64 < 64
    · exact (dif_pos h2).trans ((rope2_row z t b s O ht h _).trans ((Proj.rot_congr rfl (by show l.val - 64 = _; omega)).trans (if_pos (by omega)).symm))
    · exact (dif_neg h2).trans ((blocks_apply b s h _).trans ((congrArg (bc s) (by show l.val - 64 - 64 = _; omega)).trans (if_neg (by omega)).symm))

theorem ones_row (z) (t) (b : Fin 16) (s : Fin 4096) (O : Nat) (ht : ∀ (h : Fin 2) (d : Fin 64), t (ix4 b s h d) = zc z b s (O + (64 * h + d)))
    (h : Fin 2) (l : Fin 128) : pair t onesT (ix4 b s h l) = if l.val < 64 then zc z b s (O + (64 * h + l)) else 1 := by
  rw [pair_apply]
  by_cases h1 : l.val < 64
  · exact (dif_pos h1).trans ((ht h _).trans (if_pos h1).symm)
  · exact (dif_neg h1).trans ((onesT_apply b s h _).trans (if_neg h1).symm)

theorem same_row (z) (t) (b : Fin 16) (s : Fin 4096) (O : Nat) (ht : ∀ (h : Fin 2) (d : Fin 64), t (ix4 b s h d) = zc z b s (O + (64 * h + d)))
    (h : Fin 2) (l : Fin 128) : pair t t (ix4 b s h l) = zc z b s (O + (64 * h + l % 64)) := by
  rw [pair_apply]
  by_cases h1 : l.val < 64
  · exact (dif_pos h1).trans ((ht h _).trans (congrArg (zc z b s) (by show O + (64 * h.val + l.val) = _; omega)))
  · exact (dif_neg h1).trans ((ht h _).trans (congrArg (zc z b s) (by show O + (64 * h.val + (l.val - 64)) = _; omega)))

theorem flat256 (T : FVec Ideal S16x4096x2x128 .f32) (b : Fin 16) (s : Fin 4096) (e : Fin 256) :
    (truncf .bf16 (shapeCast S16x4096x256 T shapeCasts_S16x4096x2x128_S16x4096x256) bitsLt_bf16_f32 : FVec Ideal S16x4096x256 .bf16) (ix3 b s e)
      = T (ix4 b s ⟨e / 128, by omega⟩ ⟨e % 128, by omega⟩) := by
  pointwise

theorem flat512 (T : FVec Ideal S16x4096x2x256 .f32) (b : Fin 16) (s : Fin 4096) (e : Fin 512) :
    (truncf .bf16 (shapeCast S16x4096x512 T shapeCasts_S16x4096x2x256_S16x4096x512) bitsLt_bf16_f32 : FVec Ideal S16x4096x512 .bf16) (ix3 b s e)
      = T (ix4 b s ⟨e / 256, by omega⟩ ⟨e % 256, by omega⟩) := by
  pointwise

/-- Padding is zero. -/
theorem sitofp_zero : (FloatOps.sitofp (F := Ideal) .f32 (0#32) : EReal) = 0 := by
  show (((0#32 : BitVec 32).toInt : ℝ) : EReal) = 0
  norm_num

/-! ## The results at an index -/

variable (z : FVec Ideal S16x4096x2072 .f32) (b : Fin 16) (s : Fin 4096)

theorem r4_apply (e : Fin 512) : r4 z (ix3 b s e) = Proj.o4 (zc z b s) e := by
  pointwise [r4]
  simp only [z_val z b s]
  rfl

theorem r5_apply (e : Fin 512) : r5 z (ix3 b s e) = Proj.o5 (zc z b s) (cc s) (sc s) e := by
  pointwise [r5]
  simp only [rope8_apply]
  pointwise
  simp only [z_val z b s, c_val s, s_val s]
  exact congrArg (fun a : EReal => a * _) (Proj.rot_of (by omega) (by omega) (by omega) (by omega))

theorem r6_apply (e : Fin 512) : r6 z (ix3 b s e) = Proj.o6 (zc z b s) (cc s) (sc s) (bc s) e := by
  refine (flat512 _ b s e).trans ?_
  refine (triple_row z _ b s 768 (keysSel_apply z b s) _ _).trans ?_
  unfold Proj.o6
  refine if_congr Iff.rfl (Proj.rot_congr rfl ?_) (congrArg (bc s) ?_)
  · show e.val % 256 % 64 = _; omega
  · show e.val % 256 % 128 = _; omega

theorem r7_apply (e : Fin 256) : r7 z (ix3 b s e) = Proj.twice (zc z b s) (cc s) (sc s) 1024 e := by
  refine (flat256 _ b s e).trans ?_
  exact (twice_row z _ b s 1024 (keysWin_apply z b s) _ _).trans (Proj.rot_congr rfl (by show e.val % 128 % 64 = _; omega))

theorem r8_apply (e : Fin 512) : r8 z (ix3 b s e) = Proj.o8 (zc z b s) (cc s) (sc s) e := by
  pointwise [r8]
  simp only [rope8_apply]
  pointwise
  simp only [z_val z b s, c_val s, s_val s]
  exact congrArg (fun a : EReal => a * _) (Proj.rot_of (by omega) (by omega) (by omega) (by omega))

theorem r9_apply (e : Fin 256) : r9 z (ix3 b s e) = Proj.twice (zc z b s) (cc s) (sc s) 1816 e := by
  refine (flat256 _ b s e).trans ?_
  exact (twice_row z _ b s 1816 (keysBand_apply z b s) _ _).trans (Proj.rot_congr rfl (by show e.val % 128 % 64 = _; omega))

theorem r10_apply (e : Fin 128) : r10 z (ix3 b s e) = (zc z b s) (512 + e) := by
  pointwise [r10]
  simp only [z_val z b s]

theorem r11_apply (e : Fin 128) : r11 z (ix3 b s e) = (zc z b s) (640 + e) := by
  pointwise [r11]
  simp only [z_val z b s]
  exact congrArg _ (by omega)

theorem r12_apply (e : Fin 256) : r12 z (ix3 b s e) = Proj.ones (zc z b s) 896 e := by
  refine (flat256 _ b s e).trans ?_
  exact ones_row z _ b s 896 (valsSel_apply z b s) _ _

theorem r13_apply (e : Fin 256) : r13 z (ix3 b s e) = Proj.ones (zc z b s) 1152 e := by
  refine (flat256 _ b s e).trans ?_
  exact ones_row z _ b s 1152 (valsWin_apply z b s) _ _

theorem r14_apply (e : Fin 256) : r14 z (ix3 b s e) = Proj.o14 (zc z b s) e := by
  refine (flat256 _ b s e).trans ?_
  exact (same_row z _ b s 1944 (valsBand_apply z b s) _ _).trans (congrArg (zc z b s) (by show 1944 + (64 * (e.val / 128) + e.val % 128 % 64) = _; omega))

theorem r15_apply (e : Fin 128) : r15 z (ix3 b s e) = Proj.o15 (zc z b s) e := by
  pointwise [r15]
  simp only [z_val z b s]
  rw [sitofp_zero]
  rfl

end Cert.ProjectReferenceIdeal.RefValue

end
-- ==== Proof.ProjectPieces.lean ====
/- The input projection kernel's twelve blocks of results, piece by piece: each row of a block is a row of the reference's
   formulas, given how the kernel's columns and tables stand to the reference's. -/
module

public import proofs.«01_k».proof.Proof.Gen.ProjectIdeal.Frame
public import proofs.«01_k».proof.Proof.ProjectMath
public import Idealize.ShloMosaic.Lib.Pipeline.ValueKit
public import Idealize.ShloMosaic.Lib.VecWindow
public import Idealize.ShloMosaic.Lib.Pipeline.ReadBack

@[expose] public section

set_option maxRecDepth 16384

noncomputable section

namespace Cert.ProjectIdeal.RefValue

open Cert.ProjectIdeal Cert.ProjectIdeal.Gen Idealize.ShloMosaic Idealize.ShloMosaic.TcCoe Idealize.SL.Sem
open Cert.Proof

/-- Column `j` of a row's product with the weights, by natural number. -/
def col (x0 : Vec Ideal S1x512x1024 .f32) (x1 : Vec Ideal S1x1024 .f32) (x2 : Vec Ideal S1024x2176 .bf16) (r : Fin 512) : Nat → EReal :=
  Proj.nat fun j : Fin 2176 => ∑ d, Row.norm (fun k => x0 (ix3 0 r k)) (fun k => x1 (ix2 0 k)) d * x2 (ix2 d j)

/-- Lane `l` of a row's tables, by natural number. -/
def tab (x3 : Vec Ideal S512x512 .f32) (r : Fin 512) : Nat → EReal := Proj.nat fun l : Fin 512 => x3 (ix2 r l)

/-! ## What the body loads -/

theorem ld0 (x : Vec Ideal S1x512x1024 .f32) : View.ld x r0_0 = x :=
  View.ld_unit_zero (by decide : (![0, 0, 0] : Fin 3 → Nat) = fun _ => 0) _ x

theorem ld1 (x : Vec Ideal S1x1024 .f32) : View.ld x r0_1 = x :=
  View.ld_unit_zero (by decide : (![0, 0] : Fin 2 → Nat) = fun _ => 0) _ x

theorem tab_val (x : Vec Ideal S512x512 .f32) (r : Fin 512) (l : Fin 512) : x (ix2 r l) = tab x r l.val := (Proj.nat_val (fun l : Fin 512 => x (ix2 r l)) l).symm

theorem ldW3 (x : Vec Ideal S1024x2176 .bf16) (d : Fin 1024) (l : Fin 512) : View.ld x r0_3 (ix2 d l) = x (ix2 d ⟨l, by omega⟩) := by
  refine congrArg x (funext fun b => Fin.ext ?_)
  rw [Rect.idx_unit_val]
  match b with
  | ⟨0, _⟩ => simp [ix2]
  | ⟨1, _⟩ => simp [ix2]

theorem ldW11 (x : Vec Ideal S1024x2176 .bf16) (d : Fin 1024) (l : Fin 256) : View.ld x r0_11 (ix2 d l) = x (ix2 d ⟨512 + l, by omega⟩) := by
  refine congrArg x (funext fun b => Fin.ext ?_)
  rw [Rect.idx_unit_val]
  match b with
  | ⟨0, _⟩ => simp [ix2]
  | ⟨1, _⟩ => simp [ix2]

theorem ldW14 (x : Vec Ideal S1024x2176 .bf16) (d : Fin 1024) (l : Fin 512) : View.ld x r0_14 (ix2 d l) = x (ix2 d ⟨768 + l, by omega⟩) := by
  refine congrArg x (funext fun b => Fin.ext ?_)
  rw [Rect.idx_unit_val]
  match b with
  | ⟨0, _⟩ => simp [ix2]
  | ⟨1, _⟩ => simp [ix2]

theorem ldW15 (x : Vec Ideal S1024x2176 .bf16) (d : Fin 1024) (l : Fin 896) : View.ld x r0_15 (ix2 d l) = x (ix2 d ⟨1280 + l, by omega⟩) := by
  refine congrArg x (funext fun b => Fin.ext ?_)
  rw [Rect.idx_unit_val]
  match b with
  | ⟨0, _⟩ => simp [ix2]
  | ⟨1, _⟩ => simp [ix2]

/-! ## The four products -/

theorem norm_apply (x0 x1) (r : Fin 512) (e : Fin 1024) :
    k0_pay2 (F := Ideal) x0 x1 (ix2 r e) = Row.norm (fun k => x0 (ix3 0 r k)) (fun k => x1 (ix2 0 k)) e := by
  pointwise [k0_pay2]
  rfl

theorem pay74_apply (x0 x1 x2 x3) (r : Fin 512) (l : Fin 512) : k0_pay74 (F := Ideal) x0 x1 x2 x3 (ix2 r l) = col x0 x1 x2 r (l) := by
  refine Eq.trans ?_ (Proj.nat_mk _ _ (by omega)).symm
  unfold k0_pay74
  pointwise [k0_pay5]
  simp only [ld0, ld1, norm_apply, ldW3]

theorem pay75_apply (x0 x1 x2 x3) (r : Fin 512) (l : Fin 256) : k0_pay75 (F := Ideal) x0 x1 x2 x3 (ix2 r l) = col x0 x1 x2 r (512 + l) := by
  refine Eq.trans ?_ (Proj.nat_mk _ _ (by omega)).symm
  unfold k0_pay75
  pointwise [k0_pay22]
  simp only [k0_pay71, ld0, ld1, norm_apply, ldW11]

theorem pay83_apply (x0 x1 x2 x3) (r : Fin 512) (l : Fin 512) : k0_pay83 (F := Ideal) x0 x1 x2 x3 (ix2 r l) = col x0 x1 x2 r (768 + l) := by
  refine Eq.trans ?_ (Proj.nat_mk _ _ (by omega)).symm
  unfold k0_pay83
  pointwise [k0_pay40]
  simp only [k0_pay71, ld0, ld1, norm_apply, ldW14]

theorem pay84_apply (x0 x1 x2 x3) (r : Fin 512) (l : Fin 896) : k0_pay84 (F := Ideal) x0 x1 x2 x3 (ix2 r l) = col x0 x1 x2 r (1280 + l) := by
  refine Eq.trans ?_ (Proj.nat_mk _ _ (by omega)).symm
  unfold k0_pay84
  pointwise [k0_pay47]
  simp only [k0_pay71, ld0, ld1, norm_apply, ldW15]

/-! ## The pieces -/

theorem slt64 : ∀ l : Fin 128, IntOp.cmpi CmpIPredicate.slt (BitVec.ofNat 32 l.val) 64#32 = if l.val < 64 then 1#1 else 0#1 := by
  decide +kernel

theorem sel (l : Fin 128) (a b : EReal) :
    Scalar.select (IntOp.cmpi CmpIPredicate.slt (BitVec.ofNat 32 l.val) 64#32) a b = if l.val < 64 then a else b := by
  rw [slt64]
  by_cases h : l.val < 64
  · rw [if_pos h, if_pos h]; rfl
  · rw [if_neg h, if_neg h]; rfl

variable (x0 : Vec Ideal S1x512x1024 .f32) (x1 : Vec Ideal S1x1024 .f32) (x2 : Vec Ideal S1024x2176 .bf16) (x3 : Vec Ideal S512x512 .f32)

theorem p4_0 (r : Fin 512) (l : Fin 128) : ((k0_pay7 (View.ld x0 r0_0) (View.ld x1 r0_1) (View.ld x2 r0_3)) : S1x512x128.Idx → EReal) (ix3 0 r l) = (col x0 x1 x2 r) l.val * Ideal.ofBits FTy.f32 0x3E000000#32 := by
  have h74 : ∀ j, k0_pay5 (F := Ideal) (View.ld x0 r0_0) (View.ld x1 r0_1) (View.ld x2 r0_3) (ix2 r j) = _ := fun j => pay74_apply x0 x1 x2 (fun _ => (0 : EReal)) r j
  pointwise [k0_pay7, k0_pay6]
  simp only [sel, h74, Proj.krot, Nat.zero_add, ← Nat.add_assoc, Nat.reduceAdd]

theorem p4_1 (r : Fin 512) (l : Fin 128) : (k0_pay11 (k0_pay74 x0 x1 x2 x3) : S1x512x128.Idx → EReal) (ix3 0 r l) = (col x0 x1 x2 r) (128 + l.val) * Ideal.ofBits FTy.f32 0x3E000000#32 := by
  pointwise [k0_pay11, k0_pay10]
  simp only [sel, pay74_apply, Proj.krot, Nat.zero_add, ← Nat.add_assoc, Nat.reduceAdd]

theorem p4_2 (r : Fin 512) (l : Fin 128) : (k0_pay16 (k0_pay74 x0 x1 x2 x3) : S1x512x128.Idx → EReal) (ix3 0 r l) = (col x0 x1 x2 r) (256 + l.val) * Ideal.ofBits FTy.f32 0x3E000000#32 := by
  pointwise [k0_pay16, k0_pay15]
  simp only [sel, pay74_apply, Proj.krot, Nat.zero_add, ← Nat.add_assoc, Nat.reduceAdd]

theorem p4_3 (r : Fin 512) (l : Fin 128) : (k0_pay20 (k0_pay19 (k0_pay74 x0 x1 x2 x3)) : S1x512x128.Idx → EReal) (ix3 0 r l) = (col x0 x1 x2 r) (384 + l.val) * Ideal.ofBits FTy.f32 0x3E000000#32 := by
  pointwise [k0_pay20, k0_pay19, k0_pay18]
  simp only [sel, pay74_apply, Proj.krot, Nat.zero_add, ← Nat.add_assoc, Nat.reduceAdd]

theorem p5_0 (r : Fin 512) (l : Fin 128) : (k0_pay9 (k0_pay6 (View.ld x0 r0_0) (View.ld x1 r0_1) (View.ld x2 r0_3)) (k0_pay8 (View.ld x3 r0_5)) (View.ld x3 r0_6) (View.ld x3 r0_7) : S1x512x128.Idx → EReal) (ix3 0 r l) = Proj.krot (col x0 x1 x2 r) (tab x3 r) 0 l.val * Ideal.ofBits FTy.f32 0x3E38AA3B#32 := by
  have h74 : ∀ j, k0_pay5 (F := Ideal) (View.ld x0 r0_0) (View.ld x1 r0_1) (View.ld x2 r0_3) (ix2 r j) = _ := fun j => pay74_apply x0 x1 x2 (fun _ => (0 : EReal)) r j
  pointwise [k0_pay9, k0_pay6, k0_pay8]
  simp only [sel, h74, tab_val x3, Proj.krot, Nat.zero_add, ← Nat.add_assoc, Nat.reduceAdd]

theorem p5_1 (r : Fin 512) (l : Fin 128) : (k0_pay14 (k0_pay12 (k0_pay74 x0 x1 x2 x3) (View.ld x3 r0_5) (View.ld x3 r0_6) (View.ld x3 r0_7)) (k0_pay13 (F := Ideal)) : S1x512x128.Idx → EReal) (ix3 0 r l) = Proj.krot (col x0 x1 x2 r) (tab x3 r) 128 l.val * Ideal.ofBits FTy.f32 0x3E38AA3B#32 := by
  pointwise [k0_pay14, k0_pay12, k0_pay13, k0_pay10]
  simp only [sel, pay74_apply, tab_val x3, Proj.krot, Nat.zero_add, ← Nat.add_assoc, Nat.reduceAdd]

theorem p5_2 (r : Fin 512) (l : Fin 128) : (k0_pay17 (k0_pay74 x0 x1 x2 x3) (View.ld x3 r0_5) (View.ld x3 r0_6) (View.ld x3 r0_7) : S1x512x128.Idx → EReal) (ix3 0 r l) = Proj.krot (col x0 x1 x2 r) (tab x3 r) 256 l.val * Ideal.ofBits FTy.f32 0x3E38AA3B#32 := by
  pointwise [k0_pay17, k0_pay15]
  simp only [sel, pay74_apply, tab_val x3, Proj.krot, Nat.zero_add, ← Nat.add_assoc, Nat.reduceAdd]

theorem p5_3 (r : Fin 512) (l : Fin 128) : (k0_pay21 (k0_pay18 (k0_pay74 x0 x1 x2 x3)) (View.ld x3 r0_5) (View.ld x3 r0_6) (View.ld x3 r0_7) : S1x512x128.Idx → EReal) (ix3 0 r l) = Proj.krot (col x0 x1 x2 r) (tab x3 r) 384 l.val * Ideal.ofBits FTy.f32 0x3E38AA3B#32 := by
  pointwise [k0_pay21, k0_pay18]
  simp only [sel, pay74_apply, tab_val x3, Proj.krot, Nat.zero_add, ← Nat.add_assoc, Nat.reduceAdd]

theorem p6_0 (r : Fin 512) (l : Fin 128) : (k0_pay29 (k0_pay72 x0 x1 x2 x3) (k0_pay76 x0 x1 x2 x3) (k0_pay77 x0 x1 x2 x3) (k0_pay78 x0 x1 x2 x3) (k0_pay79 x0 x1 x2 x3) : S1x512x128.Idx → EReal) (ix3 0 r l) = if l.val < 64 then Proj.krot (col x0 x1 x2 r) (tab x3 r) 512 l.val else Proj.krot (col x0 x1 x2 r) (tab x3 r) 512 ((l.val + 128 - 64) % 128) := by
  have h75 : ∀ j, k0_pay22 (F := Ideal) (k0_pay71 x0 x1 x2 x3) (View.ld x2 r0_11) (ix2 r j) = _ := fun j => pay75_apply x0 x1 x2 x3 r j
  pointwise [k0_pay29, k0_pay27, k0_pay28, k0_pay72, k0_pay76, k0_pay77, k0_pay78, k0_pay79, k0_pay3, k0_pay23, k0_pay24, k0_pay25, k0_pay26]
  simp only [sel, h75, tab_val x3, Proj.krot, Nat.zero_add, ← Nat.add_assoc, Nat.reduceAdd]

theorem p6_1 (r : Fin 512) (l : Fin 128) : (k0_pay30 (k0_pay73 x0 x1 x2 x3) : S1x512x128.Idx → EReal) (ix3 0 r l) = (tab x3 r) (384 + l.val) := by
  pointwise [k0_pay30, k0_pay73, k0_pay4]
  simp only [sel, tab_val x3, Proj.krot, Nat.zero_add, ← Nat.add_assoc, Nat.reduceAdd]

theorem p6_2 (r : Fin 512) (l : Fin 128) : (k0_pay31 (k0_pay72 x0 x1 x2 x3) (k0_pay76 x0 x1 x2 x3) (k0_pay77 x0 x1 x2 x3) (k0_pay78 x0 x1 x2 x3) (k0_pay79 x0 x1 x2 x3) : S1x512x128.Idx → EReal) (ix3 0 r l) = if l.val < 64 then Proj.krot (col x0 x1 x2 r) (tab x3 r) 512 ((l.val + 128 - 64) % 128) else Proj.krot (col x0 x1 x2 r) (tab x3 r) 512 l.val := by
  have h75 : ∀ j, k0_pay22 (F := Ideal) (k0_pay71 x0 x1 x2 x3) (View.ld x2 r0_11) (ix2 r j) = _ := fun j => pay75_apply x0 x1 x2 x3 r j
  pointwise [k0_pay31, k0_pay27, k0_pay28, k0_pay72, k0_pay76, k0_pay77, k0_pay78, k0_pay79, k0_pay3, k0_pay23, k0_pay24, k0_pay25, k0_pay26]
  simp only [sel, h75, tab_val x3, Proj.krot, Nat.zero_add, ← Nat.add_assoc, Nat.reduceAdd]

theorem p6_3 (r : Fin 512) (l : Fin 128) : (k0_pay32 (k0_pay73 x0 x1 x2 x3) : S1x512x128.Idx → EReal) (ix3 0 r l) = (tab x3 r) (384 + l.val) := by
  pointwise [k0_pay32, k0_pay73, k0_pay4]
  simp only [sel, tab_val x3, Proj.krot, Nat.zero_add, ← Nat.add_assoc, Nat.reduceAdd]

theorem p7_0 (r : Fin 512) (l : Fin 128) : (k0_pay38 (k0_pay72 x0 x1 x2 x3) (k0_pay80 x0 x1 x2 x3) (k0_pay81 x0 x1 x2 x3) (k0_pay82 x0 x1 x2 x3) 32#32 : S1x512x128.Idx → EReal) (ix3 0 r l) = if l.val < 64 then Proj.krot (col x0 x1 x2 r) (tab x3 r) 640 l.val else Proj.krot (col x0 x1 x2 r) (tab x3 r) 640 ((l.val + 128 - 64) % 128) := by
  pointwise [k0_pay38, k0_pay36, k0_pay37, k0_pay72, k0_pay80, k0_pay81, k0_pay82, k0_pay3, k0_pay33, k0_pay34, k0_pay35]
  simp only [sel, pay75_apply, tab_val x3, Proj.krot, Nat.zero_add, ← Nat.add_assoc, Nat.reduceAdd]

theorem p7_1 (r : Fin 512) (l : Fin 128) : (k0_pay39 (k0_pay72 x0 x1 x2 x3) (k0_pay80 x0 x1 x2 x3) (k0_pay81 x0 x1 x2 x3) (k0_pay82 x0 x1 x2 x3) 32#32 : S1x512x128.Idx → EReal) (ix3 0 r l) = if l.val < 64 then Proj.krot (col x0 x1 x2 r) (tab x3 r) 640 ((l.val + 128 - 64) % 128) else Proj.krot (col x0 x1 x2 r) (tab x3 r) 640 l.val := by
  pointwise [k0_pay39, k0_pay36, k0_pay37, k0_pay72, k0_pay80, k0_pay81, k0_pay82, k0_pay3, k0_pay33, k0_pay34, k0_pay35]
  simp only [sel, pay75_apply, tab_val x3, Proj.krot, Nat.zero_add, ← Nat.add_assoc, Nat.reduceAdd]

theorem p8_0 (r : Fin 512) (l : Fin 128) : (k0_pay42 (k0_pay41 (k0_pay71 x0 x1 x2 x3) (View.ld x2 r0_14) (View.ld x3 r0_5) (View.ld x3 r0_6) (View.ld x3 r0_7)) : S1x512x128.Idx → EReal) (ix3 0 r l) = Proj.krot (col x0 x1 x2 r) (tab x3 r) 768 l.val * Ideal.ofBits FTy.f32 0x3E000000#32 := by
  have h83 : ∀ j, k0_pay40 (F := Ideal) (k0_pay71 x0 x1 x2 x3) (View.ld x2 r0_14) (ix2 r j) = _ := fun j => pay83_apply x0 x1 x2 x3 r j
  pointwise [k0_pay42, k0_pay41]
  simp only [sel, h83, tab_val x3, Proj.krot, Nat.zero_add, ← Nat.add_assoc, Nat.reduceAdd]

theorem p8_1 (r : Fin 512) (l : Fin 128) : (k0_pay43 (k0_pay83 x0 x1 x2 x3) (View.ld x3 r0_5) (View.ld x3 r0_6) (View.ld x3 r0_7) : S1x512x128.Idx → EReal) (ix3 0 r l) = Proj.krot (col x0 x1 x2 r) (tab x3 r) 896 l.val * Ideal.ofBits FTy.f32 0x3E000000#32 := by
  pointwise [k0_pay43]
  simp only [sel, pay83_apply, tab_val x3, Proj.krot, Nat.zero_add, ← Nat.add_assoc, Nat.reduceAdd]

theorem p8_2 (r : Fin 512) (l : Fin 128) : (k0_pay45 (k0_pay44 (k0_pay83 x0 x1 x2 x3) (View.ld x3 r0_5) (View.ld x3 r0_6) (View.ld x3 r0_7)) : S1x512x128.Idx → EReal) (ix3 0 r l) = Proj.krot (col x0 x1 x2 r) (tab x3 r) 1024 l.val * Ideal.ofBits FTy.f32 0x3E000000#32 := by
  pointwise [k0_pay45, k0_pay44]
  simp only [sel, pay83_apply, tab_val x3, Proj.krot, Nat.zero_add, ← Nat.add_assoc, Nat.reduceAdd]

theorem p8_3 (r : Fin 512) (l : Fin 128) : (k0_pay46 (k0_pay83 x0 x1 x2 x3) (View.ld x3 r0_5) (View.ld x3 r0_6) (View.ld x3 r0_7) : S1x512x128.Idx → EReal) (ix3 0 r l) = Proj.krot (col x0 x1 x2 r) (tab x3 r) 1152 l.val * Ideal.ofBits FTy.f32 0x3E000000#32 := by
  pointwise [k0_pay46]
  simp only [sel, pay83_apply, tab_val x3, Proj.krot, Nat.zero_add, ← Nat.add_assoc, Nat.reduceAdd]

theorem p9_0 (r : Fin 512) (l : Fin 128) : (k0_pay54 (k0_pay72 x0 x1 x2 x3) (k0_pay85 x0 x1 x2 x3) (k0_pay86 x0 x1 x2 x3) (k0_pay87 x0 x1 x2 x3) (k0_pay88 x0 x1 x2 x3) : S1x512x128.Idx → EReal) (ix3 0 r l) = if l.val < 64 then Proj.krot (col x0 x1 x2 r) (tab x3 r) 1280 l.val else Proj.krot (col x0 x1 x2 r) (tab x3 r) 1280 ((l.val + 128 - 64) % 128) := by
  have h84 : ∀ j, k0_pay47 (F := Ideal) (k0_pay71 x0 x1 x2 x3) (View.ld x2 r0_15) (ix2 r j) = _ := fun j => pay84_apply x0 x1 x2 x3 r j
  pointwise [k0_pay54, k0_pay52, k0_pay53, k0_pay72, k0_pay85, k0_pay86, k0_pay87, k0_pay88, k0_pay3, k0_pay48, k0_pay49, k0_pay50, k0_pay51]
  simp only [sel, h84, tab_val x3, Proj.krot, Nat.zero_add, ← Nat.add_assoc, Nat.reduceAdd]

theorem p9_1 (r : Fin 512) (l : Fin 128) : (k0_pay55 (k0_pay72 x0 x1 x2 x3) (k0_pay85 x0 x1 x2 x3) (k0_pay86 x0 x1 x2 x3) (k0_pay87 x0 x1 x2 x3) (k0_pay88 x0 x1 x2 x3) : S1x512x128.Idx → EReal) (ix3 0 r l) = if l.val < 64 then Proj.krot (col x0 x1 x2 r) (tab x3 r) 1280 ((l.val + 128 - 64) % 128) else Proj.krot (col x0 x1 x2 r) (tab x3 r) 1280 l.val := by
  have h84 : ∀ j, k0_pay47 (F := Ideal) (k0_pay71 x0 x1 x2 x3) (View.ld x2 r0_15) (ix2 r j) = _ := fun j => pay84_apply x0 x1 x2 x3 r j
  pointwise [k0_pay55, k0_pay52, k0_pay53, k0_pay72, k0_pay85, k0_pay86, k0_pay87, k0_pay88, k0_pay3, k0_pay48, k0_pay49, k0_pay50, k0_pay51]
  simp only [sel, h84, tab_val x3, Proj.krot, Nat.zero_add, ← Nat.add_assoc, Nat.reduceAdd]

theorem p10_0 (r : Fin 512) (l : Fin 128) : (k0_pay56 (k0_pay84 x0 x1 x2 x3) : S1x512x128.Idx → EReal) (ix3 0 r l) = (col x0 x1 x2 r) (1408 + l.val) := by
  pointwise [k0_pay56]
  simp only [sel, pay84_apply, Proj.krot, Nat.zero_add, ← Nat.add_assoc, Nat.reduceAdd]

theorem p11_0 (r : Fin 512) (l : Fin 128) : (k0_pay57 (k0_pay84 x0 x1 x2 x3) : S1x512x128.Idx → EReal) (ix3 0 r l) = (col x0 x1 x2 r) (1536 + l.val) := by
  pointwise [k0_pay57]
  simp only [sel, pay84_apply, Proj.krot, Nat.zero_add, ← Nat.add_assoc, Nat.reduceAdd]

theorem p12_0 (r : Fin 512) (l : Fin 128) : (k0_pay61 (k0_pay60 (k0_pay72 x0 x1 x2 x3) (k0_pay84 x0 x1 x2 x3)) : S1x512x128.Idx → EReal) (ix3 0 r l) = if l.val < 64 then (col x0 x1 x2 r) (1664 + l.val) else 1 := by
  pointwise [k0_pay61, k0_pay60, k0_pay58, k0_pay72, k0_pay3]
  simp only [sel, pay84_apply, Proj.krot, Nat.zero_add, ← Nat.add_assoc, Nat.reduceAdd]

theorem p12_1 (r : Fin 512) (l : Fin 128) : (k0_pay62 (k0_pay59 (k0_pay72 x0 x1 x2 x3) (k0_pay84 x0 x1 x2 x3)) : S1x512x128.Idx → EReal) (ix3 0 r l) = if l.val < 64 then (col x0 x1 x2 r) (1664 + ((l.val + 128 - 64) % 128)) else 1 := by
  pointwise [k0_pay62, k0_pay59, k0_pay58, k0_pay72, k0_pay3]
  simp only [sel, pay84_apply, Proj.krot, Nat.zero_add, ← Nat.add_assoc, Nat.reduceAdd]

theorem p13_0 (r : Fin 512) (l : Fin 128) : (k0_pay64 (k0_pay72 x0 x1 x2 x3) (k0_pay84 x0 x1 x2 x3) : S1x512x128.Idx → EReal) (ix3 0 r l) = if l.val < 64 then (col x0 x1 x2 r) (1792 + l.val) else 1 := by
  pointwise [k0_pay64, k0_pay63, k0_pay72, k0_pay3]
  simp only [sel, pay84_apply, Proj.krot, Nat.zero_add, ← Nat.add_assoc, Nat.reduceAdd]

theorem p13_1 (r : Fin 512) (l : Fin 128) : (k0_pay65 (k0_pay72 x0 x1 x2 x3) (k0_pay84 x0 x1 x2 x3) : S1x512x128.Idx → EReal) (ix3 0 r l) = if l.val < 64 then (col x0 x1 x2 r) (1792 + ((l.val + 128 - 64) % 128)) else 1 := by
  pointwise [k0_pay65, k0_pay63, k0_pay72, k0_pay3]
  simp only [sel, pay84_apply, Proj.krot, Nat.zero_add, ← Nat.add_assoc, Nat.reduceAdd]

theorem p14_0 (r : Fin 512) (l : Fin 128) : (k0_pay68 (k0_pay72 x0 x1 x2 x3) (k0_pay84 x0 x1 x2 x3) : S1x512x128.Idx → EReal) (ix3 0 r l) = if l.val < 64 then (col x0 x1 x2 r) (1920 + l.val) else (col x0 x1 x2 r) (1920 + ((l.val + 128 - 64) % 128)) := by
  pointwise [k0_pay68, k0_pay66, k0_pay67, k0_pay72, k0_pay3]
  simp only [sel, pay84_apply, Proj.krot, Nat.zero_add, ← Nat.add_assoc, Nat.reduceAdd]

theorem p14_1 (r : Fin 512) (l : Fin 128) : (k0_pay69 (k0_pay72 x0 x1 x2 x3) (k0_pay84 x0 x1 x2 x3) : S1x512x128.Idx → EReal) (ix3 0 r l) = if l.val < 64 then (col x0 x1 x2 r) (1920 + ((l.val + 128 - 64) % 128)) else (col x0 x1 x2 r) (1920 + l.val) := by
  pointwise [k0_pay69, k0_pay66, k0_pay67, k0_pay72, k0_pay3]
  simp only [sel, pay84_apply, Proj.krot, Nat.zero_add, ← Nat.add_assoc, Nat.reduceAdd]

theorem p15_0 (r : Fin 512) (l : Fin 128) : (k0_pay1 (k0_pay70 (k0_pay84 x0 x1 x2 x3)) : S1x512x128.Idx → EReal) (ix3 0 r l) = Ideal.logistic ((col x0 x1 x2 r) (2048 + l.val)) := by
  pointwise [k0_pay1, k0_pay70]
  simp only [sel, pay84_apply, Proj.krot, Nat.zero_add, ← Nat.add_assoc, Nat.reduceAdd]

end Cert.ProjectIdeal.RefValue

end
-- ==== Proof.ProjectOutput.lean ====
/- The input projection kernel's twelve blocks of results, each row of a block by the reference's formulas. -/
module

public import proofs.«01_k».proof.Proof.ProjectPieces

@[expose] public section

set_option maxRecDepth 16384

noncomputable section

namespace Cert.ProjectIdeal.RefValue

open Cert.ProjectIdeal Cert.ProjectIdeal.Gen Idealize.ShloMosaic Idealize.ShloMosaic.TcCoe Idealize.SL.Sem
open Cert.Proof

/-- A piece's entry at any index whose lane is the block's lane less the piece's offset. -/
theorem piece_eq (f : S1x512x128.Idx → EReal) (o : Nat → EReal) (off e : Nat) (r : Fin 512) (x : S1x512x128.Idx)
    (hf : ∀ l : Fin 128, f (ix3 0 r l) = o (off + l)) (hr : r.val = (x 1).val) (he : e = off + (x 2).val) : f x = o e := by
  have hx : x = ix3 0 r (x 2) := by
    funext b
    match b with
    | ⟨0, _⟩ => exact Fin.ext (by have h : (x 0).val < 1 := (x 0).isLt
                                  show (x 0).val = 0
                                  omega)
    | ⟨1, _⟩ => exact Fin.ext hr.symm
    | ⟨2, _⟩ => rfl
  rw [hx, he]
  exact hf (x 2)

theorem canon4 (p0 p1 p2 p3 : FVec Ideal S1x512x128 .bf16) (o : Nat → EReal) (r : Fin 512)
    (hb : ∀ l : Fin 128, p0 (ix3 0 r l) = o (0 + l)) (ha : ∀ l : Fin 128, p1 (ix3 0 r l) = o (128 + l))
    (h2' : ∀ l : Fin 128, p2 (ix3 0 r l) = o (256 + l)) (h3 : ∀ l : Fin 128, p3 (ix3 0 r l) = o (384 + l)) (e : Fin 512) :
    (View.canon [⟨r0_10, p3⟩, ⟨r0_9, p2⟩, ⟨r0_8, p1⟩, ⟨r0_4, p0⟩] : Vec Ideal S1x512x512 .bf16) (ix3 0 r e) = o e := by
  canon_tiles x h
  · change r.val = (x 1).val at h1
    change e.val = 384 + (x 2).val at h2
    exact piece_eq _ o _ _ r x h3 h1 h2
  · change r.val = (x 1).val at h1
    change e.val = 256 + (x 2).val at h2
    exact piece_eq _ o _ _ r x h2' h1 h2
  · change r.val = (x 1).val at h1
    change e.val = 128 + (x 2).val at h2
    exact piece_eq _ o _ _ r x ha h1 h2
  · change r.val = (x 1).val at h1
    change e.val = (x 2).val at h2
    exact piece_eq _ o 0 _ r x hb h1 (by omega)

theorem canon2 (p0 p1 : FVec Ideal S1x512x128 .bf16) (o : Nat → EReal) (r : Fin 512)
    (hb : ∀ l : Fin 128, p0 (ix3 0 r l) = o (0 + l)) (ha : ∀ l : Fin 128, p1 (ix3 0 r l) = o (128 + l)) (e : Fin 256) :
    (View.canon [⟨r0_13, p1⟩, ⟨r0_12, p0⟩] : Vec Ideal S1x512x256 .bf16) (ix3 0 r e) = o e := by
  canon_tiles x h
  · change r.val = (x 1).val at h1
    change e.val = 128 + (x 2).val at h2
    exact piece_eq _ o _ _ r x ha h1 h2
  · change r.val = (x 1).val at h1
    change e.val = (x 2).val at h2
    exact piece_eq _ o 0 _ r x hb h1 (by omega)

theorem canon1 (p0 : FVec Ideal S1x512x128 .f32) : (View.canon [⟨r0_16, p0⟩] : Vec Ideal S1x512x128 .f32) = p0 :=
  View.canon_cons_unit_zero (by decide : (![0, 0, 0] : Fin 3 → Nat) = fun _ => 0) _ _ _

variable (x0 : Vec Ideal S1x512x1024 .f32) (x1 : Vec Ideal S1x1024 .f32) (x2 : Vec Ideal S1024x2176 .bf16) (x3 : Vec Ideal S512x512 .f32)
variable {z C S B : Nat → EReal} (r : Fin 512) (L : Proj.Link (col x0 x1 x2 r) (tab x3 r) z C S B)

include L

theorem out4_apply (e : Fin 512) : out0_4 (F := Ideal) x0 x1 x2 x3 (ix3 0 r e) = Proj.o4 z e := by
  unfold out0_4
  refine canon4 _ _ _ _ (Proj.o4 z) r ?_ ?_ ?_ ?_ e
  · intro l
    rw [p4_0]
    unfold Proj.o4
    rw [L.q _ (by omega), Nat.zero_add]
  · intro l
    rw [p4_1]
    unfold Proj.o4
    rw [L.q _ (by omega)]
  · intro l
    rw [p4_2]
    unfold Proj.o4
    rw [L.q _ (by omega)]
  · intro l
    rw [p4_3]
    unfold Proj.o4
    rw [L.q _ (by omega)]

theorem out5_apply (e : Fin 512) : out0_5 (F := Ideal) x0 x1 x2 x3 (ix3 0 r e) = Proj.o5 z C S e := by
  unfold out0_5
  refine canon4 _ _ _ _ (Proj.o5 z C S) r ?_ ?_ ?_ ?_ e
  · intro l
    rw [p5_0]
    unfold Proj.o5
    rw [Proj.krot_eq L (o' := 0) (fun i hi => by rw [L.q _ (by omega)]) l.isLt]
    exact congrArg (· * _) (Proj.rot_congr (by omega) (by omega))
  · intro l
    rw [p5_1]
    unfold Proj.o5
    rw [Proj.krot_eq L (o' := 128) (fun i hi => by rw [L.q _ (by omega)]) l.isLt]
    exact congrArg (· * _) (Proj.rot_congr (by omega) (by omega))
  · intro l
    rw [p5_2]
    unfold Proj.o5
    rw [Proj.krot_eq L (o' := 256) (fun i hi => by rw [L.q _ (by omega)]) l.isLt]
    exact congrArg (· * _) (Proj.rot_congr (by omega) (by omega))
  · intro l
    rw [p5_3]
    unfold Proj.o5
    rw [Proj.krot_eq L (o' := 384) (fun i hi => by rw [L.q _ (by omega)]) l.isLt]
    exact congrArg (· * _) (Proj.rot_congr (by omega) (by omega))

theorem out6_apply (e : Fin 512) : out0_6 (F := Ideal) x0 x1 x2 x3 (ix3 0 r e) = Proj.o6 z C S B e := by
  unfold out0_6
  refine canon4 _ _ _ _ (Proj.o6 z C S B) r ?_ ?_ ?_ ?_ e
  · intro l
    rw [p6_0]
    unfold Proj.o6
    rw [Proj.dup0 L L.ksel l.isLt, if_pos (by omega)]
    exact Proj.rot_congr (by omega) (by omega)
  · intro l
    rw [p6_1]
    unfold Proj.o6
    rw [L.block _ l.isLt, if_neg (by omega)]
    exact congrArg B (by omega)
  · intro l
    rw [p6_2]
    unfold Proj.o6
    rw [Proj.dup1 L L.ksel l.isLt, if_pos (by omega)]
    exact Proj.rot_congr (by omega) (by omega)
  · intro l
    rw [p6_3]
    unfold Proj.o6
    rw [L.block _ l.isLt, if_neg (by omega)]
    exact congrArg B (by omega)

theorem out7_apply (e : Fin 256) : out0_7 (F := Ideal) x0 x1 x2 x3 (ix3 0 r e) = Proj.twice z C S 1024 e := by
  unfold out0_7
  refine canon2 _ _ (Proj.twice z C S 1024) r ?_ ?_ e
  · intro l
    rw [p7_0]
    unfold Proj.twice
    rw [Proj.dup0 L L.kwin l.isLt]
    exact Proj.rot_congr (by omega) (by omega)
  · intro l
    rw [p7_1]
    unfold Proj.twice
    rw [Proj.dup1 L L.kwin l.isLt]
    exact Proj.rot_congr (by omega) (by omega)

theorem out8_apply (e : Fin 512) : out0_8 (F := Ideal) x0 x1 x2 x3 (ix3 0 r e) = Proj.o8 z C S e := by
  unfold out0_8
  refine canon4 _ _ _ _ (Proj.o8 z C S) r ?_ ?_ ?_ ?_ e
  · intro l
    rw [p8_0]
    unfold Proj.o8
    rw [Proj.krot_eq L (o' := 1304) (fun i hi => by rw [show 768 + i = 768 + (0 + i) by omega, L.bq _ (by omega)]; exact congrArg z (by omega)) l.isLt]
    exact congrArg (· * _) (Proj.rot_congr (by omega) (by omega))
  · intro l
    rw [p8_1]
    unfold Proj.o8
    rw [Proj.krot_eq L (o' := 1432) (fun i hi => by rw [show 896 + i = 768 + (128 + i) by omega, L.bq _ (by omega)]; exact congrArg z (by omega)) l.isLt]
    exact congrArg (· * _) (Proj.rot_congr (by omega) (by omega))
  · intro l
    rw [p8_2]
    unfold Proj.o8
    rw [Proj.krot_eq L (o' := 1560) (fun i hi => by rw [show 1024 + i = 768 + (256 + i) by omega, L.bq _ (by omega)]; exact congrArg z (by omega)) l.isLt]
    exact congrArg (· * _) (Proj.rot_congr (by omega) (by omega))
  · intro l
    rw [p8_3]
    unfold Proj.o8
    rw [Proj.krot_eq L (o' := 1688) (fun i hi => by rw [show 1152 + i = 768 + (384 + i) by omega, L.bq _ (by omega)]; exact congrArg z (by omega)) l.isLt]
    exact congrArg (· * _) (Proj.rot_congr (by omega) (by omega))

theorem out9_apply (e : Fin 256) : out0_9 (F := Ideal) x0 x1 x2 x3 (ix3 0 r e) = Proj.twice z C S 1816 e := by
  unfold out0_9
  refine canon2 _ _ (Proj.twice z C S 1816) r ?_ ?_ e
  · intro l
    rw [p9_0]
    unfold Proj.twice
    rw [Proj.dup0 L L.bk l.isLt]
    exact Proj.rot_congr (by omega) (by omega)
  · intro l
    rw [p9_1]
    unfold Proj.twice
    rw [Proj.dup1 L L.bk l.isLt]
    exact Proj.rot_congr (by omega) (by omega)

theorem out12_apply (e : Fin 256) : out0_12 (F := Ideal) x0 x1 x2 x3 (ix3 0 r e) = Proj.ones z 896 e := by
  unfold out0_12
  refine canon2 _ _ (Proj.ones z 896) r ?_ ?_ e
  · intro l
    rw [p12_0]
    unfold Proj.ones
    by_cases hl : l.val < 64
    · rw [if_pos hl, if_pos (by omega), L.vsel _ (by omega)]
      exact congrArg z (by omega)
    · rw [if_neg hl, if_neg (by omega)]
  · intro l
    rw [p12_1]
    unfold Proj.ones
    by_cases hl : l.val < 64
    · rw [if_pos hl, if_pos (by omega), L.vsel _ (by omega)]
      exact congrArg z (by omega)
    · rw [if_neg hl, if_neg (by omega)]

theorem out13_apply (e : Fin 256) : out0_13 (F := Ideal) x0 x1 x2 x3 (ix3 0 r e) = Proj.ones z 1152 e := by
  unfold out0_13
  refine canon2 _ _ (Proj.ones z 1152) r ?_ ?_ e
  · intro l
    rw [p13_0]
    unfold Proj.ones
    by_cases hl : l.val < 64
    · rw [if_pos hl, if_pos (by omega), L.vwin _ (by omega)]
      exact congrArg z (by omega)
    · rw [if_neg hl, if_neg (by omega)]
  · intro l
    rw [p13_1]
    unfold Proj.ones
    by_cases hl : l.val < 64
    · rw [if_pos hl, if_pos (by omega), L.vwin _ (by omega)]
      exact congrArg z (by omega)
    · rw [if_neg hl, if_neg (by omega)]

theorem out14_apply (e : Fin 256) : out0_14 (F := Ideal) x0 x1 x2 x3 (ix3 0 r e) = Proj.o14 z e := by
  unfold out0_14
  refine canon2 _ _ (Proj.o14 z) r ?_ ?_ e
  · intro l
    rw [p14_0]
    unfold Proj.o14
    split
    · rw [L.bv _ (by omega)]
      exact congrArg z (by omega)
    · rw [L.bv _ (by omega)]
      exact congrArg z (by omega)
  · intro l
    rw [p14_1]
    unfold Proj.o14
    split
    · rw [L.bv _ (by omega)]
      exact congrArg z (by omega)
    · rw [L.bv _ (by omega)]
      exact congrArg z (by omega)

theorem out10_apply (e : Fin 128) : out0_10 (F := Ideal) x0 x1 x2 x3 (ix3 0 r e) = z (512 + e) := by
  unfold out0_10
  rw [canon1, p10_0, L.kcmp _ e.isLt]

theorem out11_apply (e : Fin 128) : out0_11 (F := Ideal) x0 x1 x2 x3 (ix3 0 r e) = z (640 + e) := by
  unfold out0_11
  rw [canon1, p11_0, L.vcmp _ e.isLt]

theorem out15_apply (e : Fin 128) : out0_15 (F := Ideal) x0 x1 x2 x3 (ix3 0 r e) = Proj.o15 z e := by
  unfold out0_15
  rw [canon1, p15_0, L.gate _ e.isLt]
  rfl

end Cert.ProjectIdeal.RefValue

end
-- ==== Proof.ProjectLink.lean ====
/- How the kernel's operands stand to the reference's: column by column and lane by lane. -/
module

public import proofs.«01_k».proof.Proof.ProjectHost
public import proofs.«01_k».proof.Proof.ProjectReference
public import proofs.«01_k».proof.Proof.ProjectOutput

@[expose] public section

set_option maxRecDepth 16384

noncomputable section

namespace Cert.ProjectIdeal.RefValue

open Cert.ProjectIdeal Cert.ProjectIdeal.Gen Idealize.ShloMosaic Idealize.ShloMosaic.TcCoe Idealize.SL.Sem
open Cert.Proof
open Cert.ProjectReferenceIdeal.RefValue (cosT sinT blockT proj zc cc sc bc proj_apply c_val s_val b_val sitofp_zero)

/-- Where the kernel's column `j` comes from. -/
def source (f : Nat → EReal) (j : Nat) : EReal :=
  if j < 512 then f j else if j - 512 < 128 then f (768 + (j - 512)) else if j - 512 - 128 < 128 then f (1024 + (j - 512 - 128)) else if j - 512 - 128 - 128 < 512 then f (1304 + (j - 512 - 128 - 128)) else if j - 512 - 128 - 128 - 512 < 128 then f (1816 + (j - 512 - 128 - 128 - 512)) else if j - 512 - 128 - 128 - 512 - 128 < 128 then f (512 + (j - 512 - 128 - 128 - 512 - 128)) else if j - 512 - 128 - 128 - 512 - 128 - 128 < 128 then f (640 + (j - 512 - 128 - 128 - 512 - 128 - 128)) else if j - 512 - 128 - 128 - 512 - 128 - 128 - 128 < 128 then f (896 + (j - 512 - 128 - 128 - 512 - 128 - 128 - 128)) else if j - 512 - 128 - 128 - 512 - 128 - 128 - 128 - 128 < 128 then f (1152 + (j - 512 - 128 - 128 - 512 - 128 - 128 - 128 - 128)) else if j - 512 - 128 - 128 - 512 - 128 - 128 - 128 - 128 - 128 < 128 then f (1944 + (j - 512 - 128 - 128 - 512 - 128 - 128 - 128 - 128 - 128)) else if j - 512 - 128 - 128 - 512 - 128 - 128 - 128 - 128 - 128 - 128 < 24 then f (1280 + (j - 512 - 128 - 128 - 512 - 128 - 128 - 128 - 128 - 128 - 128)) else 0

theorem source_0 (f : Nat → EReal) (l : Nat) (hl : l < 512) : source f l = f l := by
  unfold source
  rw [if_pos (by omega)]

theorem source_512 (f : Nat → EReal) (l : Nat) (hl : l < 128) : source f (512 + l) = f (768 + l) := by
  unfold source
  rw [if_neg (by omega), if_pos (by omega)]
  exact congrArg f (by omega)

theorem source_640 (f : Nat → EReal) (l : Nat) (hl : l < 128) : source f (640 + l) = f (1024 + l) := by
  unfold source
  rw [if_neg (by omega), if_neg (by omega), if_pos (by omega)]
  exact congrArg f (by omega)

theorem source_768 (f : Nat → EReal) (l : Nat) (hl : l < 512) : source f (768 + l) = f (1304 + l) := by
  unfold source
  rw [if_neg (by omega), if_neg (by omega), if_neg (by omega), if_pos (by omega)]
  exact congrArg f (by omega)

theorem source_1280 (f : Nat → EReal) (l : Nat) (hl : l < 128) : source f (1280 + l) = f (1816 + l) := by
  unfold source
  rw [if_neg (by omega), if_neg (by omega), if_neg (by omega), if_neg (by omega), if_pos (by omega)]
  exact congrArg f (by omega)

theorem source_1408 (f : Nat → EReal) (l : Nat) (hl : l < 128) : source f (1408 + l) = f (512 + l) := by
  unfold source
  rw [if_neg (by omega), if_neg (by omega), if_neg (by omega), if_neg (by omega), if_neg (by omega), if_pos (by omega)]
  exact congrArg f (by omega)

theorem source_1536 (f : Nat → EReal) (l : Nat) (hl : l < 128) : source f (1536 + l) = f (640 + l) := by
  unfold source
  rw [if_neg (by omega), if_neg (by omega), if_neg (by omega), if_neg (by omega), if_neg (by omega), if_neg (by omega), if_pos (by omega)]
  exact congrArg f (by omega)

theorem source_1664 (f : Nat → EReal) (l : Nat) (hl : l < 128) : source f (1664 + l) = f (896 + l) := by
  unfold source
  rw [if_neg (by omega), if_neg (by omega), if_neg (by omega), if_neg (by omega), if_neg (by omega), if_neg (by omega), if_neg (by omega), if_pos (by omega)]
  exact congrArg f (by omega)

theorem source_1792 (f : Nat → EReal) (l : Nat) (hl : l < 128) : source f (1792 + l) = f (1152 + l) := by
  unfold source
  rw [if_neg (by omega), if_neg (by omega), if_neg (by omega), if_neg (by omega), if_neg (by omega), if_neg (by omega), if_neg (by omega), if_neg (by omega), if_pos (by omega)]
  exact congrArg f (by omega)

theorem source_1920 (f : Nat → EReal) (l : Nat) (hl : l < 128) : source f (1920 + l) = f (1944 + l) := by
  unfold source
  rw [if_neg (by omega), if_neg (by omega), if_neg (by omega), if_neg (by omega), if_neg (by omega), if_neg (by omega), if_neg (by omega), if_neg (by omega), if_neg (by omega), if_pos (by omega)]
  exact congrArg f (by omega)

theorem source_2048 (f : Nat → EReal) (l : Nat) (hl : l < 24) : source f (2048 + l) = f (1280 + l) := by
  unfold source
  rw [if_neg (by omega), if_neg (by omega), if_neg (by omega), if_neg (by omega), if_neg (by omega), if_neg (by omega), if_neg (by omega), if_neg (by omega), if_neg (by omega), if_neg (by omega), if_pos (by omega)]
  exact congrArg f (by omega)

theorem source_pad (f : Nat → EReal) (l : Nat) (hl : 24 ≤ l) : source f (2048 + l) = 0 := by
  unfold source
  rw [if_neg (by omega), if_neg (by omega), if_neg (by omega), if_neg (by omega), if_neg (by omega), if_neg (by omega), if_neg (by omega), if_neg (by omega), if_neg (by omega), if_neg (by omega), if_neg (by omega)]

/-- A row of the weights, by natural number. -/
def wc (w : FVec Ideal S1024x2072 .f32) (d : Fin 1024) : Nat → EReal := Proj.nat fun i : Fin 2072 => w (ix2 d i)

theorem w_val (w : FVec Ideal S1024x2072 .f32) (d : Fin 1024) (i : Fin 2072) : w (ix2 d i) = wc w d i.val :=
  (Proj.nat_val (fun i : Fin 2072 => w (ix2 d i)) i).symm

theorem weights_apply (w : FVec Ideal S1024x2072 .f32) (d : Fin 1024) (j : Fin 2176) :
    weights w (ix2 d j) = source (wc w d) j := by
  pointwise [weights]
  simp only [w_val w, sitofp_zero]
  rfl

theorem slt32 : ∀ d : Fin 64, IntOp.cmpi CmpIPredicate.slt (BitVec.ofNat 32 d.val) 32#32 = if d.val < 32 then 1#1 else 0#1 := by
  decide +kernel

theorem sel32 (d : Fin 64) (a b : EReal) :
    Scalar.select (IntOp.cmpi CmpIPredicate.slt (BitVec.ofNat 32 d.val) 32#32) a b = if d.val < 32 then a else b := by
  rw [slt32]
  by_cases h : d.val < 32
  · rw [if_pos h, if_pos h]; rfl
  · rw [if_neg h, if_neg h]; rfl

theorem zero_apply : (constant (F := Ideal) S_ .f32 0x00000000#32 : FVec Ideal S_ .f32) ix0 = (0 : EReal) := by
  pointwise

theorem lows_apply (s : Fin 4096) (d : Fin 64) : lows (ix2 s d) = if d.val < 32 then -sc s d else 0 := by
  pointwise [lows, first, zeros]
  rw [sel32, id, zero_apply, s_val]

theorem highs_apply (s : Fin 4096) (d : Fin 64) : highs (ix2 s d) = if d.val < 32 then 0 else sc s d := by
  pointwise [highs, first, zeros]
  rw [sel32, id, zero_apply, s_val]

theorem two_apply (t : FVec Ideal S4096x64 .f32) (s : Fin 4096) (l : Fin 128) :
    concatenate S4096x128 1 [⟨S4096x64, t⟩, ⟨S4096x64, t⟩] concatenates_S4096x64_S4096x64_S4096x128_d1 (ix2 s l) = t (ix2 s ⟨l % 64, by omega⟩) := by
  pointwise
  by_cases h : l.val < 64
  · exact (dif_pos h).trans (congrArg (fun d => t (ix2 s d)) (Fin.ext (by show l.val = l.val % 64; omega)))
  · exact (dif_neg h).trans (congrArg (fun d => t (ix2 s d)) (Fin.ext (by show l.val - 64 = l.val % 64; omega)))

theorem four_apply (t u v w : FVec Ideal S4096x128 .f32) (s : Fin 4096) (l : Fin 512) :
    concatenate S4096x512 1 [⟨S4096x128, t⟩, ⟨S4096x128, u⟩, ⟨S4096x128, v⟩, ⟨S4096x128, w⟩] concatenates_S4096x128_S4096x128_S4096x128_S4096x128_S4096x512_d1 (ix2 s l)
      = if h : l.val < 128 then t (ix2 s ⟨l, h⟩) else if h : l.val - 128 < 128 then u (ix2 s ⟨l - 128, h⟩)
        else if h : l.val - 128 - 128 < 128 then v (ix2 s ⟨l - 128 - 128, h⟩) else w (ix2 s ⟨l - 128 - 128 - 128, by omega⟩) := by
  pointwise

/-! ## The link -/

variable {x0 : Vec Ideal S1x512x1024 .f32} {x1 : Vec Ideal S1x1024 .f32} {x2 : Vec Ideal S1024x2176 .bf16} {x3 : Vec Ideal S512x512 .f32}
variable {X : FVec Ideal S16x4096x1024 .f32} {G : FVec Ideal S1024 .f32} {M : FVec Ideal S1024x2072 .f32}
variable {r : Fin 512} {b : Fin 16} {s : Fin 4096}

theorem col_eq (h0 : ∀ k, x0 (ix3 0 r k) = X (ix3 b s k)) (h1 : ∀ k, x1 (ix2 0 k) = G (ix1 k))
    (h2 : ∀ d j, x2 (ix2 d j) = weights M (ix2 d j)) (j : Nat) (hj : j < 2176) :
    col x0 x1 x2 r j = ∑ d, Row.norm (fun k => X (ix3 b s k)) (fun k => G (ix1 k)) d * source (wc M d) j := by
  unfold col
  rw [Proj.nat_mk _ _ hj]
  simp only [h0, h1, h2, weights_apply]

theorem zc_eq (i : Nat) (hi : i < 2072) :
    zc (proj X G M) b s i = ∑ d, Row.norm (fun k => X (ix3 b s k)) (fun k => G (ix1 k)) d * wc M d i := by
  unfold zc
  rw [Proj.nat_mk _ _ hi, proj_apply]
  refine Finset.sum_congr rfl fun d _ => ?_
  rw [w_val M d ⟨i, hi⟩]

theorem tab_eq (h3 : ∀ l, x3 (ix2 r l) = table (ix2 s l)) (l : Nat) (hl : l < 512) : tab x3 r l = table (ix2 s ⟨l, hl⟩) := by
  unfold tab
  rw [Proj.nat_mk _ _ hl, h3]

theorem link (h0 : ∀ k, x0 (ix3 0 r k) = X (ix3 b s k)) (h1 : ∀ k, x1 (ix2 0 k) = G (ix1 k))
    (h2 : ∀ d j, x2 (ix2 d j) = weights M (ix2 d j)) (h3 : ∀ l, x3 (ix2 r l) = table (ix2 s l)) :
    Proj.Link (col x0 x1 x2 r) (tab x3 r) (zc (proj X G M) b s) (cc s) (sc s) (bc s) := by
  have move : ∀ j i, j < 2176 → i < 2072 → (∀ f : Nat → EReal, source f j = f i) → col x0 x1 x2 r j = zc (proj X G M) b s i := by
    intro j i hj hi hf
    rw [col_eq h0 h1 h2 j hj, zc_eq i hi]
    simp only [hf]
  refine ⟨?_, ?_, ?_, ?_, ?_, ?_, ?_, ?_, ?_, ?_, ?_, ?_, ?_, ?_, ?_⟩
  · intro l hl
    rw [tab_eq h3 l (by omega)]
    exact (four_apply _ _ _ _ s ⟨l, by omega⟩).trans ((dif_pos hl).trans ((two_apply cosT s _).trans (c_val s _)))
  · intro l hl
    rw [tab_eq h3 _ (by omega)]
    refine (four_apply _ _ _ _ s ⟨128 + l, by omega⟩).trans ?_
    refine (dif_neg (by show ¬(128 + l < 128); omega)).trans ((dif_pos (by show 128 + l - 128 < 128; omega)).trans ((two_apply lows s _).trans ((lows_apply s _).trans ?_)))
    show (if (128 + l - 128) % 64 < 32 then -sc s ((128 + l - 128) % 64) else 0) = _
    rw [Nat.add_sub_cancel_left]
  · intro l hl
    rw [tab_eq h3 _ (by omega)]
    refine (four_apply _ _ _ _ s ⟨256 + l, by omega⟩).trans ?_
    refine (dif_neg (by show ¬(256 + l < 128); omega)).trans ((dif_neg (by show ¬(256 + l - 128 < 128); omega)).trans ((dif_pos (by show 256 + l - 128 - 128 < 128; omega)).trans ((two_apply highs s _).trans ((highs_apply s _).trans ?_))))
    show (if (256 + l - 128 - 128) % 64 < 32 then 0 else sc s ((256 + l - 128 - 128) % 64)) = _
    rw [show 256 + l - 128 - 128 = l by omega]
  · intro l hl
    rw [tab_eq h3 _ (by omega)]
    refine (four_apply _ _ _ _ s ⟨384 + l, by omega⟩).trans ?_
    refine (dif_neg (by show ¬(384 + l < 128); omega)).trans ((dif_neg (by show ¬(384 + l - 128 < 128); omega)).trans ((dif_neg (by show ¬(384 + l - 128 - 128 < 128); omega)).trans ((b_val s _).trans ?_)))
    exact congrArg (bc s) (by show 384 + l - 128 - 128 - 128 = l; omega)
  · exact fun l hl => move l l (by omega) (by omega) fun f => source_0 f l hl
  · exact fun l hl => move (512 + l) (768 + l) (by omega) (by omega) fun f => source_512 f l hl
  · exact fun l hl => move (640 + l) (1024 + l) (by omega) (by omega) fun f => source_640 f l hl
  · exact fun l hl => move (768 + l) (1304 + l) (by omega) (by omega) fun f => source_768 f l hl
  · exact fun l hl => move (1280 + l) (1816 + l) (by omega) (by omega) fun f => source_1280 f l hl
  · exact fun l hl => move (1408 + l) (512 + l) (by omega) (by omega) fun f => source_1408 f l hl
  · exact fun l hl => move (1536 + l) (640 + l) (by omega) (by omega) fun f => source_1536 f l hl
  · exact fun l hl => move (1664 + l) (896 + l) (by omega) (by omega) fun f => source_1664 f l hl
  · exact fun l hl => move (1792 + l) (1152 + l) (by omega) (by omega) fun f => source_1792 f l hl
  · exact fun l hl => move (1920 + l) (1944 + l) (by omega) (by omega) fun f => source_1920 f l hl
  · intro l hl
    by_cases h : l < 24
    · rw [if_pos h]
      exact move (2048 + l) (1280 + l) (by omega) (by omega) fun f => source_2048 f l h
    · rw [if_neg h, col_eq h0 h1 h2 _ (by omega)]
      refine Finset.sum_eq_zero fun d _ => ?_
      rw [source_pad (wc M d) l (by omega), mul_zero]

end Cert.ProjectIdeal.RefValue

end
-- ==== Proof.ProjectReads.lean ====
/- What each grid point of the input projection reads. -/
module

public import proofs.«01_k».proof.Proof.ProjectLink

@[expose] public section

set_option maxRecDepth 16384

noncomputable section

namespace Cert.ProjectIdeal.RefValue

open Cert.ProjectIdeal Cert.ProjectIdeal.Gen Idealize.ShloMosaic Idealize.ShloMosaic.TcCoe Idealize.SL.Sem
open Idealize.ShloMosaic.Pipeline (Dat)
open Cert.Proof
open Cert.ProjectReferenceIdeal.RefValue

variable (m : (ℓ : Loc nD τ sig) → Buf (Elt Ideal) ℓ)

theorem idx : ∀ t : Fin cfg0.N, win0_0.index t = ![t.val / 8, t.val % 8, 0]
    ∧ win0_1.index t = ![0, 0]
    ∧ win0_2.index t = ![0, 0]
    ∧ win0_3.index t = ![t.val % 8, 0]
    ∧ win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0]
    ∧ win0_9.index t = ![t.val / 8, t.val % 8, 0]
    ∧ win0_10.index t = ![t.val / 8, t.val % 8, 0]
    ∧ win0_11.index t = ![t.val / 8, t.val % 8, 0]
    ∧ win0_12.index t = ![t.val / 8, t.val % 8, 0]
    ∧ win0_13.index t = ![t.val / 8, t.val % 8, 0]
    ∧ win0_14.index t = ![t.val / 8, t.val % 8, 0]
    ∧ win0_15.index t = ![t.val / 8, t.val % 8, 0] :=
  (by decide +kernel : ∀ t : Fin grid0.N, _)

theorem read0 (W : Vec Ideal S16x4096x1024 .f32) (t : Fin cfg0.N) (r : Fin 512) (k : Fin 1024) (b : Fin 16) (s : Fin 4096)
    (hb : b.val = t.val / 8) (hs : s.val = t.val % 8 * 512 + r.val) :
    (win0_0.blk t).view.read (Elt Ideal) W (ix3 0 r k) = W (ix3 b s k) := by
  blk_ext [idx t]

theorem read1 (W : Vec Ideal S1x1024 .f32) (t : Fin cfg0.N) (k : Fin 1024) :
    (win0_1.blk t).view.read (Elt Ideal) W (ix2 0 k) = W (ix2 0 k) := by
  blk_ext [idx t]

theorem read2 (W : Vec Ideal S1024x2176 .bf16) (t : Fin cfg0.N) (d : Fin 1024) (j : Fin 2176) :
    (win0_2.blk t).view.read (Elt Ideal) W (ix2 d j) = W (ix2 d j) := by
  blk_ext [idx t]

theorem read3 (W : Vec Ideal S4096x512 .f32) (t : Fin cfg0.N) (r : Fin 512) (l : Fin 512) (s : Fin 4096) (hs : s.val = t.val % 8 * 512 + r.val) :
    (win0_3.blk t).view.read (Elt Ideal) W (ix2 r l) = W (ix2 s l) := by
  blk_ext [idx t]

theorem gain_apply (G : FVec Ideal S1024 .f32) (k : Fin 1024) : shapeCast S1x1024 G shapeCasts_S1024_S1x1024 (ix2 0 k) = G (ix1 k) := by
  pointwise

/-- The projection of the kernel's arguments. -/
abbrev Z (c : Dev nD) : FVec Ideal Cert.ProjectReferenceIdeal.S16x4096x2072 .f32 :=
  proj (m ((c : Thread nD τ).loc main_arg0)) (m ((c : Thread nD τ).loc main_arg1)) (m ((c : Thread nD τ).loc main_arg2))

/-- Row `r` of point `t`'s blocks is the reference's row. -/
theorem linked (c : Dev nD) (t : Fin cfg0.N) (r : Fin 512) (b : Fin 16) (s : Fin 4096) (hb : b.val = t.val / 8) (hs : s.val = t.val % 8 * 512 + r.val) :
    Proj.Link (col (iblk m c 0 t) (iblk m c 1 t) (iblk m c 2 t) r) (tab (iblk m c 3 t) r) (zc (Z m c) b s) (cc s) (sc s) (bc s) :=
  link (fun k => read0 (V m c main_arg0) t r k b s hb hs)
    (fun k => (read1 (V m c main_v54) t k).trans ((congrFun (V_main_v54 m c) _).trans (gain_apply _ k)))
    (fun d j => (read2 (V m c main_v53) t d j).trans (congrFun (V_main_v53 m c) _))
    (fun l => (read3 (V m c main_v39) t r l s hs).trans (congrFun (V_main_v39 m c) _))

end Cert.ProjectIdeal.RefValue

end
-- ==== Proof.ProjectQueries.lean ====
/- The input projection's result arrays, 1 to 3 of twelve: each block of 512 rows is the reference's, row by row. -/
module

public import proofs.«01_k».proof.Proof.ProjectReads

@[expose] public section

set_option maxRecDepth 16384

noncomputable section

namespace Cert.ProjectIdeal.RefValue

open Cert.ProjectIdeal Cert.ProjectIdeal.Gen Idealize.ShloMosaic Idealize.ShloMosaic.TcCoe Idealize.SL.Sem
open Idealize.ShloMosaic.Pipeline (Dat)
open Cert.Proof
open Cert.ProjectReferenceIdeal.RefValue

variable (m : (ℓ : Loc nD τ sig) → Buf (Elt Ideal) ℓ)

theorem final4 (c : Dev nD) : (dats m 0 c).arrAt 4 cfg0.N = r4 (Z m c) := by
  refine (dats m 0 c).arrAt_eq_of_covers 4 _ (by decide +kernel) fun t hf y => ?_
  blk_simp
  rw [after0_4]
  idx_vars y
  obtain rfl : y0 = 0 := Subsingleton.elim _ _
  have hN : cfg0.grid.N = 128 := by decide +kernel
  have ht := t.isLt
  refine ((out4_apply _ _ _ _ y1 (linked m c t y1 ⟨t.val / 8, by omega⟩ ⟨t.val % 8 * 512 + y1.val, by omega⟩ rfl rfl) y2).trans
    (r4_apply (Z m c) _ _ y2).symm).trans (congrArg (r4 (Z m c)) ?_)
  funext a
  match a with
  | ⟨0, _⟩ => exact Fin.ext (by simp [ix3, (idx t).2.2.2.2.1])
  | ⟨1, _⟩ => exact Fin.ext (by simp [ix3, (idx t).2.2.2.2.1])
  | ⟨2, _⟩ => exact Fin.ext (by simp [ix3, (idx t).2.2.2.2.1])

theorem final5 (c : Dev nD) : (dats m 0 c).arrAt 5 cfg0.N = r5 (Z m c) := by
  refine (dats m 0 c).arrAt_eq_of_covers 5 _ (by decide +kernel) fun t hf y => ?_
  blk_simp
  rw [after0_5]
  idx_vars y
  obtain rfl : y0 = 0 := Subsingleton.elim _ _
  have hN : cfg0.grid.N = 128 := by decide +kernel
  have ht := t.isLt
  refine ((out5_apply _ _ _ _ y1 (linked m c t y1 ⟨t.val / 8, by omega⟩ ⟨t.val % 8 * 512 + y1.val, by omega⟩ rfl rfl) y2).trans
    (r5_apply (Z m c) _ _ y2).symm).trans (congrArg (r5 (Z m c)) ?_)
  funext a
  match a with
  | ⟨0, _⟩ => exact Fin.ext (by simp [ix3, (idx t).2.2.2.2.2.1])
  | ⟨1, _⟩ => exact Fin.ext (by simp [ix3, (idx t).2.2.2.2.2.1])
  | ⟨2, _⟩ => exact Fin.ext (by simp [ix3, (idx t).2.2.2.2.2.1])

theorem final6 (c : Dev nD) : (dats m 0 c).arrAt 6 cfg0.N = r6 (Z m c) := by
  refine (dats m 0 c).arrAt_eq_of_covers 6 _ (by decide +kernel) fun t hf y => ?_
  blk_simp
  rw [after0_6]
  idx_vars y
  obtain rfl : y0 = 0 := Subsingleton.elim _ _
  have hN : cfg0.grid.N = 128 := by decide +kernel
  have ht := t.isLt
  refine ((out6_apply _ _ _ _ y1 (linked m c t y1 ⟨t.val / 8, by omega⟩ ⟨t.val % 8 * 512 + y1.val, by omega⟩ rfl rfl) y2).trans
    (r6_apply (Z m c) _ _ y2).symm).trans (congrArg (r6 (Z m c)) ?_)
  funext a
  match a with
  | ⟨0, _⟩ => exact Fin.ext (by simp [ix3, (idx t).2.2.2.2.2.2.1])
  | ⟨1, _⟩ => exact Fin.ext (by simp [ix3, (idx t).2.2.2.2.2.2.1])
  | ⟨2, _⟩ => exact Fin.ext (by simp [ix3, (idx t).2.2.2.2.2.2.1])

end Cert.ProjectIdeal.RefValue

end
-- ==== Proof.ProjectKeys.lean ====
/- The input projection's result arrays, 4 to 6 of twelve: each block of 512 rows is the reference's, row by row. -/
module

public import proofs.«01_k».proof.Proof.ProjectReads

@[expose] public section

set_option maxRecDepth 16384

noncomputable section

namespace Cert.ProjectIdeal.RefValue

open Cert.ProjectIdeal Cert.ProjectIdeal.Gen Idealize.ShloMosaic Idealize.ShloMosaic.TcCoe Idealize.SL.Sem
open Idealize.ShloMosaic.Pipeline (Dat)
open Cert.Proof
open Cert.ProjectReferenceIdeal.RefValue

variable (m : (ℓ : Loc nD τ sig) → Buf (Elt Ideal) ℓ)

theorem final7 (c : Dev nD) : (dats m 0 c).arrAt 7 cfg0.N = r7 (Z m c) := by
  refine (dats m 0 c).arrAt_eq_of_covers 7 _ (by decide +kernel) fun t hf y => ?_
  blk_simp
  rw [after0_7]
  idx_vars y
  obtain rfl : y0 = 0 := Subsingleton.elim _ _
  have hN : cfg0.grid.N = 128 := by decide +kernel
  have ht := t.isLt
  refine ((out7_apply _ _ _ _ y1 (linked m c t y1 ⟨t.val / 8, by omega⟩ ⟨t.val % 8 * 512 + y1.val, by omega⟩ rfl rfl) y2).trans
    (r7_apply (Z m c) _ _ y2).symm).trans (congrArg (r7 (Z m c)) ?_)
  funext a
  match a with
  | ⟨0, _⟩ => exact Fin.ext (by simp [ix3, (idx t).2.2.2.2.2.2.2.1])
  | ⟨1, _⟩ => exact Fin.ext (by simp [ix3, (idx t).2.2.2.2.2.2.2.1])
  | ⟨2, _⟩ => exact Fin.ext (by simp [ix3, (idx t).2.2.2.2.2.2.2.1])

theorem final8 (c : Dev nD) : (dats m 0 c).arrAt 8 cfg0.N = r8 (Z m c) := by
  refine (dats m 0 c).arrAt_eq_of_covers 8 _ (by decide +kernel) fun t hf y => ?_
  blk_simp
  rw [after0_8]
  idx_vars y
  obtain rfl : y0 = 0 := Subsingleton.elim _ _
  have hN : cfg0.grid.N = 128 := by decide +kernel
  have ht := t.isLt
  refine ((out8_apply _ _ _ _ y1 (linked m c t y1 ⟨t.val / 8, by omega⟩ ⟨t.val % 8 * 512 + y1.val, by omega⟩ rfl rfl) y2).trans
    (r8_apply (Z m c) _ _ y2).symm).trans (congrArg (r8 (Z m c)) ?_)
  funext a
  match a with
  | ⟨0, _⟩ => exact Fin.ext (by simp [ix3, (idx t).2.2.2.2.2.2.2.2.1])
  | ⟨1, _⟩ => exact Fin.ext (by simp [ix3, (idx t).2.2.2.2.2.2.2.2.1])
  | ⟨2, _⟩ => exact Fin.ext (by simp [ix3, (idx t).2.2.2.2.2.2.2.2.1])

theorem final9 (c : Dev nD) : (dats m 0 c).arrAt 9 cfg0.N = r9 (Z m c) := by
  refine (dats m 0 c).arrAt_eq_of_covers 9 _ (by decide +kernel) fun t hf y => ?_
  blk_simp
  rw [after0_9]
  idx_vars y
  obtain rfl : y0 = 0 := Subsingleton.elim _ _
  have hN : cfg0.grid.N = 128 := by decide +kernel
  have ht := t.isLt
  refine ((out9_apply _ _ _ _ y1 (linked m c t y1 ⟨t.val / 8, by omega⟩ ⟨t.val % 8 * 512 + y1.val, by omega⟩ rfl rfl) y2).trans
    (r9_apply (Z m c) _ _ y2).symm).trans (congrArg (r9 (Z m c)) ?_)
  funext a
  match a with
  | ⟨0, _⟩ => exact Fin.ext (by simp [ix3, (idx t).2.2.2.2.2.2.2.2.2.1])
  | ⟨1, _⟩ => exact Fin.ext (by simp [ix3, (idx t).2.2.2.2.2.2.2.2.2.1])
  | ⟨2, _⟩ => exact Fin.ext (by simp [ix3, (idx t).2.2.2.2.2.2.2.2.2.1])

end Cert.ProjectIdeal.RefValue

end
-- ==== Proof.ProjectPlain.lean ====
/- The input projection's result arrays, 7 to 9 of twelve: each block of 512 rows is the reference's, row by row. -/
module

public import proofs.«01_k».proof.Proof.ProjectReads

@[expose] public section

set_option maxRecDepth 16384

noncomputable section

namespace Cert.ProjectIdeal.RefValue

open Cert.ProjectIdeal Cert.ProjectIdeal.Gen Idealize.ShloMosaic Idealize.ShloMosaic.TcCoe Idealize.SL.Sem
open Idealize.ShloMosaic.Pipeline (Dat)
open Cert.Proof
open Cert.ProjectReferenceIdeal.RefValue

variable (m : (ℓ : Loc nD τ sig) → Buf (Elt Ideal) ℓ)

theorem final10 (c : Dev nD) : (dats m 0 c).arrAt 10 cfg0.N = r10 (Z m c) := by
  refine (dats m 0 c).arrAt_eq_of_covers 10 _ (by decide +kernel) fun t hf y => ?_
  blk_simp
  rw [after0_10]
  idx_vars y
  obtain rfl : y0 = 0 := Subsingleton.elim _ _
  have hN : cfg0.grid.N = 128 := by decide +kernel
  have ht := t.isLt
  refine ((out10_apply _ _ _ _ y1 (linked m c t y1 ⟨t.val / 8, by omega⟩ ⟨t.val % 8 * 512 + y1.val, by omega⟩ rfl rfl) y2).trans
    (r10_apply (Z m c) _ _ y2).symm).trans (congrArg (r10 (Z m c)) ?_)
  funext a
  match a with
  | ⟨0, _⟩ => exact Fin.ext (by simp [ix3, (idx t).2.2.2.2.2.2.2.2.2.2.1])
  | ⟨1, _⟩ => exact Fin.ext (by simp [ix3, (idx t).2.2.2.2.2.2.2.2.2.2.1])
  | ⟨2, _⟩ => exact Fin.ext (by simp [ix3, (idx t).2.2.2.2.2.2.2.2.2.2.1])

theorem final11 (c : Dev nD) : (dats m 0 c).arrAt 11 cfg0.N = r11 (Z m c) := by
  refine (dats m 0 c).arrAt_eq_of_covers 11 _ (by decide +kernel) fun t hf y => ?_
  blk_simp
  rw [after0_11]
  idx_vars y
  obtain rfl : y0 = 0 := Subsingleton.elim _ _
  have hN : cfg0.grid.N = 128 := by decide +kernel
  have ht := t.isLt
  refine ((out11_apply _ _ _ _ y1 (linked m c t y1 ⟨t.val / 8, by omega⟩ ⟨t.val % 8 * 512 + y1.val, by omega⟩ rfl rfl) y2).trans
    (r11_apply (Z m c) _ _ y2).symm).trans (congrArg (r11 (Z m c)) ?_)
  funext a
  match a with
  | ⟨0, _⟩ => exact Fin.ext (by simp [ix3, (idx t).2.2.2.2.2.2.2.2.2.2.2.1])
  | ⟨1, _⟩ => exact Fin.ext (by simp [ix3, (idx t).2.2.2.2.2.2.2.2.2.2.2.1])
  | ⟨2, _⟩ => exact Fin.ext (by simp [ix3, (idx t).2.2.2.2.2.2.2.2.2.2.2.1])

theorem final12 (c : Dev nD) : (dats m 0 c).arrAt 12 cfg0.N = r12 (Z m c) := by
  refine (dats m 0 c).arrAt_eq_of_covers 12 _ (by decide +kernel) fun t hf y => ?_
  blk_simp
  rw [after0_12]
  idx_vars y
  obtain rfl : y0 = 0 := Subsingleton.elim _ _
  have hN : cfg0.grid.N = 128 := by decide +kernel
  have ht := t.isLt
  refine ((out12_apply _ _ _ _ y1 (linked m c t y1 ⟨t.val / 8, by omega⟩ ⟨t.val % 8 * 512 + y1.val, by omega⟩ rfl rfl) y2).trans
    (r12_apply (Z m c) _ _ y2).symm).trans (congrArg (r12 (Z m c)) ?_)
  funext a
  match a with
  | ⟨0, _⟩ => exact Fin.ext (by simp [ix3, (idx t).2.2.2.2.2.2.2.2.2.2.2.2.1])
  | ⟨1, _⟩ => exact Fin.ext (by simp [ix3, (idx t).2.2.2.2.2.2.2.2.2.2.2.2.1])
  | ⟨2, _⟩ => exact Fin.ext (by simp [ix3, (idx t).2.2.2.2.2.2.2.2.2.2.2.2.1])

end Cert.ProjectIdeal.RefValue

end
-- ==== Proof.ProjectValues.lean ====
/- The input projection's result arrays, 10 to 12 of twelve: each block of 512 rows is the reference's, row by row. -/
module

public import proofs.«01_k».proof.Proof.ProjectReads

@[expose] public section

set_option maxRecDepth 16384

noncomputable section

namespace Cert.ProjectIdeal.RefValue

open Cert.ProjectIdeal Cert.ProjectIdeal.Gen Idealize.ShloMosaic Idealize.ShloMosaic.TcCoe Idealize.SL.Sem
open Idealize.ShloMosaic.Pipeline (Dat)
open Cert.Proof
open Cert.ProjectReferenceIdeal.RefValue

variable (m : (ℓ : Loc nD τ sig) → Buf (Elt Ideal) ℓ)

theorem final13 (c : Dev nD) : (dats m 0 c).arrAt 13 cfg0.N = r13 (Z m c) := by
  refine (dats m 0 c).arrAt_eq_of_covers 13 _ (by decide +kernel) fun t hf y => ?_
  blk_simp
  rw [after0_13]
  idx_vars y
  obtain rfl : y0 = 0 := Subsingleton.elim _ _
  have hN : cfg0.grid.N = 128 := by decide +kernel
  have ht := t.isLt
  refine ((out13_apply _ _ _ _ y1 (linked m c t y1 ⟨t.val / 8, by omega⟩ ⟨t.val % 8 * 512 + y1.val, by omega⟩ rfl rfl) y2).trans
    (r13_apply (Z m c) _ _ y2).symm).trans (congrArg (r13 (Z m c)) ?_)
  funext a
  match a with
  | ⟨0, _⟩ => exact Fin.ext (by simp [ix3, (idx t).2.2.2.2.2.2.2.2.2.2.2.2.2.1])
  | ⟨1, _⟩ => exact Fin.ext (by simp [ix3, (idx t).2.2.2.2.2.2.2.2.2.2.2.2.2.1])
  | ⟨2, _⟩ => exact Fin.ext (by simp [ix3, (idx t).2.2.2.2.2.2.2.2.2.2.2.2.2.1])

theorem final14 (c : Dev nD) : (dats m 0 c).arrAt 14 cfg0.N = r14 (Z m c) := by
  refine (dats m 0 c).arrAt_eq_of_covers 14 _ (by decide +kernel) fun t hf y => ?_
  blk_simp
  rw [after0_14]
  idx_vars y
  obtain rfl : y0 = 0 := Subsingleton.elim _ _
  have hN : cfg0.grid.N = 128 := by decide +kernel
  have ht := t.isLt
  refine ((out14_apply _ _ _ _ y1 (linked m c t y1 ⟨t.val / 8, by omega⟩ ⟨t.val % 8 * 512 + y1.val, by omega⟩ rfl rfl) y2).trans
    (r14_apply (Z m c) _ _ y2).symm).trans (congrArg (r14 (Z m c)) ?_)
  funext a
  match a with
  | ⟨0, _⟩ => exact Fin.ext (by simp [ix3, (idx t).2.2.2.2.2.2.2.2.2.2.2.2.2.2.1])
  | ⟨1, _⟩ => exact Fin.ext (by simp [ix3, (idx t).2.2.2.2.2.2.2.2.2.2.2.2.2.2.1])
  | ⟨2, _⟩ => exact Fin.ext (by simp [ix3, (idx t).2.2.2.2.2.2.2.2.2.2.2.2.2.2.1])

theorem final15 (c : Dev nD) : (dats m 0 c).arrAt 15 cfg0.N = r15 (Z m c) := by
  refine (dats m 0 c).arrAt_eq_of_covers 15 _ (by decide +kernel) fun t hf y => ?_
  blk_simp
  rw [after0_15]
  idx_vars y
  obtain rfl : y0 = 0 := Subsingleton.elim _ _
  have hN : cfg0.grid.N = 128 := by decide +kernel
  have ht := t.isLt
  refine ((out15_apply _ _ _ _ y1 (linked m c t y1 ⟨t.val / 8, by omega⟩ ⟨t.val % 8 * 512 + y1.val, by omega⟩ rfl rfl) y2).trans
    (r15_apply (Z m c) _ _ y2).symm).trans (congrArg (r15 (Z m c)) ?_)
  funext a
  match a with
  | ⟨0, _⟩ => exact Fin.ext (by simp [ix3, (idx t).2.2.2.2.2.2.2.2.2.2.2.2.2.2.2])
  | ⟨1, _⟩ => exact Fin.ext (by simp [ix3, (idx t).2.2.2.2.2.2.2.2.2.2.2.2.2.2.2])
  | ⟨2, _⟩ => exact Fin.ext (by simp [ix3, (idx t).2.2.2.2.2.2.2.2.2.2.2.2.2.2.2])

end Cert.ProjectIdeal.RefValue

end
-- ==== Proof.ProjectValue.lean ====
/- The input projection's twelve result arrays, together. -/
module

public import proofs.«01_k».proof.Proof.ProjectQueries
public import proofs.«01_k».proof.Proof.ProjectKeys
public import proofs.«01_k».proof.Proof.ProjectPlain
public import proofs.«01_k».proof.Proof.ProjectValues
-- ==== Proof.ProjectClaims.lean ====
/- The claims about the input projection: the three frames, and that kernel and reference agree as extended reals. -/
module

public import proofs.«01_k».proof.Defs
public import proofs.«01_k».proof.Proof.Gen.Project.Frame
public import proofs.«01_k».proof.Proof.Gen.ProjectIdeal.Frame
public import proofs.«01_k».proof.Proof.Gen.ProjectReferenceIdeal
public import proofs.«01_k».proof.Proof.ProjectRun
public import proofs.«01_k».proof.Proof.ProjectValue

@[expose] public section

noncomputable section

namespace Cert.Proof.ProjectClaims

open Idealize.ShloMosaic Idealize.SL.Sem
open Cert.ProjectIdeal.RefValue (Z final4 final5 final6 final7 final8 final9 final10 final11 final12 final13 final14 final15)
open Cert.ProjectReferenceIdeal.RefValue (proj r4 r5 r6 r7 r8 r9 r10 r11 r12 r13 r14 r15)

theorem frame_kernel : Cert.quiescent_Project := fun m ρ _ => Cert.Project.Gen.frame m ρ

theorem frame_ideal : Cert.quiescent_ProjectIdeal := fun m ρ _ => Cert.ProjectIdeal.Gen.frame m ρ

theorem frame_reference : Cert.quiescent_ProjectReferenceIdeal := fun m ρ _ =>
  (θ_run Cert.ProjectReferenceIdeal.defs _ _).mono
    (fun r h => ⟨fun c => (h c).2.2.2.2.2.2.2.2.2.2.2.2, sem_eq_zero_of_no_sems (by decide) r.2⟩)
    (Cert.ProjectReferenceIdeal.RefValue.run m ρ)

theorem preserves : Cert.preserves_Project_ProjectIdeal := trivial

set_option maxHeartbeats 4000000 in
/-- Kernel and reference leave the same twelve arrays, all made from one projection. -/
theorem algebraic : Cert.algebraic_ProjectIdeal_ProjectReferenceIdeal := by
  intro m ρ m' ρ' _ hagree
  refine ⟨fun c => r4 (Z m c), fun c => r5 (Z m c), fun c => r6 (Z m c), fun c => r7 (Z m c), fun c => r8 (Z m c), fun c => r9 (Z m c),
    fun c => r10 (Z m c), fun c => r11 (Z m c), fun c => r12 (Z m c), fun c => r13 (Z m c), fun c => r14 (Z m c), fun c => r15 (Z m c), ?_, ?_⟩
  · refine (θ_run Cert.ProjectIdeal.defs _ _).mono (fun _ h c => ?_) (Cert.ProjectIdeal.Value.run_blocks (F := Ideal) m ρ)
    obtain ⟨k4, k5, k6, k7, k8, k9, k10, k11, k12, k13, k14, k15, ka⟩ := h c
    exact ⟨k4.trans (final4 m c), k5.trans (final5 m c), k6.trans (final6 m c), k7.trans (final7 m c), k8.trans (final8 m c),
      k9.trans (final9 m c), k10.trans (final10 m c), k11.trans (final11 m c), k12.trans (final12 m c),
      k13.trans (final13 m c), k14.trans (final14 m c), k15.trans (final15 m c), ka⟩
  · refine (θ_run Cert.ProjectReferenceIdeal.defs _ _).mono (fun _ h c => ?_) (Cert.ProjectReferenceIdeal.RefValue.run m' ρ')
    obtain ⟨h0, h1, h2⟩ := hagree c
    obtain ⟨k4, k5, k6, k7, k8, k9, k10, k11, k12, k13, k14, k15, ka⟩ := h c
    have hz : proj (m' ((c.tc : Thread Cert.ProjectReferenceIdeal.nD Cert.ProjectReferenceIdeal.τ).loc Cert.ProjectReferenceIdeal.main_arg0))
        (m' ((c.tc : Thread Cert.ProjectReferenceIdeal.nD Cert.ProjectReferenceIdeal.τ).loc Cert.ProjectReferenceIdeal.main_arg1))
        (m' ((c.tc : Thread Cert.ProjectReferenceIdeal.nD Cert.ProjectReferenceIdeal.τ).loc Cert.ProjectReferenceIdeal.main_arg2)) = Z m c := by
      rw [h0, h1, h2]
    exact ⟨k4.trans (congrArg r4 hz), k5.trans (congrArg r5 hz), k6.trans (congrArg r6 hz), k7.trans (congrArg r7 hz),
      k8.trans (congrArg r8 hz), k9.trans (congrArg r9 hz), k10.trans (congrArg r10 hz), k11.trans (congrArg r11 hz),
      k12.trans (congrArg r12 hz), k13.trans (congrArg r13 hz), k14.trans (congrArg r14 hz), k15.trans (congrArg r15 hz), ka⟩

end Cert.Proof.ProjectClaims

end
-- ==== Proof.lean ====
/- The certificate's claim, assembled from the claims about each call. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Ffn
public import proofs.«01_k».proof.Proof.Gen.FfnIdeal
public import proofs.«01_k».proof.Proof.Gen.FfnReferenceIdeal
public import proofs.«01_k».proof.Proof.Gen.FfnFirst
public import proofs.«01_k».proof.Proof.Gen.FfnFirstIdeal
public import proofs.«01_k».proof.Proof.Gen.FfnFirstReferenceIdeal
public import proofs.«01_k».proof.Proof.Gen.Mix
public import proofs.«01_k».proof.Proof.Gen.MixIdeal
public import proofs.«01_k».proof.Proof.Gen.MixReferenceIdeal
public import proofs.«01_k».proof.Proof.Gen.Project
public import proofs.«01_k».proof.Proof.Gen.ProjectIdeal
public import proofs.«01_k».proof.Proof.Gen.ProjectReferenceIdeal
public import proofs.«01_k».proof.Proof.AttentionFrames
public import proofs.«01_k».proof.Proof.AttentionClaims
public import proofs.«01_k».proof.Proof.FfnClaims
public import proofs.«01_k».proof.Proof.FfnFirstClaims
public import proofs.«01_k».proof.Proof.MixClaims
public import proofs.«01_k».proof.Proof.ProjectClaims
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.FfnFirst.Gen.facts, Cert.FfnFirstIdeal.Gen.facts,
    Cert.FfnFirstReferenceIdeal.Gen.facts, Cert.Mix.Gen.facts, Cert.MixIdeal.Gen.facts, Cert.MixReferenceIdeal.Gen.facts,
    Cert.Project.Gen.facts, Cert.ProjectIdeal.Gen.facts, Cert.ProjectReferenceIdeal.Gen.facts,
    AttentionFrames.frame_kernel, AttentionFrames.frame_ideal, AttentionFrames.frame_reference,
    FfnClaims.frame_kernel, FfnClaims.frame_ideal, FfnClaims.frame_reference,
    FfnFirstClaims.frame_kernel, FfnFirstClaims.frame_ideal, FfnFirstClaims.frame_reference,
    MixClaims.frame_kernel, MixClaims.frame_ideal, MixClaims.frame_reference,
    ProjectClaims.frame_kernel, ProjectClaims.frame_ideal, ProjectClaims.frame_reference,
    AttentionFrames.preserves, AttentionClaims.algebraic, FfnClaims.preserves, FfnClaims.algebraic,
    FfnFirstClaims.preserves, FfnFirstClaims.algebraic, MixClaims.preserves, MixClaims.algebraic,
    ProjectClaims.preserves, ProjectClaims.algebraic⟩

end Cert.Proof

end
